-- ==== Defs.lean ====
def Pre_Kernel [hPre_rows_exist : Cert.Pre_rows_exist.Facts] (m : (ℓ : Loc Cert.Kernel.nD Cert.Kernel.τ Cert.Kernel.sig) → Buf (Elt Bits) ℓ) : Prop :=
  ∀ c : Dev Cert.Kernel.nD,
    (Cert.Pre_rows_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_rows_exist : Cert.Pre_rows_exist.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_exist [hPre_rows_exist : Cert.Pre_rows_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_finite [hPre_finite : Cert.Pre_finite.Facts] (m : (ℓ : Loc Cert.SelectIdeal.nD Cert.SelectIdeal.τ Cert.SelectIdeal.sig) → Buf (Elt Ideal) ℓ) : Prop :=
  ∀ c : Dev Cert.SelectIdeal.nD,
    (Cert.Pre_finite.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_finite [hPre_finite : Cert.Pre_finite.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_finite.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3))) = (fun _ => 1#1)

def quiescent_Kernel [hKernel : Cert.Kernel.Facts] [hPre_rows_exist : Cert.Pre_rows_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_rows_exist [hReferenceIdeal : Cert.ReferenceIdeal.Facts] [hPre_rows_exist : Cert.Pre_rows_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2)
      ∧ r.2.mem ((c.tc : Thread Cert.Select.nD Cert.Select.τ).loc Cert.Select.main_arg3) = m ((c.tc : Thread Cert.Select.nD Cert.Select.τ).loc Cert.Select.main_arg3))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectIdeal_pre_finite [hSelectIdeal : Cert.SelectIdeal.Facts] [hPre_finite : Cert.Pre_finite.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_finite m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3))
      ∧ r.2.sem = fun _ => 0)

def quiescent_SelectReferenceIdeal_pre_finite [hSelectReferenceIdeal : Cert.SelectReferenceIdeal.Facts] [hPre_finite : Cert.Pre_finite.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_finite m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Select_SelectIdeal : Prop :=
  IdealRules.named_const.Statement Cert.SelectIdeal.κ "big" .f32 0x7F61B1E6#32 ⊤

def algebraic_SelectIdeal_SelectReferenceIdeal_pre_finite [hSelectIdeal : Cert.SelectIdeal.Facts] [hSelectReferenceIdeal : Cert.SelectReferenceIdeal.Facts] [hPre_finite : Cert.Pre_finite.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_finite m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)
      ∧ m' ((c.tc : Thread Cert.SelectReferenceIdeal.nD Cert.SelectReferenceIdeal.τ).loc Cert.SelectReferenceIdeal.main_arg3) = m ((c.tc : Thread Cert.SelectIdeal.nD Cert.SelectIdeal.τ).loc Cert.SelectIdeal.main_arg3)) →
    ∃ (v0 : (c : Dev Cert.SelectIdeal.nD) → Buf (Elt Ideal) ((c.tc : Thread Cert.SelectIdeal.nD Cert.SelectIdeal.τ).loc Cert.SelectIdeal.main_v6_0)) (v1 : (c : Dev Cert.SelectIdeal.nD) → Buf (Elt Ideal) ((c.tc : Thread Cert.SelectIdeal.nD Cert.SelectIdeal.τ).loc Cert.SelectIdeal.main_v6_1)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v6_0) = v0 c
          ∧ r.2.mem ((c.tc : Thread Cert.SelectIdeal.nD Cert.SelectIdeal.τ).loc Cert.SelectIdeal.main_v6_1) = v1 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
          ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v111) = v0 c
          ∧ r.2.mem ((c.tc : Thread Cert.SelectReferenceIdeal.nD Cert.SelectReferenceIdeal.τ).loc Cert.SelectReferenceIdeal.main_v113) = v1 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2)
          ∧ r.2.mem ((c.tc : Thread Cert.SelectReferenceIdeal.nD Cert.SelectReferenceIdeal.τ).loc Cert.SelectReferenceIdeal.main_arg3) = m' ((c.tc : Thread Cert.SelectReferenceIdeal.nD Cert.SelectReferenceIdeal.τ).loc Cert.SelectReferenceIdeal.main_arg3))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hSelectReferenceIdeal : Cert.SelectReferenceIdeal.Facts) (hPre_rows_exist : Cert.Pre_rows_exist.Facts) (hPre_finite : Cert.Pre_finite.Facts),
    quiescent_Kernel (hKernel := hKernel) (hPre_rows_exist := hPre_rows_exist)
    ∧ quiescent_KernelIdeal (hKernelIdeal := hKernelIdeal) (hPre_rows_exist := hPre_rows_exist)
    ∧ quiescent_ReferenceIdeal (hReferenceIdeal := hReferenceIdeal)
    ∧ quiescent_ReferenceIdeal_pre_rows_exist (hReferenceIdeal := hReferenceIdeal) (hPre_rows_exist := hPre_rows_exist)
    ∧ quiescent_Select (hSelect := hSelect)
    ∧ quiescent_SelectIdeal (hSelectIdeal := hSelectIdeal)
    ∧ quiescent_SelectIdeal_pre_finite (hSelectIdeal := hSelectIdeal) (hPre_finite := hPre_finite)
    ∧ quiescent_SelectReferenceIdeal (hSelectReferenceIdeal := hSelectReferenceIdeal)
    ∧ quiescent_SelectReferenceIdeal_pre_finite (hSelectReferenceIdeal := hSelectReferenceIdeal) (hPre_finite := hPre_finite)
    ∧ preserves_Kernel_KernelIdeal
    ∧ algebraic_KernelIdeal_ReferenceIdeal (hKernelIdeal := hKernelIdeal) (hReferenceIdeal := hReferenceIdeal) (hPre_rows_exist := hPre_rows_exist)
    ∧ preserves_Select_SelectIdeal
    ∧ algebraic_SelectIdeal_SelectReferenceIdeal_pre_finite (hSelectIdeal := hSelectIdeal) (hSelectReferenceIdeal := hSelectReferenceIdeal) (hPre_finite := hPre_finite)
-- ==== Pre_finite.lean ====
abbrev S2x2048x1024 : Shape := ⟨3, ![2, 2048, 1024]⟩
abbrev S2x4x256x128 : Shape := ⟨4, ![2, 4, 256, 128]⟩
abbrev S1024x1024 : Shape := ⟨2, ![1024, 1024]⟩
abbrev S1024 : Shape := ⟨1, ![1024]⟩
abbrev S_ : Shape := ⟨0, ![]⟩

class Facts : Prop where
  bcast_S_S2x4x256x128 : S_.BroadcastsInDim S2x4x256x128 (![] : Fin 0 → Fin S2x4x256x128.rank)
  reducesTo_S2x4x256x128_S_d0_1_2_3 : S2x4x256x128.ReducesTo [0, 1, 2, 3] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S2x2048x1024 .f32) (main_arg1 : FVec F S2x4x256x128 .f32) (main_arg2 : FVec F S1024x1024 .f32) (main_arg3 : FVec F S1024 .f32) : IVec S_ 1 :=
  let main_v0 : FVec F S2x4x256x128 .f32 := Host.absf main_arg1
  let main_cst : FVec F S_ .f32 := constant S_ .f32 0x7F800000#32
  let main_v1 : FVec F S2x4x256x128 .f32 := broadcastInDim S2x4x256x128 ![] bcast_S_S2x4x256x128 main_cst
  let main_v2 : IVec S2x4x256x128 1 := cmpf .olt main_v0 main_v1
  let main_c : IVec S_ 1 := constantI S_ 1 1#1
  let main_v3 : IVec S_ 1 := (fun x v => Host.reduce IntOp.andi x v reducesTo_S2x4x256x128_S_d0_1_2_3 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_rows_exist.lean ====
abbrev S2x2048x1024 : Shape := ⟨3, ![2, 2048, 1024]⟩
abbrev S65536x4x128 : Shape := ⟨3, ![65536, 4, 128]⟩
abbrev S32x4096 : Shape := ⟨2, ![32, 4096]⟩
abbrev S1024x1 : Shape := ⟨2, ![1024, 1]⟩
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S_ : Shape := ⟨0, ![]⟩

class Facts : Prop where
  bcast_S_S32x4096 : S_.BroadcastsInDim S32x4096 (![] : Fin 0 → Fin S32x4096.rank)

variable [Facts]

def fn {F : FTy → Type} [FloatOps F] (main_arg0 : FVec F S2x2048x1024 .f32) (main_arg1 : FVec F S65536x4x128 .f32) (main_arg2 : IVec S32x4096 32) (main_arg3 : FVec F S32x4096 .f32) (main_arg4 : FVec F S1024x1 .f32) (main_arg5 : FVec F S1024x512 .f32) (main_arg6 : FVec F S512x1024 .f32) (main_arg7 : FVec F S1024 .f32) (main_arg8 : FVec F S1024 .f32) (main_arg9 : FVec F S512 .f32) : IVec S32x4096 1 :=
  let main_c : IVec S_ 32 := constantI S_ 32 0#32
  let main_v0 : IVec S32x4096 32 := broadcastInDim S32x4096 ![] bcast_S_S32x4096 main_c
  let main_v1 : IVec S32x4096 1 := cmpi .sge main_arg2 main_v0
  let main_c_0 : IVec S_ 32 := constantI S_ 32 262144#32
  let main_v2 : IVec S32x4096 32 := broadcastInDim S32x4096 ![] bcast_S_S32x4096 main_c_0
  let main_v3 : IVec S32x4096 1 := cmpi .slt main_arg2 main_v2
  let main_v4 : IVec S32x4096 1 := andi main_v1 main_v3
  main_v4
-- ==== Kernel.lean ====
abbrev S2x2048x1024 : Shape := ⟨3, ![2, 2048, 1024]⟩
abbrev S65536x4x128 : Shape := ⟨3, ![65536, 4, 128]⟩
abbrev S32x4096 : Shape := ⟨2, ![32, 4096]⟩
abbrev S1024x1 : Shape := ⟨2, ![1024, 1]⟩
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S4096x1024 : Shape := ⟨2, ![4096, 1024]⟩
abbrev S262144x128 : Shape := ⟨2, ![262144, 128]⟩
abbrev S1x1024 : Shape := ⟨2, ![1, 1024]⟩
abbrev S4096x512 : Shape := ⟨2, ![4096, 512]⟩
abbrev S4096x1 : Shape := ⟨2, ![4096, 1]⟩
abbrev S512x512 : Shape := ⟨2, ![512, 512]⟩
abbrev S512x1 : Shape := ⟨2, ![512, 1]⟩
abbrev S512x128 : Shape := ⟨2, ![512, 128]⟩
abbrev S32x32x128 : Shape := ⟨3, ![32, 32, 128]⟩
abbrev S131072x128 : Shape := ⟨2, ![131072, 128]⟩
abbrev S32x128 : Shape := ⟨2, ![32, 128]⟩
abbrev S3x128x128 : Shape := ⟨3, ![3, 128, 128]⟩
abbrev S_ : Shape := ⟨0, ![]⟩
abbrev S1x32x128 : Shape := ⟨3, ![1, 32, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S32x4096x128 : Shape := ⟨3, ![32, 4096, 128]⟩
abbrev S1x512 : Shape := ⟨2, ![1, 512]⟩
abbrev S32x512x128 : Shape := ⟨3, ![32, 512, 128]⟩
abbrev S32x512 : Shape := ⟨2, ![32, 512]⟩
abbrev S512x32 : Shape := ⟨2, ![512, 32]⟩
abbrev S1x512x128 : Shape := ⟨3, ![1, 512, 128]⟩

abbrev nBuf : Table → Nat
  | .hbm => 21
  | .local .tc .vmem => 22
  | .local .scVector .vmem => 2
  | _ => 0

abbrev bufTy : (tb : Table) → Fin (nBuf tb) → BufTy
  | .hbm, ⟨0, _⟩ => ⟨S2x2048x1024, .f32⟩
  | .hbm, ⟨1, _⟩ => ⟨S65536x4x128, .f32⟩
  | .hbm, ⟨2, _⟩ => ⟨S32x4096, .i32⟩
  | .hbm, ⟨3, _⟩ => ⟨S32x4096, .f32⟩
  | .hbm, ⟨4, _⟩ => ⟨S1024x1, .f32⟩
  | .hbm, ⟨5, _⟩ => ⟨S1024x512, .f32⟩
  | .hbm, ⟨6, _⟩ => ⟨S512x1024, .f32⟩
  | .hbm, ⟨7, _⟩ => ⟨S1024, .f32⟩
  | .hbm, ⟨8, _⟩ => ⟨S1024, .f32⟩
  | .hbm, ⟨9, _⟩ => ⟨S512, .f32⟩
  | .hbm, ⟨10, _⟩ => ⟨S4096x1024, .f32⟩
  | .hbm, ⟨11, _⟩ => ⟨S262144x128, .f32⟩
  | .hbm, ⟨12, _⟩ => ⟨S1x1024, .f32⟩
  | .hbm, ⟨13, _⟩ => ⟨S1x1024, .f32⟩
  | .hbm, ⟨14, _⟩ => ⟨S4096x512, .f32⟩
  | .hbm, ⟨15, _⟩ => ⟨S4096x1, .f32⟩
  | .hbm, ⟨16, _⟩ => ⟨S32x32x128, .i32⟩
  | .hbm, ⟨17, _⟩ => ⟨S131072x128, .f32⟩
  | .hbm, ⟨18, _⟩ => ⟨S32x4096x128, .f32⟩
  | .hbm, ⟨19, _⟩ => ⟨S1x512, .f32⟩
  | .hbm, ⟨20, _⟩ => ⟨S4096x1024, .f32⟩
  | .local .tc .vmem, ⟨0, _⟩ => ⟨S512x1024, .f32⟩
  | .local .tc .vmem, ⟨1, _⟩ => ⟨S512x1024, .f32⟩
  | .local .tc .vmem, ⟨2, _⟩ => ⟨S1024x1, .f32⟩
  | .local .tc .vmem, ⟨3, _⟩ => ⟨S1024x512, .f32⟩
  | .local .tc .vmem, ⟨4, _⟩ => ⟨S1x1024, .f32⟩
  | .local .tc .vmem, ⟨5, _⟩ => ⟨S1x1024, .f32⟩
  | .local .tc .vmem, ⟨6, _⟩ => ⟨S512x512, .f32⟩
  | .local .tc .vmem, ⟨7, _⟩ => ⟨S512x512, .f32⟩
  | .local .tc .vmem, ⟨8, _⟩ => ⟨S512x1, .f32⟩
  | .local .tc .vmem, ⟨9, _⟩ => ⟨S512x1, .f32⟩
  | .local .tc .vmem, ⟨10, _⟩ => ⟨S32x512x128, .f32⟩
  | .local .tc .vmem, ⟨11, _⟩ => ⟨S32x512x128, .f32⟩
  | .local .tc .vmem, ⟨12, _⟩ => ⟨S32x512, .f32⟩
  | .local .tc .vmem, ⟨13, _⟩ => ⟨S32x512, .f32⟩
  | .local .tc .vmem, ⟨14, _⟩ => ⟨S512x512, .f32⟩
  | .local .tc .vmem, ⟨15, _⟩ => ⟨S512x512, .f32⟩
  | .local .tc .vmem, ⟨16, _⟩ => ⟨S512x1, .f32⟩
  | .local .tc .vmem, ⟨17, _⟩ => ⟨S512x1, .f32⟩
  | .local .tc .vmem, ⟨18, _⟩ => ⟨S512x1024, .f32⟩
  | .local .tc .vmem, ⟨19, _⟩ => ⟨S1x512, .f32⟩
  | .local .tc .vmem, ⟨20, _⟩ => ⟨S512x1024, .f32⟩
  | .local .tc .vmem, ⟨21, _⟩ => ⟨S512x1024, .f32⟩
  | .local .scVector .vmem, ⟨0, _⟩ => ⟨S32x128, .i32⟩
  | .local .scVector .vmem, ⟨1, _⟩ => ⟨S3x128x128, .f32⟩
  | _, _ => ⟨S2x2048x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTables nBuf rfl bufTy 4 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v1_scv : Ref sig .scVector := ⟨.hbm, 11, rfl⟩
abbrev main_v5_scv : Ref sig .scVector := ⟨.hbm, 16, rfl⟩
abbrev main_v6_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem6_1 : DmaSem sig := 28
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_866_r0 : BitVec 32 := 0#32
  let c0_i32_867_r0 : BitVec 32 := 0#32
  ![v1.toNat, 0, 0]
def k1_off2 (i : grid1.Coords) (c0_i32_26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v23 : BitVec 32 := Scalar.addi v2 c0_i32_26
  let c0_i32_30 : BitVec 32 := 0#32
  ![v23.toNat, 0]
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S32x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S32x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S512x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x2048x1024 : Shape := ⟨3, ![2, 2048, 1024]⟩
abbrev S65536x4x128 : Shape := ⟨3, ![65536, 4, 128]⟩
abbrev S32x4096 : Shape := ⟨2, ![32, 4096]⟩
abbrev S1024x1 : Shape := ⟨2, ![1024, 1]⟩
abbrev S1024x512 : Shape := ⟨2, ![1024, 512]⟩
abbrev S512x1024 : Shape := ⟨2, ![512, 1024]⟩
abbrev S1024 : Shape := ⟨1, ![1024]⟩
abbrev S512 : Shape := ⟨1, ![512]⟩
abbrev S4096x1024 : Shape := ⟨2, ![4096, 1024]⟩
abbrev S262144x128 : Shape := ⟨2, ![262144, 128]⟩
abbrev S_ : Shape := ⟨0, ![]⟩
abbrev S32x4096x1 : Shape := ⟨3, ![32, 4096, 1]⟩
abbrev S32x4096x128 : Shape := ⟨3, ![32, 4096, 128]⟩
abbrev S4x8x4096x128 : Shape := ⟨4, ![4, 8, 4096, 128]⟩
abbrev S4x8x4096 : Shape := ⟨3, ![4, 8, 4096]⟩
abbrev S4096x4x128 : Shape := ⟨3, ![4096, 4, 128]⟩
abbrev S4096 : Shape := ⟨1, ![4096]⟩
abbrev S4096x1 : Shape := ⟨2, ![4096, 1]⟩
abbrev S1x1024 : Shape := ⟨2, ![1, 1024]⟩
abbrev S4096x1x1 : Shape := ⟨3, ![4096, 1, 1]⟩
abbrev S4096x512 : Shape := ⟨2, ![4096, 512]⟩
abbrev S4096x4 : Shape := ⟨2, ![4096, 4]⟩
abbrev S4096x4x1 : Shape := ⟨3, ![4096, 4, 1]⟩
abbrev S1x512 : Shape := ⟨2, ![1, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S65536x4x128, .f32⟩
  | .hbm, ⟨2, _⟩ => ⟨S32x4096, .i32⟩
  | .hbm, ⟨3, _⟩ => ⟨S32x4096, .f32⟩
  | .hbm, ⟨4, _⟩ => ⟨S1024x1, .f32⟩
  | .hbm, ⟨5, _⟩ => ⟨S1024x512, .f32⟩
  | .hbm, ⟨6, _⟩ => ⟨S512x1024, .f32⟩
  | .hbm, ⟨7, _⟩ => ⟨S1024, .f32⟩
  | .hbm, ⟨8, _⟩ => ⟨S1024, .f32⟩
  | .hbm, ⟨9, _⟩ => ⟨S512, .f32⟩
  | .hbm, ⟨10, _⟩ => ⟨S4096x1024, .f32⟩
  | .hbm, ⟨11, _⟩ => ⟨S262144x128, .f32⟩
  | .hbm, ⟨12, _⟩ => ⟨S_, .i32⟩
  | .hbm, ⟨13, _⟩ => ⟨S32x4096, .i32⟩
  | .hbm, ⟨14, _⟩ => ⟨S32x4096, .i1⟩
  | .hbm, ⟨15, _⟩ => ⟨S_, .i32⟩
  | .hbm, ⟨16, _⟩ => ⟨S32x4096, .i32⟩
  | .hbm, ⟨17, _⟩ => ⟨S32x4096, .i32⟩
  | .hbm, ⟨18, _⟩ => ⟨S32x4096, .i32⟩
  | .hbm, ⟨19, _⟩ => ⟨S32x4096x1, .i32⟩
  | .hbm, ⟨20, _⟩ => ⟨S32x4096x128, .f32⟩
  | .hbm, ⟨21, _⟩ => ⟨S4x8x4096x128, .f32⟩
  | .hbm, ⟨22, _⟩ => ⟨S4x8x4096, .f32⟩
  | .hbm, ⟨23, _⟩ => ⟨S4096x4x128, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S4096x1x1, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x512, .f32⟩
  | .hbm, ⟨67, _⟩ => ⟨S4096x4x128, .f32⟩
  | .hbm, ⟨68, _⟩ => ⟨S_, .f32⟩
  | .hbm, ⟨69, _⟩ => ⟨S4096x4, .f32⟩
  | .hbm, ⟨70, _⟩ => ⟨S4096x4x1, .f32⟩
  | .hbm, ⟨71, _⟩ => ⟨S_, .f32⟩
  | .hbm, ⟨72, _⟩ => ⟨S4096x4x1, .f32⟩
  | .hbm, ⟨73, _⟩ => ⟨S4096x4x1, .f32⟩
  | .hbm, ⟨74, _⟩ => ⟨S_, .i32⟩
  | .hbm, ⟨75, _⟩ => ⟨S_, .f32⟩
  | .hbm, ⟨76, _⟩ => ⟨S4096x4, .f32⟩
  | .hbm, ⟨77, _⟩ => ⟨S4096x4x1, .f32⟩
  | .hbm, ⟨78, _⟩ => ⟨S_, .f32⟩
  | .hbm, ⟨79, _⟩ => ⟨S4096x4x1, .f32⟩
  | .hbm, ⟨80, _⟩ => ⟨S4096x4x1, .f32⟩
  | .hbm, ⟨81, _⟩ => ⟨S4096x4x128, .f32⟩
  | .hbm, ⟨82, _⟩ => ⟨S4096x4x128, .f32⟩
  | .hbm, ⟨83, _⟩ => ⟨S4096x4x128, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4096x4, .f32⟩
  | .hbm, ⟨89, _⟩ => ⟨S4096x4x1, .f32⟩
  | .hbm, ⟨90, _⟩ => ⟨S4096x4x1, .f32⟩
  | .hbm, ⟨91, _⟩ => ⟨S4096x4x1, .f32⟩
  | .hbm, ⟨92, _⟩ => ⟨S_, .f32⟩
  | .hbm, ⟨93, _⟩ => ⟨S_, .i1⟩
  | .hbm, ⟨94, _⟩ => ⟨S_, .f32⟩
  | .hbm, ⟨95, _⟩ => ⟨S_, .f32⟩
  | .hbm, ⟨96, _⟩ => ⟨S4096x4x1, .f32⟩
  | .hbm, ⟨97, _⟩ => ⟨S4096x4x1, .f32⟩
  | .hbm, ⟨98, _⟩ => ⟨S4096x4x1, .f32⟩
  | .hbm, ⟨99, _⟩ => ⟨S4096x4x128, .f32⟩
  | .hbm, ⟨100, _⟩ => ⟨S4096x4x128, .f32⟩
  | .hbm, ⟨101, _⟩ => ⟨S_, .f32⟩
  | .hbm, ⟨102, _⟩ => ⟨S4096x4x1, .f32⟩
  | .hbm, ⟨103, _⟩ => ⟨S4096x4x1, .f32⟩
  | .hbm, ⟨104, _⟩ => ⟨S4096x4x128, .f32⟩
  | .hbm, ⟨105, _⟩ => ⟨S4096x4x128, .f32⟩
  | .hbm, ⟨106, _⟩ => ⟨S4096x4x128, .f32⟩
  | .hbm, ⟨107, _⟩ => ⟨S4096x4x128, .f32⟩
  | .hbm, ⟨108, _⟩ => ⟨S4096x4x128, .f32⟩
  | .hbm, ⟨109, _⟩ => ⟨S4096x4x128, .f32⟩
  | .hbm, ⟨110, _⟩ => ⟨S4096x512, .f32⟩
  | .hbm, ⟨111, _⟩ => ⟨S4096x512, .f32⟩
  | .hbm, ⟨112, _⟩ => ⟨S_, .f32⟩
  | .hbm, ⟨113, _⟩ => ⟨S4096, .f32⟩
  | .hbm, ⟨114, _⟩ => ⟨S4096x1, .f32⟩
  | .hbm, ⟨115, _⟩ => ⟨S_, .f32⟩
  | .hbm, ⟨116, _⟩ => ⟨S4096x1, .f32⟩
  | .hbm, ⟨117, _⟩ => ⟨S4096x1, .f32⟩
  | .hbm, ⟨118, _⟩ => ⟨S_, .f32⟩
  | .hbm, ⟨119, _⟩ => ⟨S4096x1, .f32⟩
  | .hbm, ⟨120, _⟩ => ⟨S4096x1, .f32⟩
  | .hbm, ⟨121, _⟩ => ⟨S4096x1, .f32⟩
  | .hbm, ⟨122, _⟩ => ⟨S4096x512, .f32⟩
  | .hbm, ⟨123, _⟩ => ⟨S4096x512, .f32⟩
  | .hbm, ⟨124, _⟩ => ⟨S1x512, .f32⟩
  | .hbm, ⟨125, _⟩ => ⟨S4096x512, .f32⟩
  | .hbm, ⟨126, _⟩ => ⟨S4096x512, .f32⟩
  | .hbm, ⟨127, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_call0_call0_cst : Ref sig .tc := ⟨.hbm, 75, rfl⟩
abbrev main_call0_call0_v0 : Ref sig .tc := ⟨.hbm, 76, rfl⟩
abbrev main_call0_call0_v1 : Ref sig .tc := ⟨.hbm, 77, rfl⟩
abbrev main_call0_call0_cst_0 : Ref sig .tc := ⟨.hbm, 78, rfl⟩
abbrev main_call0_call0_v2 : Ref sig .tc := ⟨.hbm, 79, rfl⟩
abbrev main_call0_call0_v3 : Ref sig .tc := ⟨.hbm, 80, rfl⟩
abbrev main_call0_call0_v4 : Ref sig .tc := ⟨.hbm, 81, rfl⟩
abbrev main_call0_call0_v5 : Ref sig .tc := ⟨.hbm, 82, rfl⟩
abbrev main_call0_call0_v6 : Ref sig .tc := ⟨.hbm, 83, rfl⟩
abbrev main_call0_call0_v7 : Ref sig .tc := ⟨.hbm, 84, rfl⟩
abbrev main_call0_call0_cst_1 : Ref sig .tc := ⟨.hbm, 85, rfl⟩
abbrev main_call0_call0_v8 : Ref sig .tc := ⟨.hbm, 86, rfl⟩
abbrev main_call0_call0_cst_2 : Ref sig .tc := ⟨.hbm, 87, rfl⟩
abbrev main_call0_call0_v9 : Ref sig .tc := ⟨.hbm, 88, rfl⟩
abbrev main_call0_call0_v10 : Ref sig .tc := ⟨.hbm, 89, rfl⟩
abbrev main_call0_call0_v11 : Ref sig .tc := ⟨.hbm, 90, rfl⟩
abbrev main_call0_call0_v12 : Ref sig .tc := ⟨.hbm, 91, rfl⟩
abbrev main_call0_call0_cst_3 : Ref sig .tc := ⟨.hbm, 92, rfl⟩
abbrev main_call0_call0_v13 : Ref sig .tc := ⟨.hbm, 93, rfl⟩
abbrev main_call0_call0_cst_4 : Ref sig .tc := ⟨.hbm, 94, rfl⟩
abbrev main_call0_call0_call0_v0 : Ref sig .tc := ⟨.hbm, 95, rfl⟩
abbrev main_call0_call0_call0_v1 : Ref sig .tc := ⟨.hbm, 96, rfl⟩
abbrev main_call0_v0 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_cst_11 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_v65 : Ref sig .tc := ⟨.hbm, 113, rfl⟩
abbrev main_v66 : Ref sig .tc := ⟨.hbm, 114, rfl⟩
abbrev main_cst_13 : Ref sig .tc := ⟨.hbm, 115, rfl⟩
abbrev main_v67 : Ref sig .tc := ⟨.hbm, 116, rfl⟩
abbrev main_v68 : Ref sig .tc := ⟨.hbm, 117, rfl⟩
abbrev main_cst_14 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩

abbrev nD : Nat := 1
abbrev τ : Topo := Topo.v7x

variable {F : FTy → Type} [FloatOps F]
-- ==== Select.lean ====
abbrev S2x2048x1024 : Shape := ⟨3, ![2, 2048, 1024]⟩
abbrev S2x4x256x128 : Shape := ⟨4, ![2, 4, 256, 128]⟩
abbrev S1024x1024 : Shape := ⟨2, ![1024, 1024]⟩
abbrev S1024 : Shape := ⟨1, ![1024]⟩
abbrev S4096x1024 : Shape := ⟨2, ![4096, 1024]⟩
abbrev S1x4x256x128 : Shape := ⟨4, ![1, 4, 256, 128]⟩
abbrev S4x256x128 : Shape := ⟨3, ![4, 256, 128]⟩
abbrev S1x1024 : Shape := ⟨2, ![1, 1024]⟩
abbrev S32x4096 : Shape := ⟨2, ![32, 4096]⟩
abbrev S512x1024 : Shape := ⟨2, ![512, 1024]⟩
abbrev S32x512 : Shape := ⟨2, ![32, 512]⟩
abbrev S512 : Shape := ⟨1, ![512]⟩
abbrev S512x1 : Shape := ⟨2, ![512, 1]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S256 : Shape := ⟨1, ![256]⟩
abbrev S1x256 : Shape := ⟨2, ![1, 256]⟩
abbrev S256x512 : Shape := ⟨2, ![256, 512]⟩
abbrev S256x4096 : Shape := ⟨2, ![256, 4096]⟩
abbrev S4096 : Shape := ⟨1, ![4096]⟩
abbrev S1x4096 : Shape := ⟨2, ![1, 4096]⟩
abbrev S8x4096 : Shape := ⟨2, ![8, 4096]⟩
abbrev S8x2048 : Shape := ⟨2, ![8, 2048]⟩
abbrev S1x2048 : Shape := ⟨2, ![1, 2048]⟩
abbrev S64x2048 : Shape := ⟨2, ![64, 2048]⟩
abbrev S2048 : Shape := ⟨1, ![2048]⟩
abbrev S8x512 : Shape := ⟨2, ![8, 512]⟩

abbrev nBuf : Space → Nat
  | .hbm => 12
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x4x256x128, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S1x4x256x128, .f32⟩
  | .hbm, ⟨6, _⟩ => ⟨S4x256x128, .f32⟩
  | .hbm, ⟨7, _⟩ => ⟨S1x4x256x128, .f32⟩
  | .hbm, ⟨8, _⟩ => ⟨S4x256x128, .f32⟩
  | .hbm, ⟨9, _⟩ => ⟨S1x1024, .f32⟩
  | .hbm, ⟨10, _⟩ => ⟨S32x4096, .i32⟩
  | .hbm, ⟨11, _⟩ => ⟨S32x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S4x256x128, .f32⟩
  | .local _ .vmem, ⟨5, _⟩ => ⟨S4x256x128, .f32⟩
  | .local _ .vmem, ⟨6, _⟩ => ⟨S32x512, .i32⟩
  | .local _ .vmem, ⟨7, _⟩ => ⟨S32x512, .i32⟩
  | .local _ .vmem, ⟨8, _⟩ => ⟨S32x512, .f32⟩
  | .local _ .vmem, ⟨9, _⟩ => ⟨S32x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SelectIdeal.lean ====
variable {F : FTy → Type} [FloatOps F] [Named F]
def κ : String → Option EReal := fun
  | "big" => some ⊤
  | _ => none
-- ==== SelectReferenceIdeal.lean ====
abbrev S2x2048x1024 : Shape := ⟨3, ![2, 2048, 1024]⟩
abbrev S2x4x256x128 : Shape := ⟨4, ![2, 4, 256, 128]⟩
abbrev S1024x1024 : Shape := ⟨2, ![1024, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2x4x128 : Shape := ⟨4, ![4096, 2, 4, 128]⟩
abbrev S4096x1x4x128 : Shape := ⟨4, ![4096, 1, 4, 128]⟩
abbrev S4096x4x128 : Shape := ⟨3, ![4096, 4, 128]⟩
abbrev S1x4x256x128 : Shape := ⟨4, ![1, 4, 256, 128]⟩
abbrev S4x256x128 : Shape := ⟨3, ![4, 256, 128]⟩
abbrev S4096x4 : Shape := ⟨2, ![4096, 4]⟩
abbrev S4096x4x1 : Shape := ⟨3, ![4096, 4, 1]⟩
abbrev S4x256 : Shape := ⟨2, ![4, 256]⟩
abbrev S4x256x4096 : Shape := ⟨3, ![4, 256, 4096]⟩
abbrev S4096x4x256 : Shape := ⟨3, ![4096, 4, 256]⟩
abbrev S1x4x256 : Shape := ⟨3, ![1, 4, 256]⟩
abbrev S4096x4x8 : Shape := ⟨3, ![4096, 4, 8]⟩
abbrev S4096x4x8x1 : Shape := ⟨4, ![4096, 4, 8, 1]⟩
abbrev S1 : Shape := ⟨1, ![1]⟩
abbrev S1x1x1x1 : Shape := ⟨4, ![1, 1, 1, 1]⟩
abbrev S4096x4x1x8 : Shape := ⟨4, ![4096, 4, 1, 8]⟩
abbrev S4096x4x8x8 : Shape := ⟨4, ![4096, 4, 8, 8]⟩
abbrev S4096x4x64 : Shape := ⟨3, ![4096, 4, 64]⟩
abbrev S4 : Shape := ⟨1, ![4]⟩
abbrev S1x4x1 : Shape := ⟨3, ![1, 4, 1]⟩
abbrev S4096x32 : Shape := ⟨2, ![4096, 32]⟩
abbrev S32x4096 : Shape := ⟨2, ![32, 4096]⟩

abbrev nBuf : Space → Nat
  | .hbm => 268
  | .vmem => 0
  | .smem => 0
  | _ => 0

abbrev hbmTy0_0 (i : Nat) : BufTy := match i % 128 with
  | 0 => ⟨S2x2048x1024, .f32⟩
  | 1 => ⟨S2x4x256x128, .f32⟩
  | 2 => ⟨S1024x1024, .f32⟩
  | 3 => ⟨S1024, .f32⟩
  | 4 => ⟨S4096x1024, .f32⟩
  | 5 => ⟨S4096x1024, .f32⟩
  | 6 => ⟨S_, .f32⟩
  | 7 => ⟨S4096, .f32⟩
  | 8 => ⟨S4096x1, .f32⟩
  | 9 => ⟨S_, .f32⟩
  | 10 => ⟨S4096x1, .f32⟩
  | 11 => ⟨S4096x1, .f32⟩
  | 12 => ⟨S_, .f32⟩
  | 13 => ⟨S4096x1, .f32⟩
  | 14 => ⟨S4096x1, .f32⟩
  | 15 => ⟨S4096x1, .f32⟩
  | 16 => ⟨S4096x1024, .f32⟩
  | 17 => ⟨S4096x1024, .f32⟩
  | 18 => ⟨S1x1024, .f32⟩
  | 19 => ⟨S4096x1024, .f32⟩
  | 20 => ⟨S4096x1024, .f32⟩
  | 21 => ⟨S4096x1024, .f32⟩
  | 22 => ⟨S4096x2x4x128, .f32⟩
  | 23 => ⟨S4096x1x4x128, .f32⟩
  | 24 => ⟨S4096x4x128, .f32⟩
  | 25 => ⟨S4096x1x4x128, .f32⟩
  | 26 => ⟨S4096x4x128, .f32⟩
  | 27 => ⟨S1x4x256x128, .f32⟩
  | 28 => ⟨S4x256x128, .f32⟩
  | 29 => ⟨S1x4x256x128, .f32⟩
  | 30 => ⟨S4x256x128, .f32⟩
  | 31 => ⟨S4096x4x128, .f32⟩
  | 32 => ⟨S_, .f32⟩
  | 33 => ⟨S4096x4, .f32⟩
  | 34 => ⟨S4096x4x1, .f32⟩
  | 35 => ⟨S4x256x128, .f32⟩
  | 36 => ⟨S_, .f32⟩
  | 37 => ⟨S4x256, .f32⟩
  | 38 => ⟨S4x256x4096, .f32⟩
  | 39 => ⟨S4096x4x256, .f32⟩
  | 40 => ⟨S1x4x256, .f32⟩
  | 41 => ⟨S4096x4x256, .f32⟩
  | 42 => ⟨S4096x4x256, .f32⟩
  | 43 => ⟨S4096x4x256, .f32⟩
  | 44 => ⟨S_, .f32⟩
  | 45 => ⟨S4096x4x256, .f32⟩
  | 46 => ⟨S4096x4x256, .f32⟩
  | 47 => ⟨S4096x4x256, .f32⟩
  | 48 => ⟨S4096x4x128, .f32⟩
  | 49 => ⟨S_, .f32⟩
  | 50 => ⟨S4096x4, .f32⟩
  | 51 => ⟨S4096x4x1, .f32⟩
  | 52 => ⟨S4x256x128, .f32⟩
  | 53 => ⟨S_, .f32⟩
  | 54 => ⟨S4x256, .f32⟩
  | 55 => ⟨S4x256x4096, .f32⟩
  | 56 => ⟨S4096x4x256, .f32⟩
  | 57 => ⟨S1x4x256, .f32⟩
  | 58 => ⟨S4096x4x256, .f32⟩
  | 59 => ⟨S4096x4x256, .f32⟩
  | 60 => ⟨S4096x4x256, .f32⟩
  | 61 => ⟨S_, .f32⟩
  | 62 => ⟨S4096x4x256, .f32⟩
  | 63 => ⟨S4096x4x256, .f32⟩
  | 64 => ⟨S4096x4x256, .f32⟩
  | 65 => ⟨S_, .f32⟩
  | 66 => ⟨S4096x4x256, .f32⟩
  | 67 => ⟨S4096x4x256, .f32⟩
  | 68 => ⟨S4096x4x256, .f32⟩
  | 69 => ⟨S4096x4x256, .f32⟩
  | 70 => ⟨S_, .f32⟩
  | 71 => ⟨S4096x4x256, .f32⟩
  | 72 => ⟨S4096x4x256, .f32⟩
  | 73 => ⟨S4096x4x256, .f32⟩
  | 74 => ⟨S4096x4x256, .f32⟩
  | 75 => ⟨S4096x4x256, .f32⟩
  | 76 => ⟨S4096x4x8, .f32⟩
  | 77 => ⟨S4096x4x8, .i32⟩
  | 78 => ⟨S4096x4x256, .f32⟩
  | 79 => ⟨S4096x4x8, .f32⟩
  | 80 => ⟨S4096x4x8, .i32⟩
  | 81 => ⟨S_, .i32⟩
  | 82 => ⟨S4096x4x8, .i32⟩
  | 83 => ⟨S4096x4x8, .i1⟩
  | 84 => ⟨S_, .i32⟩
  | 85 => ⟨S4096x4x8, .i32⟩
  | 86 => ⟨S4096x4x8, .i32⟩
  | 87 => ⟨S4096x4x8, .i32⟩
  | 88 => ⟨S4096x4x8x1, .i32⟩
  | 89 => ⟨S1, .i32⟩
  | 90 => ⟨S_, .i32⟩
  | 91 => ⟨S4096x4x8x1, .i32⟩
  | 92 => ⟨S4096x4x8x1, .i1⟩
  | 93 => ⟨S1x1x1x1, .i32⟩
  | 94 => ⟨S4096x4x8x1, .i32⟩
  | 95 => ⟨S4096x4x8x1, .i1⟩
  | 96 => ⟨S4096x4x8x1, .i1⟩
  | 97 => ⟨S_, .i1⟩
  | 98 => ⟨S4096x4x8, .i1⟩
  | 99 => ⟨S4096x4x8, .f32⟩
  | 100 => ⟨S_, .f32⟩
  | 101 => ⟨S4096x4x8, .f32⟩
  | 102 => ⟨S4096x4x8, .f32⟩
  | 103 => ⟨S_, .i32⟩
  | 104 => ⟨S4096x4x8, .i32⟩
  | 105 => ⟨S4096x4x8, .i1⟩
  | 106 => ⟨S_, .i32⟩
  | 107 => ⟨S4096x4x8, .i32⟩
  | 108 => ⟨S4096x4x8, .i32⟩
  | 109 => ⟨S4096x4x8, .i32⟩
  | 110 => ⟨S4096x4x8x1, .i32⟩
  | 111 => ⟨S1, .i32⟩
  | 112 => ⟨S_, .i32⟩
  | 113 => ⟨S4096x4x8x1, .i32⟩
  | 114 => ⟨S4096x4x8x1, .i1⟩
  | 115 => ⟨S1x1x1x1, .i32⟩
  | 116 => ⟨S4096x4x8x1, .i32⟩
  | 117 => ⟨S4096x4x8x1, .i1⟩
  | 118 => ⟨S4096x4x8x1, .i1⟩
  | 119 => ⟨S_, .i1⟩
  | 120 => ⟨S4096x4x8, .i1⟩
  | 121 => ⟨S4096x4x8, .f32⟩
  | 122 => ⟨S_, .f32⟩
  | 123 => ⟨S4096x4x8, .f32⟩
  | 124 => ⟨S4096x4x8, .f32⟩
  | 125 => ⟨S4096x4x8x1, .f32⟩
  | 126 => ⟨S4096x4x1x8, .f32⟩
  | 127 => ⟨S4096x4x8x8, .f32⟩
  | _ => ⟨S2x2048x1024, .f32⟩

abbrev hbmTy0_1 (i : Nat) : BufTy := match i % 128 with
  | 0 => ⟨S4096x4x8x8, .f32⟩
  | 1 => ⟨S4096x4x8x8, .f32⟩
  | 2 => ⟨S4096x4x64, .f32⟩
  | 3 => ⟨S4096x4x8x1, .i32⟩
  | 4 => ⟨S_, .i32⟩
  | 5 => ⟨S4096x4x8x1, .i32⟩
  | 6 => ⟨S4096x4x8x1, .i32⟩
  | 7 => ⟨S4096x4x1x8, .i32⟩
  | 8 => ⟨S4096x4x8x8, .i32⟩
  | 9 => ⟨S4096x4x8x8, .i32⟩
  | 10 => ⟨S4096x4x8x8, .i32⟩
  | 11 => ⟨S4096x4x64, .i32⟩
  | 12 => ⟨S_, .f32⟩
  | 13 => ⟨S4096x4x256, .f32⟩
  | 14 => ⟨S4096x4x256, .f32⟩
  | 15 => ⟨S_, .i32⟩
  | 16 => ⟨S4096x4x8, .i32⟩
  | 17 => ⟨S4096x4x8, .i1⟩
  | 18 => ⟨S_, .i32⟩
  | 19 => ⟨S4096x4x8, .i32⟩
  | 20 => ⟨S4096x4x8, .i32⟩
  | 21 => ⟨S4096x4x8, .i32⟩
  | 22 => ⟨S4096x4x8x1, .i32⟩
  | 23 => ⟨S1, .i32⟩
  | 24 => ⟨S_, .i32⟩
  | 25 => ⟨S4096x4x8x1, .i32⟩
  | 26 => ⟨S4096x4x8x1, .i1⟩
  | 27 => ⟨S1x1x1x1, .i32⟩
  | 28 => ⟨S4096x4x8x1, .i32⟩
  | 29 => ⟨S4096x4x8x1, .i1⟩
  | 30 => ⟨S4096x4x8x1, .i1⟩
  | 31 => ⟨S_, .i1⟩
  | 32 => ⟨S4096x4x8, .i1⟩
  | 33 => ⟨S4096x4x8, .f32⟩
  | 34 => ⟨S_, .f32⟩
  | 35 => ⟨S4096x4x8, .f32⟩
  | 36 => ⟨S4096x4x8, .f32⟩
  | 37 => ⟨S_, .f32⟩
  | 38 => ⟨S4096x4x256, .f32⟩
  | 39 => ⟨S4096x4x256, .f32⟩
  | 40 => ⟨S_, .i32⟩
  | 41 => ⟨S4096x4x8, .i32⟩
  | 42 => ⟨S4096x4x8, .i1⟩
  | 43 => ⟨S_, .i32⟩
  | 44 => ⟨S4096x4x8, .i32⟩
  | 45 => ⟨S4096x4x8, .i32⟩
  | 46 => ⟨S4096x4x8, .i32⟩
  | 47 => ⟨S4096x4x8x1, .i32⟩
  | 48 => ⟨S1, .i32⟩
  | 49 => ⟨S_, .i32⟩
  | 50 => ⟨S4096x4x8x1, .i32⟩
  | 51 => ⟨S4096x4x8x1, .i1⟩
  | 52 => ⟨S1x1x1x1, .i32⟩
  | 53 => ⟨S4096x4x8x1, .i32⟩
  | 54 => ⟨S4096x4x8x1, .i1⟩
  | 55 => ⟨S4096x4x8x1, .i1⟩
  | 56 => ⟨S_, .i1⟩
  | 57 => ⟨S4096x4x8, .i1⟩
  | 58 => ⟨S4096x4x8, .f32⟩
  | 59 => ⟨S_, .f32⟩
  | 60 => ⟨S4096x4x8, .f32⟩
  | 61 => ⟨S4096x4x8, .f32⟩
  | 62 => ⟨S4096x4x8x1, .f32⟩
  | 63 => ⟨S4096x4x1x8, .f32⟩
  | 64 => ⟨S4096x4x8x8, .f32⟩
  | 65 => ⟨S4096x4x8x8, .f32⟩
  | 66 => ⟨S4096x4x8x8, .f32⟩
  | 67 => ⟨S4096x4x64, .f32⟩
  | 68 => ⟨S4096x4x64, .f32⟩
  | 69 => ⟨S4096x4x8, .f32⟩
  | 70 => ⟨S4096x4x8, .i32⟩
  | 71 => ⟨S_, .i32⟩
  | 72 => ⟨S4096x4x8, .i32⟩
  | 73 => ⟨S4096x4x8, .i1⟩
  | 74 => ⟨S_, .i32⟩
  | 75 => ⟨S4096x4x8, .i32⟩
  | 76 => ⟨S4096x4x8, .i32⟩
  | 77 => ⟨S4096x4x8, .i32⟩
  | 78 => ⟨S4096x4x8x1, .i32⟩
  | 79 => ⟨S1, .i32⟩
  | 80 => ⟨S_, .i32⟩
  | 81 => ⟨S4096x4x8x1, .i32⟩
  | 82 => ⟨S4096x4x8x1, .i1⟩
  | 83 => ⟨S1x1x1x1, .i32⟩
  | 84 => ⟨S4096x4x8x1, .i32⟩
  | 85 => ⟨S4096x4x8x1, .i1⟩
  | 86 => ⟨S4096x4x8x1, .i1⟩
  | 87 => ⟨S_, .i1⟩
  | 88 => ⟨S4096x4x8, .i1⟩
  | 89 => ⟨S4096x4x8, .i32⟩
  | 90 => ⟨S_, .i32⟩
  | 91 => ⟨S4096x4x8, .i32⟩
  | 92 => ⟨S4096x4x8, .i32⟩
  | 93 => ⟨S_, .i32⟩
  | 94 => ⟨S4096x4x8, .i32⟩
  | 95 => ⟨S4096x4x8, .i1⟩
  | 96 => ⟨S_, .i32⟩
  | 97 => ⟨S4096x4x8, .i32⟩
  | 98 => ⟨S4096x4x8, .i32⟩
  | 99 => ⟨S4096x4x8, .i32⟩
  | 100 => ⟨S4096x4x8x1, .i32⟩
  | 101 => ⟨S1, .i32⟩
  | 102 => ⟨S_, .i32⟩
  | 103 => ⟨S4096x4x8x1, .i32⟩
  | 104 => ⟨S4096x4x8x1, .i1⟩
  | 105 => ⟨S1x1x1x1, .i32⟩
  | 106 => ⟨S4096x4x8x1, .i32⟩
  | 107 => ⟨S4096x4x8x1, .i1⟩
  | 108 => ⟨S4096x4x8x1, .i1⟩
  | 109 => ⟨S_, .i1⟩
  | 110 => ⟨S4096x4x8, .i1⟩
  | 111 => ⟨S4096x4x8, .f32⟩
  | 112 => ⟨S_, .f32⟩
  | 113 => ⟨S4096x4x8, .f32⟩
  | 114 => ⟨S4096x4x8, .f32⟩
  | 115 => ⟨S_, .f32⟩
  | 116 => ⟨S4096x4, .f32⟩
  | 117 => ⟨S_, .f32⟩
  | 118 => ⟨S4096x4, .f32⟩
  | 119 => ⟨S4096x4, .f32⟩
  | 120 => ⟨S4096x4x1, .f32⟩
  | 121 => ⟨S4096x4x8, .f32⟩
  | 122 => ⟨S4096x4x8, .f32⟩
  | 123 => ⟨S4096x4x8, .f32⟩
  | 124 => ⟨S_, .f32⟩
  | 125 => ⟨S4096x4, .f32⟩
  | 126 => ⟨S4096x4x1, .f32⟩
  | 127 => ⟨S4096x4x8, .f32⟩
  | _ => ⟨S2x2048x1024, .f32⟩

abbrev hbmTy0_2 (i : Nat) : BufTy := match i % 128 with
  | 0 => ⟨S4096x4x8, .f32⟩
  | 1 => ⟨S4, .i32⟩
  | 2 => ⟨S1x4x1, .i32⟩
  | 3 => ⟨S_, .i32⟩
  | 4 => ⟨S4096x4x8, .i32⟩
  | 5 => ⟨S4096x4x8, .i32⟩
  | 6 => ⟨S4096x4x8, .i32⟩
  | 7 => ⟨S4096x4x8, .i32⟩
  | 8 => ⟨S4096x32, .i32⟩
  | 9 => ⟨S32x4096, .i32⟩
  | 10 => ⟨S4096x32, .f32⟩
  | 11 => ⟨S32x4096, .f32⟩
  | _ => ⟨S2x2048x1024, .f32⟩

abbrev hbmTy (i : Nat) : BufTy := match i / 128 with
  | 0 => hbmTy0_0 i
  | 1 => hbmTy0_1 i
  | 2 => hbmTy0_2 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_6 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_values : Ref sig .tc := ⟨.hbm, 76, rfl⟩
abbrev main_indices : Ref sig .tc := ⟨.hbm, 77, rfl⟩
abbrev main_v61 : Ref sig .tc := ⟨.hbm, 78, rfl⟩
abbrev main_values_10 : Ref sig .tc := ⟨.hbm, 79, rfl⟩
abbrev main_indices_11 : Ref sig .tc := ⟨.hbm, 80, rfl⟩
abbrev main_call0_c : Ref sig .tc := ⟨.hbm, 81, rfl⟩
abbrev main_call0_v0 : Ref sig .tc := ⟨.hbm, 82, rfl⟩
abbrev main_call0_v1 : Ref sig .tc := ⟨.hbm, 83, rfl⟩
abbrev main_call0_c_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_v5 : Ref sig .tc := ⟨.hbm, 88, rfl⟩
abbrev main_call0_c_1 : Ref sig .tc := ⟨.hbm, 89, rfl⟩
abbrev main_call0_c_2 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_v9 : Ref sig .tc := ⟨.hbm, 94, rfl⟩
abbrev main_call0_v10 : Ref sig .tc := ⟨.hbm, 95, rfl⟩
abbrev main_call0_v11 : Ref sig .tc := ⟨.hbm, 96, rfl⟩
abbrev main_call0_c_3 : Ref sig .tc := ⟨.hbm, 97, rfl⟩
abbrev main_call0_v12 : Ref sig .tc := ⟨.hbm, 98, rfl⟩
abbrev main_call0_v13 : Ref sig .tc := ⟨.hbm, 99, rfl⟩
abbrev main_call0_cst : Ref sig .tc := ⟨.hbm, 100, rfl⟩
abbrev main_call0_v14 : Ref sig .tc := ⟨.hbm, 101, rfl⟩
abbrev main_v62 : Ref sig .tc := ⟨.hbm, 102, rfl⟩
abbrev main_call1_c : Ref sig .tc := ⟨.hbm, 103, rfl⟩
abbrev main_call1_v0 : Ref sig .tc := ⟨.hbm, 104, rfl⟩
abbrev main_call1_v1 : Ref sig .tc := ⟨.hbm, 105, rfl⟩
abbrev main_call1_c_0 : Ref sig .tc := ⟨.hbm, 106, rfl⟩
abbrev main_call1_v2 : Ref sig .tc := ⟨.hbm, 107, rfl⟩
abbrev main_call1_v3 : Ref sig .tc := ⟨.hbm, 108, rfl⟩
abbrev main_call1_v4 : Ref sig .tc := ⟨.hbm, 109, rfl⟩
abbrev main_call1_v5 : Ref sig .tc := ⟨.hbm, 110, rfl⟩
abbrev main_call1_c_1 : Ref sig .tc := ⟨.hbm, 111, rfl⟩
abbrev main_call1_c_2 : Ref sig .tc := ⟨.hbm, 112, rfl⟩
abbrev main_call1_v6 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_call1_v11 : Ref sig .tc := ⟨.hbm, 118, rfl⟩
abbrev main_call1_c_3 : Ref sig .tc := ⟨.hbm, 119, rfl⟩
abbrev main_call1_v12 : Ref sig .tc := ⟨.hbm, 120, rfl⟩
abbrev main_call1_v13 : Ref sig .tc := ⟨.hbm, 121, rfl⟩
abbrev main_call1_cst : Ref sig .tc := ⟨.hbm, 122, rfl⟩
abbrev main_call1_v14 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_cst_12 : Ref sig .tc := ⟨.hbm, 140, rfl⟩
abbrev main_v78 : Ref sig .tc := ⟨.hbm, 141, rfl⟩
abbrev main_v79 : Ref sig .tc := ⟨.hbm, 142, rfl⟩
abbrev main_call2_c : Ref sig .tc := ⟨.hbm, 143, rfl⟩
abbrev main_call2_v0 : Ref sig .tc := ⟨.hbm, 144, rfl⟩
abbrev main_call2_v1 : Ref sig .tc := ⟨.hbm, 145, rfl⟩
abbrev main_call2_c_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_c_1 : Ref sig .tc := ⟨.hbm, 151, rfl⟩
abbrev main_call2_c_2 : Ref sig .tc := ⟨.hbm, 152, rfl⟩
abbrev main_call2_v6 : Ref sig .tc := ⟨.hbm, 153, rfl⟩
abbrev main_call2_v7 : Ref sig .tc := ⟨.hbm, 154, rfl⟩
abbrev main_call2_v8 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_c_3 : Ref sig .tc := ⟨.hbm, 159, rfl⟩
abbrev main_call2_v12 : Ref sig .tc := ⟨.hbm, 160, rfl⟩
abbrev main_call2_v13 : Ref sig .tc := ⟨.hbm, 161, rfl⟩
abbrev main_call2_cst : Ref sig .tc := ⟨.hbm, 162, rfl⟩
abbrev main_call2_v14 : Ref sig .tc := ⟨.hbm, 163, rfl⟩
abbrev main_v80 : Ref sig .tc := ⟨.hbm, 164, rfl⟩
abbrev main_cst_13 : Ref sig .tc := ⟨.hbm, 165, rfl⟩
abbrev main_v81 : Ref sig .tc := ⟨.hbm, 166, rfl⟩
abbrev main_v82 : Ref sig .tc := ⟨.hbm, 167, rfl⟩
abbrev main_call3_c : Ref sig .tc := ⟨.hbm, 168, rfl⟩
abbrev main_call3_v0 : Ref sig .tc := ⟨.hbm, 169, rfl⟩
abbrev main_call3_v1 : Ref sig .tc := ⟨.hbm, 170, rfl⟩
abbrev main_call3_c_0 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_call3_v5 : Ref sig .tc := ⟨.hbm, 175, rfl⟩
abbrev main_call3_c_1 : Ref sig .tc := ⟨.hbm, 176, rfl⟩
abbrev main_call3_c_2 : Ref sig .tc := ⟨.hbm, 177, rfl⟩
abbrev main_call3_v6 : Ref sig .tc := ⟨.hbm, 178, rfl⟩
abbrev main_call3_v7 : Ref sig .tc := ⟨.hbm, 179, rfl⟩
abbrev main_call3_v8 : Ref sig .tc := ⟨.hbm, 180, rfl⟩
abbrev main_call3_v9 : Ref sig .tc := ⟨.hbm, 181, rfl⟩
abbrev main_call3_v10 : Ref sig .tc := ⟨.hbm, 182, rfl⟩
abbrev main_call3_v11 : Ref sig .tc := ⟨.hbm, 183, rfl⟩
abbrev main_call3_c_3 : Ref sig .tc := ⟨.hbm, 184, rfl⟩
abbrev main_call3_v12 : Ref sig .tc := ⟨.hbm, 185, rfl⟩
abbrev main_call3_v13 : Ref sig .tc := ⟨.hbm, 186, rfl⟩
abbrev main_call3_cst : Ref sig .tc := ⟨.hbm, 187, rfl⟩
abbrev main_call3_v14 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_v87 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_values_14 : Ref sig .tc := ⟨.hbm, 197, rfl⟩
abbrev main_indices_15 : Ref sig .tc := ⟨.hbm, 198, rfl⟩
abbrev main_call4_c : Ref sig .tc := ⟨.hbm, 199, rfl⟩
abbrev main_call4_v0 : Ref sig .tc := ⟨.hbm, 200, rfl⟩
abbrev main_call4_v1 : Ref sig .tc := ⟨.hbm, 201, rfl⟩
abbrev main_call4_c_0 : Ref sig .tc := ⟨.hbm, 202, rfl⟩
abbrev main_call4_v2 : Ref sig .tc := ⟨.hbm, 203, rfl⟩
abbrev main_call4_v3 : Ref sig .tc := ⟨.hbm, 204, rfl⟩
abbrev main_call4_v4 : Ref sig .tc := ⟨.hbm, 205, rfl⟩
abbrev main_call4_v5 : Ref sig .tc := ⟨.hbm, 206, rfl⟩
abbrev main_call4_c_1 : Ref sig .tc := ⟨.hbm, 207, rfl⟩
abbrev main_call4_c_2 : Ref sig .tc := ⟨.hbm, 208, rfl⟩
abbrev main_call4_v6 : Ref sig .tc := ⟨.hbm, 209, rfl⟩
abbrev main_call4_v7 : Ref sig .tc := ⟨.hbm, 210, rfl⟩
abbrev main_call4_v8 : Ref sig .tc := ⟨.hbm, 211, rfl⟩
abbrev main_call4_v9 : Ref sig .tc := ⟨.hbm, 212, rfl⟩
abbrev main_call4_v10 : Ref sig .tc := ⟨.hbm, 213, rfl⟩
abbrev main_call4_v11 : Ref sig .tc := ⟨.hbm, 214, rfl⟩
abbrev main_call4_c_3 : Ref sig .tc := ⟨.hbm, 215, rfl⟩
abbrev main_call4_v12 : Ref sig .tc := ⟨.hbm, 216, rfl⟩
abbrev main_call4_v13 : Ref sig .tc := ⟨.hbm, 217, rfl⟩
abbrev main_call4_c_4 : Ref sig .tc := ⟨.hbm, 218, rfl⟩
abbrev main_call4_v14 : Ref sig .tc := ⟨.hbm, 219, rfl⟩
abbrev main_v91 : Ref sig .tc := ⟨.hbm, 220, rfl⟩
abbrev main_call5_c : Ref sig .tc := ⟨.hbm, 221, rfl⟩
abbrev main_call5_v0 : Ref sig .tc := ⟨.hbm, 222, rfl⟩
abbrev main_call5_v1 : Ref sig .tc := ⟨.hbm, 223, rfl⟩
abbrev main_call5_c_0 : Ref sig .tc := ⟨.hbm, 224, rfl⟩
abbrev main_call5_v2 : Ref sig .tc := ⟨.hbm, 225, rfl⟩
abbrev main_call5_v3 : Ref sig .tc := ⟨.hbm, 226, rfl⟩
abbrev main_call5_v4 : Ref sig .tc := ⟨.hbm, 227, rfl⟩
abbrev main_call5_v5 : Ref sig .tc := ⟨.hbm, 228, rfl⟩
abbrev main_call5_c_1 : Ref sig .tc := ⟨.hbm, 229, rfl⟩
abbrev main_call5_c_2 : Ref sig .tc := ⟨.hbm, 230, rfl⟩
abbrev main_call5_v6 : Ref sig .tc := ⟨.hbm, 231, rfl⟩
abbrev main_call5_v7 : Ref sig .tc := ⟨.hbm, 232, rfl⟩
abbrev main_call5_v8 : Ref sig .tc := ⟨.hbm, 233, rfl⟩
abbrev main_call5_v9 : Ref sig .tc := ⟨.hbm, 234, rfl⟩
abbrev main_call5_v10 : Ref sig .tc := ⟨.hbm, 235, rfl⟩
abbrev main_call5_v11 : Ref sig .tc := ⟨.hbm, 236, rfl⟩
abbrev main_call5_c_3 : Ref sig .tc := ⟨.hbm, 237, rfl⟩
abbrev main_call5_v12 : Ref sig .tc := ⟨.hbm, 238, rfl⟩
abbrev main_call5_v13 : Ref sig .tc := ⟨.hbm, 239, rfl⟩
abbrev main_call5_cst : Ref sig .tc := ⟨.hbm, 240, rfl⟩
abbrev main_call5_v14 : Ref sig .tc := ⟨.hbm, 241, rfl⟩
abbrev main_v92 : Ref sig .tc := ⟨.hbm, 242, rfl⟩
abbrev main_cst_16 : Ref sig .tc := ⟨.hbm, 243, rfl⟩
abbrev main_v93 : Ref sig .tc := ⟨.hbm, 244, rfl⟩
abbrev main_cst_17 : Ref sig .tc := ⟨.hbm, 245, rfl⟩
abbrev main_v94 : Ref sig .tc := ⟨.hbm, 246, rfl⟩
abbrev main_v95 : Ref sig .tc := ⟨.hbm, 247, rfl⟩
abbrev main_v96 : Ref sig .tc := ⟨.hbm, 248, rfl⟩
abbrev main_v97 : Ref sig .tc := ⟨.hbm, 249, rfl⟩
abbrev main_v98 : Ref sig .tc := ⟨.hbm, 250, rfl⟩
abbrev main_v99 : Ref sig .tc := ⟨.hbm, 251, rfl⟩
abbrev main_cst_18 : Ref sig .tc := ⟨.hbm, 252, rfl⟩
abbrev main_v100 : Ref sig .tc := ⟨.hbm, 253, rfl⟩
abbrev main_v101 : Ref sig .tc := ⟨.hbm, 254, rfl⟩
abbrev main_v102 : Ref sig .tc := ⟨.hbm, 255, rfl⟩
abbrev main_v103 : Ref sig .tc := ⟨.hbm, 256, rfl⟩
abbrev main_v104 : Ref sig .tc := ⟨.hbm, 257, rfl⟩
abbrev main_v105 : Ref sig .tc := ⟨.hbm, 258, rfl⟩
abbrev main_c_19 : Ref sig .tc := ⟨.hbm, 259, rfl⟩
abbrev main_v106 : Ref sig .tc := ⟨.hbm, 260, rfl⟩
abbrev main_v107 : Ref sig .tc := ⟨.hbm, 261, rfl⟩
abbrev main_v108 : Ref sig .tc := ⟨.hbm, 262, rfl⟩
abbrev main_v109 : Ref sig .tc := ⟨.hbm, 263, rfl⟩
abbrev main_v110 : Ref sig .tc := ⟨.hbm, 264, rfl⟩
abbrev main_v111 : Ref sig .tc := ⟨.hbm, 265, rfl⟩
abbrev main_v112 : Ref sig .tc := ⟨.hbm, 266, rfl⟩
abbrev main_v113 : Ref sig .tc := ⟨.hbm, 267, rfl⟩

abbrev nD : Nat := 1
abbrev τ : Topo := Topo.v7x

variable {F : FTy → Type} [FloatOps F]
-- ==== Proof.IdealTile.lean ====
/-
  One vector subcore of the gather kernel: what its buffers and copies are, what one chunk of 128 gathered rows is, and
  the four steps the kernel repeats — start the gather of a chunk into a slot of the ring, wait for it, start the
  write-out of the slot, wait for that — each as one rule on the resources it takes and gives back.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pipeline.ValueKit.Geometry
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

abbrev 𝒱₀ : Variants := Variants.none

/-! ## The resource algebra: the handshakes' rounds library, the transfers' counters -/

abbrev UH : Type := URounds (GSem nD τ sig) ℕ
abbrev UU : Type := UH × (UR sig nD τ × Counters)

local notation "𝕄" => MT nD τ sig (HIx 1) (Elt F) ℕ UU ℕ

/-! ## The buffers -/

/-- The table, the row numbers and the gathered rows, as buffers of the device. -/
abbrev xLoc (d : Dev nD) : Loc nD τ sig := (SparseCore.T d).loc main_v1
abbrev iLoc (d : Dev nD) : Loc nD τ sig := (SparseCore.T d).loc main_v5
abbrev oLoc (d : Dev nD) : Loc nD τ sig := (SparseCore.T d).loc main_v6

abbrev xV : Memref sig .scVector .hbm S262144x128 .f32 := Memref.whole main_v1_scv
abbrev iV : Memref sig .scVector .hbm S32x32x128 .i32 := Memref.whole main_v5_scv
abbrev oV : Memref sig .scVector .hbm S131072x128 .f32 := Memref.whole main_v6_scv
abbrev sV : Memref sig .scVector .vmem S32x128 .i32 := Memref.whole cc1_scratch0
abbrev rV : Memref sig .scVector .vmem S3x128x128 .f32 := Memref.whole cc1_scratch1

abbrev cV (L : grid1.Coords) : Fin τ.nSC := (L 0).castLE hcore1
abbrev jV (L : grid1.Coords) : Fin τ.nSub := (L 1).castLE hsub1
abbrev tV (d : Dev nD) (L : grid1.Coords) : Thread nD τ := V d (cV L) (jV L)

theorem L0_lt (L : grid1.Coords) : (L 0).val < 2 := (L 0).isLt
theorem L1_lt (L : grid1.Coords) : (L 1).val < 16 := (L 1).isLt

/-- The subcore's number: sixteen subcores of two SparseCores, the SparseCore the low bit. -/
abbrev wid (L : grid1.Coords) : ℕ := 2 * (L 1).val + (L 0).val

theorem wid_lt (L : grid1.Coords) : wid L < 32 := by have := L0_lt L; have := L1_lt L; unfold wid; omega

theorem slot_inb {b : ℕ} (hb : b < 3) : ∀ a, (![b, 0, 0] : Fin 3 → Nat) a + S1x128x128.size a ≤ S3x128x128.size a := by
  intro a
  match a with
  | 0 => show b + 1 ≤ 3; omega
  | 1 => show 0 + 128 ≤ 128; omega
  | 2 => show 0 + 128 ≤ 128; omega

theorem lst_inb {j : ℕ} (hj : j < 32) : ∀ a, (![j, 0] : Fin 2 → Nat) a + S1x128.size a ≤ S32x128.size a := by
  intro a
  match a with
  | 0 => show j + 1 ≤ 32; omega
  | 1 => show 0 + 128 ≤ 128; omega

/-- Slot `b` of the ring of three row buffers; list `j` of the subcore's 32 lists of row numbers; the table; chunk `j` of
    the subcore's part of the result; the subcore's lists in the array of all lists. -/
abbrev slotM (b : ℕ) (hb : b < 3) : Memref sig .scVector .vmem S128x128 .f32 :=
  (rV.slice (Rect.unit (s := S3x128x128) ![b, 0, 0] S1x128x128.size (slot_inb hb)) (fun _ => rfl)).squeeze S128x128 squeezes_S1x128x128_S128x128
abbrev lstM (j : ℕ) (hj : j < 32) : Memref sig .scVector .vmem S128 .i32 :=
  (sV.slice (Rect.unit (s := S32x128) ![j, 0] S1x128.size (lst_inb hj)) (fun _ => rfl)).squeeze S128 squeezes_S1x128_S128
abbrev tabM : Memref sig .scVector .hbm S262144x128 .f32 :=
  xV.slice (Rect.unit (s := S262144x128) ![0, 0] S262144x128.size inb_S262144x128_S262144x128_0_0) (fun _ => rfl)
abbrev outM (L : grid1.Coords) (j : ℕ) (hj : j < 32) : Memref sig .scVector .hbm S128x128 .f32 :=
  oV.slice (Rect.unit (s := S131072x128) (k1_off2 L (BitVec.ofNat 32 (128 * j))) S128x128.size (k1_off2_inb L ⟨j, hj⟩)) (fun _ => rfl)
abbrev myM (L : grid1.Coords) : Memref sig .scVector .hbm S32x128 .i32 :=
  (iV.slice (Rect.unit (s := S32x32x128) (k1_off1 L) S1x32x128.size (k1_off1_inb L)) (fun _ => rfl)).squeeze S32x128 squeezes_S1x32x128_S32x128

/-! ## The values -/

/-- Row `r` of the result is row `I r` of the table, `I` read in row-major order. -/
def G (T : S262144x128.Idx → F .f32) (I : S32x32x128.Idx → BitVec 32) : S131072x128.Idx → F .f32 := fun y =>
  T (ix2 ⟨(I (ix3 ⟨(y 0).val / 4096, by have h : (y 0).val < 131072 := (y 0).isLt; omega⟩
      ⟨(y 0).val % 4096 / 128, by omega⟩ ⟨(y 0).val % 128, by omega⟩)).toNat % 262144, by omega⟩ (y 1))

/-- The subcore's own lists. -/
def J (I : S32x32x128.Idx → BitVec 32) (L : grid1.Coords) : S32x128.Idx → BitVec 32 := fun x =>
  I (ix3 ⟨wid L, wid_lt L⟩ (x 0) (x 1))

/-- Chunk `j` of the subcore's part of the result. -/
def chunk (T : S262144x128.Idx → F .f32) (I : S32x32x128.Idx → BitVec 32) (L : grid1.Coords) (j : ℕ) (hj : j < 32) : S128x128.Idx → F .f32 :=
  fun x => G T I ((outM L j hj).view.emb x)

theorem outM_emb0 (L : grid1.Coords) (j : ℕ) (hj : j < 32) (x : S128x128.Idx) :
    ((outM L j hj).view.emb x 0).val = 4096 * wid L + 128 * j + (x 0).val := by
  refine (ValueKit.view_emb_slice_whole_unit_val main_v6_scv _ _ (k1_off2_inb L ⟨j, hj⟩) x 0).trans ?_
  refine (congrArg (· + (x 0).val) (congrFun (k1_off2_eq L ⟨j, hj⟩) 0)).trans ?_
  show 8192 * (L 1).val + 4096 * (L 0).val + 128 * j + (x 0).val = 4096 * (2 * (L 1).val + (L 0).val) + 128 * j + (x 0).val
  omega

theorem outM_emb1 (L : grid1.Coords) (j : ℕ) (hj : j < 32) (x : S128x128.Idx) :
    ((outM L j hj).view.emb x 1).val = (x 1).val := by
  refine (ValueKit.view_emb_slice_whole_unit_val main_v6_scv _ _ (k1_off2_inb L ⟨j, hj⟩) x 1).trans ?_
  refine (congrArg (· + (x 1).val) (congrFun (k1_off2_eq L ⟨j, hj⟩) 1)).trans ?_
  show 0 + (x 1).val = _
  omega

theorem myM_read (I : S32x32x128.Idx → BitVec 32) (L : grid1.Coords) : (myM L).view.read (Elt F) I = J I L := by
  funext x
  rw [View.read_apply, cast_eq]
  show I ((Rect.unit (s := S32x32x128) (k1_off1 L) S1x32x128.size (k1_off1_inb L)).emb (Shape.reshapeEquiv squeezes_S1x32x128_S32x128.numel_eq x)) = _
  have e : Shape.reshapeEquiv squeezes_S1x32x128_S32x128.numel_eq x = ix3 (0 : Fin 1) (x 0) (x 1) :=
    Shape.reshapeEquiv_eq_of_rowMajor _ (by
      refine (Shape.rowMajor_val_three (d := ![1, 32, 128]) (ix3 (0 : Fin 1) (x 0) (x 1))).trans
        (Eq.trans ?_ (Shape.rowMajor_val_two (d := ![32, 128]) x).symm)
      show (0 * 32 + (x 0).val) * 128 + (x 1).val = (x 0).val * 128 + (x 1).val
      omega)
  rw [e]
  unfold J
  congr 1
  funext a
  apply Fin.ext
  refine (ValueKit.rect_emb_unit_val _ _ (k1_off1_inb L) (ix3 (0 : Fin 1) (x 0) (x 1)) a).trans ?_
  refine (congrArg (· + (ix3 (0 : Fin 1) (x 0) (x 1) a).val) (congrFun (k1_off1_eq L) a)).trans ?_
  match a with
  | 0 => show 2 * (L 1).val + (L 0).val + 0 = wid L; rfl
  | 1 => show 0 + (x 0).val = (x 0).val; omega
  | 2 => show 0 + (x 1).val = (x 1).val; omega

theorem lstM_read (f : S32x128.Idx → BitVec 32) (j : ℕ) (hj : j < 32) (x : S128.Idx) :
    (lstM j hj).view.read (Elt F) f x = f (ix2 ⟨j, hj⟩ (x 0)) := by
  rw [View.read_apply, cast_eq]
  show f ((Rect.unit (s := S32x128) ![j, 0] S1x128.size (lst_inb hj)).emb (Shape.reshapeEquiv squeezes_S1x128_S128.numel_eq x)) = _
  have e : Shape.reshapeEquiv squeezes_S1x128_S128.numel_eq x = ix2 (0 : Fin 1) (x 0) :=
    Shape.reshapeEquiv_eq_of_rowMajor _ (by
      refine (Shape.rowMajor_val_two (d := ![1, 128]) (ix2 (0 : Fin 1) (x 0))).trans
        (Eq.trans ?_ (Shape.rowMajor_val_one (d := ![128]) x).symm)
      show 0 * 128 + (x 0).val = (x 0).val
      omega)
  rw [e]
  congr 1
  funext a
  apply Fin.ext
  refine (ValueKit.rect_emb_unit_val _ _ (lst_inb hj) (ix2 (0 : Fin 1) (x 0)) a).trans ?_
  match a with
  | 0 => show j + 0 = j; rfl
  | 1 => show 0 + (x 0).val = (x 0).val; omega

theorem tabM_read (f : S262144x128.Idx → F .f32) : tabM.view.read (Elt F) f = f := by
  funext x
  rw [View.read_apply, cast_eq]
  congr 1
  funext a
  apply Fin.ext
  refine (ValueKit.view_emb_slice_whole_unit_val main_v1_scv _ _ inb_S262144x128_S262144x128_0_0 x a).trans ?_
  match a with
  | 0 => exact Nat.zero_add _
  | 1 => exact Nat.zero_add _

/-- Every word of a list names a row of the table. -/
theorem lst_lt (I : S32x32x128.Idx → BitVec 32) (hI : ∀ x, (I x).toNat < 262144) (L : grid1.Coords) (j : ℕ) (hj : j < 32) :
    ∀ x, ((lstM j hj).view.read (Elt F) (J I L) x).toNat < S262144x128.size gathers_S262144x128_S128x128.axis := by
  intro x
  rw [lstM_read]
  exact hI _

/-- What the stream delivers is the chunk. -/
theorem payload_eq (T : S262144x128.Idx → F .f32) (I : S32x32x128.Idx → BitVec 32) (hI : ∀ x, (I x).toNat < 262144) (L : grid1.Coords) (j : ℕ) (hj : j < 32)
    (hn : S128.numel = S128x128.size gathers_S262144x128_S128x128.axis')
    (hin : ∀ x, ((lstM j hj).view.read (Elt F) (J I L) x).toNat < S262144x128.size gathers_S262144x128_S128x128.axis) :
    SparseCore.gatherPayload (e := .f32) (F := F) gathers_S262144x128_S128x128 (tabM.view.read (Elt F) T)
      (SparseCore.rows ((lstM j hj).view.read (Elt F) (J I L)) hn hin) = chunk T I L j hj := by
  funext x
  rw [tabM_read]
  unfold SparseCore.gatherPayload chunk G
  congr 1
  funext a
  apply Fin.ext
  have hx0 : (x 0).val < 128 := (x 0).isLt
  match a with
  | 0 =>
    refine (congrArg Fin.val (Shape.Gathers.idx_axis gathers_S262144x128_S128x128 _ x)).trans ?_
    show ((lstM j hj).view.read (Elt F) (J I L) _).toNat = (I (ix3 _ _ _)).toNat % 262144
    rw [Nat.mod_eq_of_lt (hI _), lstM_read]
    unfold J
    congr 2
    have hk : ((S128.rowMajor.symm ((x gathers_S262144x128_S128x128.axis').cast hn.symm)) 0).val = (x 0).val := by
      rw [← Shape.rowMajor_val_one (d := ![128]) (S128.rowMajor.symm ((x gathers_S262144x128_S128x128.axis').cast hn.symm))]
      show (S128.rowMajor (S128.rowMajor.symm _)).val = _
      rw [Equiv.apply_symm_apply]
      rfl
    have ho := outM_emb0 L j hj x
    have hw := wid_lt L
    congr 1
    · apply Fin.ext; show wid L = _ / 4096; rw [ho]; omega
    · apply Fin.ext; show j = _ % 4096 / 128; rw [ho]; omega
    · apply Fin.ext; refine hk.trans ?_; show _ = _ % 128; rw [ho]; omega
  | 1 =>
    refine (Shape.Gathers.idx_of_ne gathers_S262144x128_S128x128 _ x 1 (by decide)).trans ?_
    exact (outM_emb1 L j hj x).symm

/-! ## The four steps -/

section Steps

variable [FloatOps F] (d : Dev nD) (L : grid1.Coords) (T : S262144x128.Idx → F .f32) (I : S32x32x128.Idx → BitVec 32)
variable {α : Type} {Q : α → sProp (MT nD τ sig (HIx 1) (Elt F) ℕ UU ℕ)} (O : CellTallies nD τ sig (HIx 1)) (W : Waits sig (HIx 1))

/-- The subcore's copy of its lists, and a slot at some contents, and a slot holding chunk `j`. -/
abbrev sLoc : Loc nD τ sig := (tV d L).loc cc1_scratch0
abbrev rLoc : Loc nD τ sig := (tV d L).loc cc1_scratch1
def SlotAny (b : ℕ) (hb : b < 3) : sProp 𝕄 := iprop(∃ f, (slotM b hb).view.loc (tV d L) ↦[(slotM b hb).view.set]{fullShare} f)
def SlotHas (j : ℕ) (hj : j < 32) (b : ℕ) (hb : b < 3) : sProp 𝕄 :=
  iprop(∃ f, ⌜(slotM b hb).view.read (Elt F) f = chunk T I L j hj⌝ ∗ (slotM b hb).view.loc (tV d L) ↦[(slotM b hb).view.set]{fullShare} f)
/-- Chunk `j` of the result, at contents `f`. -/
abbrev OutAt (j : ℕ) (hj : j < 32) (f : S131072x128.Idx → F .f32) : sProp 𝕄 := oLoc d ↦[(outM L j hj).view.set]{fullShare} f

/-- A gather of chunk `j` into slot `b` in flight, and a write-out of slot `b` to chunk `j`. -/
def Fl (q qo : PosShare TreeShare) (j : ℕ) (hj : j < 32) (b : ℕ) (hb : b < 3) (sem : DmaSem sig) : sProp 𝕄 :=
  Transfers.Flight countersEmb (tV d L) (.dma sem) (default : HIx 1) (slotM b hb).view.dmaCredit
    iprop(SlotHas d L T I j hj b hb ∗ (xLoc d ↦{q} T) ∗ (sLoc d L ↦{qo} J I L))
def SFl (j : ℕ) (hj : j < 32) (b : ℕ) (hb : b < 3) (sem : DmaSem sig) : sProp 𝕄 :=
  Transfers.Flight countersEmb (tV d L) (.dma sem) (default : HIx 1) (outM L j hj).view.dmaCredit
    iprop(OutAt d L j hj (G T I) ∗ SlotAny (F := F) d L b hb)

/-- What the subcore owes, and that it may wait. -/
def Owe : sProp 𝕄 :=
  iprop(Transfers.MayWaits (tV d L) (default : HIx 1) O ∗ ∃ W', ⌜∀ p ∈ W', p ∈ W ∨ p.2 = none⌝ ∗ owes (tV d L) O W')

theorem credit_rows (b : ℕ) (hb : b < 3) :
    ∑ j, ((slotM b hb).slice (S128x128.rowRect gathers_S262144x128_S128x128.axis' j) (S128x128.stride_rowRect gathers_S262144x128_S128x128.axis' j)).view.dmaCredit
      = (slotM b hb).view.dmaCredit := by
  have h : ∑ j, ((slotM 0 (by decide)).slice (S128x128.rowRect gathers_S262144x128_S128x128.axis' j) (S128x128.stride_rowRect gathers_S262144x128_S128x128.axis' j)).view.dmaCredit
      = (slotM 0 (by decide)).view.dmaCredit := by decide
  exact h

theorem wp_gather (hI : ∀ x, (I x).toNat < 262144) (q qo : PosShare TreeShare) (j : ℕ) (hj : j < 32) (b : ℕ) (hb : b < 3) (sem : DmaSem sig)
    {k : PUnit → Prog (TpuEff nD τ sig (Elt F) Λ₀ (.scVector (cV L) (jV L))) α}
    {hp : (Proc.scVector (cV L) (jV L)).kind = .scVector} {hn : S128.numel = S128x128.size gathers_S262144x128_S128x128.axis'}
    {hsrc : tabM.view.WordExact} {he : EltTy.f32.bits = 32} {hsp : Space.hbm = .hbm ∨ Space.hbm = .shared} {hr : S262144x128.StreamRows 0} :
    iprop((xLoc d ↦{q} T) ∗ SlotAny (F := F) d L b hb ∗ (sLoc d L ↦{qo} J I L) ∗ semVal (tV d L, SemLoc.dma sem) 0)
      ⊢ iprop((Fl d L T I q qo j hj b hb sem -∗ wp frame (wpE (defs₀ (F := F)) 𝒱₀ (tV d L) none) Set.univ (k ⟨⟩) Q)
          -∗ wp frame (wpE (defs₀ (F := F)) 𝒱₀ (tV d L) none) Set.univ
            (SparseCore.enqueueIndirectGather hp tabM (slotM b hb) gathers_S262144x128_S128x128 (lstM j hj) hn sem hsrc he hsp hr >>= k) Q) := by
  unfold SlotAny Fl
  iintro ⟨Hx, ⟨%fd, Hd⟩, Hs, Hv⟩ Hk
  ihave ⟨Hx, Hxr⟩ := (pointsTo_split_subset (q := q) (f := T) (ℓ := xLoc d) (S := Finset.univ) (Finset.subset_univ tabM.view.set)).1 $$ Hx
  ihave ⟨Hs, Hsr⟩ := (pointsTo_split_subset (q := qo) (f := J I L) (ℓ := sLoc d L) (S := Finset.univ) (Finset.subset_univ (lstM j hj).view.set)).1 $$ Hs
  iapply (SparseCore.wp_indirectGatherLocal countersEmb 𝒱₀ (tV d L) none (src := tabM) (dst := slotM b hb) (hg := gathers_S262144x128_S128x128) (offs := lstM j hj)
      (default : HIx 1) (slotM b hb).view.dmaCredit (credit_rows b hb) (by decide) (lst_lt I hI L j hj)) $$ [Hx Hd Hs Hv]
  · iframe Hx Hd Hs Hv
  iintro Hf
  iapply Hk
  iapply (Transfers.Flight_mono countersEmb (tV d L) (D := iprop(((xLoc d ↦[Finset.univ \ tabM.view.set]{q} T)
      ∗ (sLoc d L ↦[Finset.univ \ (lstM j hj).view.set]{qo} J I L))
      ∗ ((slotM b hb).view.loc (tV d L) ↦[(slotM b hb).view.set]{fullShare} ((slotM b hb).view.write (Elt F) fd
          (SparseCore.gatherPayload (e := .f32) gathers_S262144x128_S128x128 (tabM.view.read (Elt F) T)
            (SparseCore.rows ((lstM j hj).view.read (Elt F) (J I L)) hn (lst_lt I hI L j hj))) Finset.univ))
        ∗ (xLoc d ↦[tabM.view.set]{q} T) ∗ (sLoc d L ↦[(lstM j hj).view.set]{qo} J I L))) (by
    iintro ⟨⟨Hxr, Hsr⟩, Hd, Hx, Hs⟩
    isplitl [Hd]
    · unfold SlotHas
      iexists _
      isplitr
      swap; · iexact Hd
      ipureintro
      rw [View.read_write_univ]
      exact payload_eq T I hI L j hj hn _
    isplitl [Hx Hxr]
    · iapply ((pointsTo_split_subset (Finset.subset_univ tabM.view.set)).2)
      iframe Hx Hxr
    iapply ((pointsTo_split_subset (Finset.subset_univ (lstM j hj).view.set)).2)
    iframe Hs Hsr))
  iapply (Transfers.Flight_frame countersEmb (tV d L))
  iframe Hxr Hsr Hf

theorem wp_gatherDone (q qo : PosShare TreeShare) (j : ℕ) (hj : j < 32) (b : ℕ) (hb : b < 3) (sem : DmaSem sig)
    {k : PUnit → Prog (TpuEff nD τ sig (Elt F) Λ₀ (.scVector (cV L) (jV L))) α}
    {hsrc : tabM.view.WordExact} {hdst : (slotM b hb).view.WordExact} :
    iprop(Fl d L T I q qo j hj b hb sem ∗ Owe (F := F) d L O W)
      ⊢ iprop(((SlotHas d L T I j hj b hb ∗ (xLoc d ↦{q} T) ∗ (sLoc d L ↦{qo} J I L) ∗ semVal (tV d L, SemLoc.dma sem) 0 ∗ Owe (F := F) d L O W)
            -∗ wp frame (wpE (defs₀ (F := F)) 𝒱₀ (tV d L) none) Set.univ (k ⟨⟩) Q)
          -∗ wp frame (wpE (defs₀ (F := F)) 𝒱₀ (tV d L) none) Set.univ
            (SparseCore.waitIndirectGather sem tabM (slotM b hb) hsrc hdst >>= k) Q) := by
  unfold Fl Owe
  iintro ⟨Hf, #Hmw, %W', %hW, HO⟩ Hk
  iapply (Transfers.wp_waitLocalO countersEmb 𝒱₀ (tV d L) none (default : HIx 1) (rfl : (slotM b hb).view.dmaCredit = _)) $$ [Hf HO]
  · isplitl [Hf]; · iexact Hf
    isplitl [HO]; · iexact HO
    iapply (Transfers.MayWaits.elim (SemLoc.dma sem)) $$ Hmw
  iintro ⟨⟨Hd, Hx, Hs⟩, Hv, HO⟩
  iapply Hk
  iframe Hd Hx Hs Hv
  isplitr; · iexact Hmw
  iexists _; isplitr
  swap; · iexact HO
  ipureintro; intro p hp
  rcases Finset.mem_insert.mp hp with hp | hp
  · exact .inr (hp ▸ rfl)
  · exact hW p hp

theorem wp_store (j : ℕ) (hj : j < 32) (b : ℕ) (hb : b < 3) (sem : DmaSem sig) (f : S131072x128.Idx → F .f32)
    {k : PUnit → Prog (TpuEff nD τ sig (Elt F) Λ₀ (.scVector (cV L) (jV L))) α}
    {hsrc : (slotM b hb).view.WordExact} {hdst : (outM L j hj).view.WordExact} {hsem : DmaTarget.Typed (nD := nD) (τ := τ) (p := .scVector (cV L) (jV L)) .vmem (.dma sem) (.here (outM L j hj))} :
    iprop(SlotHas d L T I j hj b hb ∗ OutAt d L j hj f ∗ semVal (tV d L, SemLoc.dma sem) 0)
      ⊢ iprop((SFl d L T I j hj b hb sem -∗ wp frame (wpE (defs₀ (F := F)) 𝒱₀ (tV d L) none) Set.univ (k ⟨⟩) Q)
          -∗ wp frame (wpE (defs₀ (F := F)) 𝒱₀ (tV d L) none) Set.univ
            (Prog.lift (.enqueueDma (slotM b hb) (.here (outM L j hj)) (.dma sem) hsrc hdst hsem) >>= k) Q) := by
  unfold SlotHas SFl
  iintro ⟨⟨%fs, %hfs, Hs⟩, Ho, Hv⟩ Hk
  iapply (Transfers.wp_dmaLocal countersEmb 𝒱₀ (tV d L) none (src := slotM b hb) (dst := outM L j hj) (default : HIx 1) _ rfl (View.dmaCredit_pos _ (by decide)) (Finset.Subset.refl _)) $$ [Hs Ho Hv]
  · iframe Hs Ho Hv
  iintro Hf
  iapply Hk
  iapply (Transfers.Flight_mono countersEmb (tV d L) (D := iprop((oLoc d ↦[(outM L j hj).view.set]{fullShare}
      ((outM L j hj).view.write (Elt F) f ((slotM b hb).view.read (Elt F) fs) Finset.univ))
        ∗ ((slotM b hb).view.loc (tV d L) ↦[(slotM b hb).view.set]{fullShare} fs))) ?_) $$ Hf
  iintro ⟨Ho, Hs⟩
  isplitl [Ho]
  · iapply (Entails.of_eq (pointsTo_congr (ℓ := oLoc d) (I := (outM L j hj).view.set) (q := fullShare) (g := G T I) (fun i hi => by
      obtain ⟨x, -, rfl⟩ := Finset.mem_map.mp hi
      rw [View.write_emb_of_mem _ _ (Finset.mem_univ x), cast_eq, hfs]
      rfl))) $$ Ho
  · unfold SlotAny
    iexists _; iexact Hs

theorem wp_storeDone (j : ℕ) (hj : j < 32) (b : ℕ) (hb : b < 3) (sem : DmaSem sig)
    {k : PUnit → Prog (TpuEff nD τ sig (Elt F) Λ₀ (.scVector (cV L) (jV L))) α}
    {hsrc : (slotM b hb).view.WordExact} {hdst : (outM L j hj).view.WordExact} :
    iprop(SFl d L T I j hj b hb sem ∗ Owe (F := F) d L O W)
      ⊢ iprop(((OutAt d L j hj (G T I) ∗ SlotAny (F := F) d L b hb ∗ semVal (tV d L, SemLoc.dma sem) 0 ∗ Owe (F := F) d L O W)
            -∗ wp frame (wpE (defs₀ (F := F)) 𝒱₀ (tV d L) none) Set.univ (k ⟨⟩) Q)
          -∗ wp frame (wpE (defs₀ (F := F)) 𝒱₀ (tV d L) none) Set.univ
            (Prog.lift (.waitDma2 sem (slotM b hb) (outM L j hj) hsrc hdst) >>= k) Q) := by
  unfold SFl Owe
  iintro ⟨Hf, #Hmw, %W', %hW, HO⟩ Hk
  iapply (Transfers.wp_waitLocalO countersEmb 𝒱₀ (tV d L) none (default : HIx 1) (rfl : (outM L j hj).view.dmaCredit = _)) $$ [Hf HO]
  · isplitl [Hf]; · iexact Hf
    isplitl [HO]; · iexact HO
    iapply (Transfers.MayWaits.elim (SemLoc.dma sem)) $$ Hmw
  iintro ⟨⟨Ho, Hs⟩, Hv, HO⟩
  iapply Hk
  iframe Ho Hs Hv
  isplitr; · iexact Hmw
  iexists _; isplitr
  swap; · iexact HO
  ipureintro; intro p hp
  rcases Finset.mem_insert.mp hp with hp | hp
  · exact .inr (hp ▸ rfl)
  · exact hW p hp

end Steps

end Cert.Proof.KernelIdeal.Tile

end
-- ==== Proof.IdealBody.lean ====
/-
  The gather kernel's body on one vector subcore: the subcore's lists fetched, the gathers of the 32 chunks run three deep
  through the ring of row buffers, each chunk written to its rows of the result. From a share of the table and of the lists
  and the subcore's chunks of the result, to the same with each chunk at the gathered rows.
-/
module

public import proofs.«01_k».proof.Proof.IdealTile

@[expose] public section

noncomputable section

namespace Cert.Proof.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The subcore's semaphores and buffers -/

section Own

variable (d : Dev nD) (L : grid1.Coords)

abbrev cell (s : DmaSem sig) : GSem nD τ sig := (tV d L, .dma s)

theorem mem_cell (s : DmaSem sig) (h : (SemLoc.dma s : SemLoc sig).isScoped .scVector = true) : cell d L s ∈ ownCells (tV d L) :=
  mem_ownCells.mpr ⟨rfl, h⟩

theorem cell_ne {s s' : DmaSem sig} (h : s ≠ s') : cell d L s ≠ cell d L s' := fun e => h (by
  have := congrArg Prod.snd e; exact SemLoc.dma.inj this)

theorem ownSems0_V :
    (ownSems0 (tV d L) : sProp 𝕄)
      = iprop(semVal (cell d L cc1_scratch2.sem) 0 ∗ semVal (cell d L cc1_scratch3.sem) 0 ∗ semVal (cell d L cc1_scratch4.sem) 0 ∗ semVal (cell d L cc1_scratch5.sem) 0 ∗ semVal (cell d L cc1_scratch6.sem) 0 ∗ semVal (cell d L cc1_scratch7.sem) 0 ∗ semVal (cell d L cc1_scoped0.sem) 0
          ∗ bigSep ((((((((ownCells (tV d L)).erase (cell d L cc1_scratch2.sem)).erase (cell d L cc1_scratch3.sem)).erase (cell d L cc1_scratch4.sem)).erase (cell d L cc1_scratch5.sem)).erase (cell d L cc1_scratch6.sem)).erase (cell d L cc1_scratch7.sem)).erase (cell d L cc1_scoped0.sem)) fun g => semVal g 0) := by
  unfold SparseCore.Cfg.ownSems0
  rw [SparseCore.bigSep_erase' (mem_cell d L cc1_scratch2.sem (by decide)),
    SparseCore.bigSep_erase' (Finset.mem_erase.mpr ⟨cell_ne d L (by decide), (mem_cell d L cc1_scratch3.sem (by decide))⟩),
    SparseCore.bigSep_erase' (Finset.mem_erase.mpr ⟨cell_ne d L (by decide), (Finset.mem_erase.mpr ⟨cell_ne d L (by decide), (mem_cell d L cc1_scratch4.sem (by decide))⟩)⟩),
    SparseCore.bigSep_erase' (Finset.mem_erase.mpr ⟨cell_ne d L (by decide), (Finset.mem_erase.mpr ⟨cell_ne d L (by decide), (Finset.mem_erase.mpr ⟨cell_ne d L (by decide), (mem_cell d L cc1_scratch5.sem (by decide))⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L cc1_scratch6.sem (by decide))⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L cc1_scratch7.sem (by decide))⟩)⟩)⟩)⟩)⟩),
    SparseCore.bigSep_erase' (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (Finset.mem_erase.mpr ⟨cell_ne d L (by decide), (mem_cell d L cc1_scoped0.sem (by decide))⟩)⟩)⟩)⟩)⟩)⟩)]

/-- The two scratch buffers are among the subcore's own. -/
theorem ownBufs_V :
    (ownBufs (tV d L) : sProp 𝕄)
      = iprop((∃ f, sLoc d L ↦{fullShare} f) ∗ (∃ f, rLoc d L ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Own

theorem bigSep_fin_succ {M : Type _} [URA M] {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp), bigSep_map]
  rfl

/-! ## The ring buffer is its three slots -/

abbrev slotRect (b : Fin 3) : Rect S3x128x128 := Rect.part (s := S3x128x128) (a₀ := 0) (n := 3) ⟨1, rfl⟩ b

theorem slot_set (b : Fin 3) : (slotM b.val b.isLt).view.set = (slotRect b).set := by
  show ((rV.view.slice (Rect.unit (s := S3x128x128) ![b.val, 0, 0] S1x128x128.size (slot_inb b.isLt))).reshape S128x128 squeezes_S1x128x128_S128x128.numel_eq).set = _
  rw [View.set_reshape]
  have e : Rect.unit (s := S3x128x128) ![b.val, 0, 0] S1x128x128.size (slot_inb b.isLt) = slotRect b := by
    unfold slotRect Rect.part Rect.block
    congr 1 <;> funext a
    · match a with
      | 0 => simp [Shape.partIx, Shape.partSize]
      | 1 => simp [Shape.partIx, Shape.partSize]
      | 2 => simp [Shape.partIx, Shape.partSize]
    · match a with
      | 0 => simp [Shape.partSize]
      | 1 => simp [Shape.partSize]
      | 2 => simp [Shape.partSize]
  show ((View.whole (cc1_scratch1 : Ref sig .scVector)).slice _).set = _
  rw [View.set_slice, e]; exact Finset.map_refl

section Ring

variable (d : Dev nD) (L : grid1.Coords)

theorem ring_slots (f : Buf (Elt F) (rLoc d L)) :
    (rLoc d L ↦{fullShare} f : sProp 𝕄) = bigSep Finset.univ fun b : Fin 3 => rLoc d L ↦[(slotRect b).set]{fullShare} f := by
  rw [← pointsTo_biUnion Finset.univ (ℓ := rLoc d L) (fun b => (slotRect b).set) (fun i _ j _ h => Rect.part_disjoint _ h), Rect.biUnion_part]; try rfl

theorem slotAny_eq (b : Fin 3) :
    (SlotAny (F := F) d L b.val b.isLt : sProp 𝕄) = iprop(∃ f, rLoc d L ↦[(slotRect b).set]{fullShare} f) := by
  unfold SlotAny; rw [slot_set]; try rfl

/-- The ring buffer falls into its slots, -/
theorem ring_split : iprop(∃ f, rLoc d L ↦{fullShare} f)
    ⊢ (iprop(SlotAny (F := F) d L 0 (by decide) ∗ SlotAny (F := F) d L 1 (by decide) ∗ SlotAny (F := F) d L 2 (by decide)) : sProp 𝕄) := by
  refine Entails.trans ?_ (Entails.of_eq (congrArg₂ _ (slotAny_eq (F := F) d L 0).symm (congrArg₂ _ (slotAny_eq (F := F) d L 1).symm (slotAny_eq (F := F) d L 2).symm)))
  iintro ⟨%f, H⟩
  ihave H := (Entails.of_eq (ring_slots d L f)) $$ H
  ihave H := (Entails.of_eq ((bigSep_fin_succ _).trans (congrArg _ ((bigSep_fin_succ _).trans (congrArg _ (bigSep_fin_succ _)))))) $$ H
  icases H with ⟨H0, H1, H2, -⟩
  isplitl [H0]
  · iexists f; iexact H0
  isplitl [H1]
  · iexists f; iexact H1
  · iexists f; iexact H2

/-- and the slots, whatever they hold, are the ring buffer again. -/
theorem ring_join : (iprop(SlotAny (F := F) d L 0 (by decide) ∗ SlotAny (F := F) d L 1 (by decide) ∗ SlotAny (F := F) d L 2 (by decide)) : sProp 𝕄)
    ⊢ iprop(∃ f, rLoc d L ↦{fullShare} f) := by
  refine (Entails.of_eq (congrArg₂ _ (slotAny_eq (F := F) d L 0) (congrArg₂ _ (slotAny_eq (F := F) d L 1) (slotAny_eq (F := F) d L 2)))).trans ?_
  iintro ⟨⟨%f0, H0⟩, ⟨%f1, H1⟩, ⟨%f2, H2⟩⟩
  have hd : ∀ i j : Fin 3, i ≠ j → Disjoint (slotRect i).set (slotRect j).set := fun i j h => Rect.part_disjoint _ h
  ihave H := (pointsTo_join (ℓ := rLoc d L) (hd 0 1 (by decide))) $$ [H0 H1]
  · isplitl [H0]; · iexact H0
    iexact H1
  ihave H := (pointsTo_join (ℓ := rLoc d L) (Finset.disjoint_union_left.mpr ⟨hd 0 2 (by decide), hd 1 2 (by decide)⟩)) $$ [H H2]
  · isplitl [H]; · iexact H
    iexact H2
  iexists _
  have e : ((slotRect 0).set ∪ (slotRect 1).set) ∪ (slotRect 2).set = Finset.univ := by
    rw [← Rect.biUnion_part (s := S3x128x128) (a₀ := 0) (n := 3) ⟨1, rfl⟩]
    ext x
    simp only [Finset.mem_union, Finset.mem_biUnion, Finset.mem_univ, true_and]
    refine ⟨fun h => ?_, fun ⟨b, h⟩ => ?_⟩
    · rcases h with (h | h) | h
      · exact ⟨0, h⟩
      · exact ⟨1, h⟩
      · exact ⟨2, h⟩
    · rcases (show b = 0 ∨ b = 1 ∨ b = 2 by omega) with rfl | rfl | rfl
      · exact .inl (.inl h)
      · exact .inl (.inr h)
      · exact .inr h
  rw [← e]
  iexact H

end Ring

/-! ## The subcore's chunks of the result -/

section Steps

variable [FloatOps F] (d : Dev nD) (L : grid1.Coords) (T : S262144x128.Idx → F .f32) (I : S32x32x128.Idx → BitVec 32)
variable {α : Type} {Q : α → sProp (MT nD τ sig (HIx 1) (Elt F) ℕ UU ℕ)} (O : CellTallies nD τ sig (HIx 1)) (W : Waits sig (HIx 1))

/-- The chunks from `j` on, as they were; the chunks before `j`, written. -/
def Todo (f : S131072x128.Idx → F .f32) (j : ℕ) : sProp 𝕄 :=
  bigSep (Finset.univ.filter fun n : Fin 32 => j ≤ n.val) fun n => OutAt d L n.val n.isLt f
def Done (j : ℕ) : sProp 𝕄 :=
  bigSep (Finset.univ.filter fun n : Fin 32 => n.val < j) fun n => OutAt d L n.val n.isLt (G T I)

theorem todo_take (f : S131072x128.Idx → F .f32) (j : ℕ) (hj : j < 32) :
    Todo d L f j ⊢ (iprop(OutAt d L j hj f ∗ Todo d L f (j + 1)) : sProp 𝕄) := by
  unfold Todo
  rw [SparseCore.bigSep_erase' (i := (⟨j, hj⟩ : Fin 32)) (by simp)]
  refine Entails.of_eq ?_
  congr 2
  ext n
  simp only [Finset.mem_erase, Finset.mem_filter, Finset.mem_univ, true_and, ne_eq, Fin.ext_iff]
  omega

theorem done_put (j : ℕ) (hj : j < 32) :
    (iprop(OutAt d L j hj (G T I) ∗ Done d L T I j) : sProp 𝕄) ⊢ Done d L T I (j + 1) := by
  unfold Done
  rw [SparseCore.bigSep_erase' (s := Finset.univ.filter fun n : Fin 32 => n.val < j + 1) (i := (⟨j, hj⟩ : Fin 32)) (by simp)]
  refine Entails.of_eq ?_
  congr 2
  ext n
  simp only [Finset.mem_erase, Finset.mem_filter, Finset.mem_univ, true_and, ne_eq, Fin.ext_iff]
  omega

/-- One turn of the ring: chunk `j` has arrived in slot `b`; it is written out, and chunk `j + 3` started into the slot. -/
theorem wp_turn (hI : ∀ x, (I x).toNat < 262144) (f : S131072x128.Idx → F .f32) (q qo : PosShare TreeShare) (j : ℕ) (hj : j + 3 < 32) (b : ℕ) (hb : b < 3)
    (gs ss : DmaSem sig) {k : PUnit → Prog (TpuEff nD τ sig (Elt F) Λ₀ (.scVector (cV L) (jV L))) α}
    {hp : (Proc.scVector (cV L) (jV L)).kind = .scVector} {hn : S128.numel = S128x128.size gathers_S262144x128_S128x128.axis'}
    {hsrc : tabM.view.WordExact} {he : EltTy.f32.bits = 32} {hsp : Space.hbm = .hbm ∨ Space.hbm = .shared} {hr : S262144x128.StreamRows 0}
    {hsrc' : tabM.view.WordExact} {hdst' : (slotM b hb).view.WordExact} {hs1 : (slotM b hb).view.WordExact}
    {hd1 : (outM L j (by omega)).view.WordExact}
    {hsem : DmaTarget.Typed (nD := nD) (τ := τ) (p := .scVector (cV L) (jV L)) .vmem (.dma ss) (.here (outM L j (by omega)))}
    {hs2 : (slotM b hb).view.WordExact} {hd2 : (outM L j (by omega)).view.WordExact} :
    iprop(Fl d L T I q qo j (by omega) b hb gs ∗ semVal (cell d L ss) 0 ∗ Todo d L f j ∗ Done d L T I j ∗ Owe (F := F) d L O W)
      ⊢ iprop(((Fl d L T I q qo (j + 3) hj b hb gs ∗ semVal (cell d L ss) 0 ∗ Todo d L f (j + 1) ∗ Done d L T I (j + 1) ∗ Owe (F := F) d L O W)
            -∗ wp frame (wpE (defs₀ (F := F)) 𝒱₀ (tV d L) none) Set.univ (k ⟨⟩) Q)
          -∗ wp frame (wpE (defs₀ (F := F)) 𝒱₀ (tV d L) none) Set.univ
            (SparseCore.waitIndirectGather gs tabM (slotM b hb) hsrc' hdst' >>= fun _ =>
              Prog.lift (.enqueueDma (slotM b hb) (.here (outM L j (by omega))) (.dma ss) hs1 hd1 hsem) >>= fun _ =>
              Prog.lift (.waitDma2 ss (slotM b hb) (outM L j (by omega)) hs2 hd2) >>= fun _ =>
              SparseCore.enqueueIndirectGather hp tabM (slotM b hb) gathers_S262144x128_S128x128 (lstM (j + 3) hj) hn gs hsrc he hsp hr >>= k) Q) := by
  iintro ⟨Hf, Hss, Htodo, Hdone, HO⟩ Hk
  iapply (wp_gatherDone d L T I O W q qo j _ b hb gs) $$ [Hf HO]
  · iframe Hf HO
  iintro ⟨Hs, Hx, Hi, Hgs, HO⟩
  ihave ⟨Ho, Htodo⟩ := (todo_take d L f j (by omega)) $$ Htodo
  iapply (wp_store d L T I j _ b hb ss f) $$ [Hs Ho Hss]
  · iframe Hs Ho Hss
  iintro Hf
  iapply (wp_storeDone d L T I O W j _ b hb ss) $$ [Hf HO]
  · iframe Hf HO
  iintro ⟨Ho, Hs, Hss, HO⟩
  iapply (wp_gather d L T I hI q qo (j + 3) hj b hb gs) $$ [Hs Hx Hi Hgs]
  · iframe Hx Hs Hi Hgs
  iintro Hf
  iapply Hk
  iframe Hf Hss Htodo HO
  iapply (done_put d L T I j (by omega))
  iframe Ho Hdone

set_option maxRecDepth 65536 in
set_option maxHeartbeats 4000000 in
/-- The body on vector subcore `(L 0, L 1)` of device `d`. -/
theorem tile_body (hI : ∀ x, (I x).toNat < 262144) (f : S131072x128.Idx → F .f32) (q : PosShare TreeShare) :
    iprop(Transfers.MayWaits (tV d L) (default : HIx 1) O
        ∗ ((xLoc d ↦{q} T) ∗ (iLoc d ↦{q} I) ∗ Todo d L f 0)
        ∗ ownBufs (tV d L) ∗ ownSems0 (tV d L) ∗ owes (tV d L) O W)
      ⊢ wp frame (wpE (defs₀ (F := F)) 𝒱₀ (tV d L) none) Set.univ
          (cc1__sc_gather_body L xV (Memref.isWhole_whole _) iV (Memref.isWhole_whole _) oV (Memref.isWhole_whole _)
            sV (Memref.isWhole_whole _) rV (Memref.isWhole_whole _) cc1_scratch2 cc1_scratch3 cc1_scratch4 cc1_scratch5 cc1_scratch6 cc1_scratch7 cc1_scoped0)
          fun _ => iprop(((xLoc d ↦{q} T) ∗ (iLoc d ↦{q} I) ∗ Done d L T I 32)
            ∗ ownBufs (tV d L) ∗ ownSems0 (tV d L)
            ∗ ∃ W', ⌜∀ p ∈ W', p ∈ W ∨ p.2 = none⌝ ∗ owes (tV d L) O W') := by
  rw [cc1__sc_gather_body_eq_skeleton, ownSems0_V, ownBufs_V]
  simp only [cc1__sc_gather_body_skel, k1_part1_eq_skeleton, k1_part1_skel, k1_part2_eq_skeleton, k1_part2_skel, k1_part3_eq_skeleton, k1_part3_skel, k1_part4_eq_skeleton, k1_part4_skel, k1_part5_eq_skeleton, k1_part5_skel, k1_part6_eq_skeleton, k1_part6_skel, k1_part7_eq_skeleton, k1_part7_skel, k1_part8_eq_skeleton, k1_part8_skel, k1_part9_eq_skeleton, k1_part9_skel, k1_part10_eq_skeleton, k1_part10_skel, k1_part11_eq_skeleton, k1_part11_skel, k1_part12_eq_skeleton, k1_part12_skel, k1_part13_eq_skeleton, k1_part13_skel, k1_part14_eq_skeleton, k1_part14_skel, k1_part15_eq_skeleton, k1_part15_skel, k1_part16_eq_skeleton, k1_part16_skel, k1_part17_eq_skeleton, k1_part17_skel, k1_part18_eq_skeleton, k1_part18_skel, k1_part19_eq_skeleton, k1_part19_skel, k1_part20_eq_skeleton, k1_part20_skel, k1_part21_eq_skeleton, k1_part21_skel, k1_part22_eq_skeleton, k1_part22_skel, k1_part23_eq_skeleton, k1_part23_skel, k1_part24_eq_skeleton, k1_part24_skel, k1_part25_eq_skeleton, k1_part25_skel, k1_part26_eq_skeleton, k1_part26_skel, k1_part27_eq_skeleton, k1_part27_skel, k1_part28_eq_skeleton, k1_part28_skel, k1_part29_eq_skeleton, k1_part29_skel, k1_part30_eq_skeleton, k1_part30_skel, bind_assoc, pure_bind]
  iintro ⟨#Hmw, ⟨Hx, Hi, Htodo⟩, ⟨⟨%fs, Hs⟩, Hr, Hbufs⟩, ⟨Hg0, Hg1, Hg2, Hs0, Hs1, Hs2, Hsc, Hsems⟩, HO⟩
  ihave ⟨Hr0, Hr1, Hr2⟩ := (ring_split (F := F) d L) $$ Hr
  -- the lists
  iapply (Transfers.wp_dmaFromWhole countersEmb 𝒱₀ (tV d L) none (src := myM L) (dst := sV) (default : HIx 1) _ rfl (View.dmaCredit_pos _ (by decide)) (Finset.subset_univ _)) $$ [Hi Hs Hsc]
  · iframe Hi Hs Hsc
  iintro Hf
  iapply (Transfers.wp_waitLocalO countersEmb 𝒱₀ (tV d L) none (default : HIx 1) (rfl : sV.view.dmaCredit = _)) $$ [Hf HO]
  · isplitl [Hf]; · iexact Hf
    isplitl [HO]; · iexact HO
    iapply (Transfers.MayWaits.elim (SemLoc.dma cc1_scoped0.sem)) $$ Hmw
  iintro ⟨⟨Hs, Hi⟩, Hsc, HO⟩
  rw [View.write_whole_univ, myM_read]
  -- a share of the table and of the lists for each slot's gather
  ihave ⟨Hx0, Hx⟩ := (pointsTo_share (PosShare.mem_left_op_right q)).1 $$ Hx
  ihave ⟨Hx1, Hx2⟩ := (pointsTo_share (PosShare.mem_left_op_right q.right)).1 $$ Hx
  ihave ⟨Hi0, Hl⟩ := (pointsTo_share (PosShare.mem_left_op_right fullShare)).1 $$ Hs
  ihave ⟨Hi1, Hi2⟩ := (pointsTo_share (PosShare.mem_left_op_right fullShare.right)).1 $$ Hl
  iapply (wp_gather d L T I hI q.left fullShare.left 0 (by decide) 0 (by decide) cc1_scratch2.sem (hsp := .inl rfl) (hr := by decide)) $$ [Hx0 Hr0 Hi0 Hg0]
  · iframe Hx0 Hr0 Hi0 Hg0
  iintro Hf0
  iapply (wp_gather d L T I hI q.right.left fullShare.right.left 1 (by decide) 1 (by decide) cc1_scratch3.sem (hsp := .inl rfl) (hr := by decide)) $$ [Hx1 Hr1 Hi1 Hg1]
  · iframe Hx1 Hr1 Hi1 Hg1
  iintro Hf1
  iapply (wp_gather d L T I hI q.right.right fullShare.right.right 2 (by decide) 2 (by decide) cc1_scratch4.sem (hsp := .inl rfl) (hr := by decide)) $$ [Hx2 Hr2 Hi2 Hg2]
  · iframe Hx2 Hr2 Hi2 Hg2
  iintro Hf2
  ihave HO : Owe (F := F) d L O W $$ [HO]
  · unfold Owe
    isplitr; · iexact Hmw
    iexists _; isplitr
    swap; · iexact HO
    ipureintro; intro p hp
    rcases Finset.mem_insert.mp hp with hp | hp
    · exact .inr (hp ▸ rfl)
    · exact .inl hp
  ihave Hdone : Done d L T I 0 $$ []
  · unfold Done
    rw [show (Finset.univ.filter fun n : Fin 32 => n.val < 0) = ∅ from by ext n; simp, bigSep_empty]
    iempintro
  iapply (wp_turn d L T I O W hI f q.left fullShare.left 0 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 1 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 2 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 3 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 4 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 5 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 6 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 7 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 8 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 9 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 10 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 11 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 12 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 13 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 14 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 15 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 16 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 17 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 18 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 19 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 20 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 21 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 22 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 23 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 24 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 25 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_turn d L T I O W hI f q.right.right fullShare.right.right 26 (by decide) 2 (by decide) cc1_scratch4.sem cc1_scratch7.sem (hsp := .inl rfl) (hr := by decide)) $$ [Hf2 Hs2 Htodo Hdone HO]
  · iframe Hf2 Hs2 Htodo Hdone HO
  iintro ⟨Hf2, Hs2, Htodo, Hdone, HO⟩
  iapply (wp_turn d L T I O W hI f q.left fullShare.left 27 (by decide) 0 (by decide) cc1_scratch2.sem cc1_scratch5.sem (hsp := .inl rfl) (hr := by decide)) $$ [Hf0 Hs0 Htodo Hdone HO]
  · iframe Hf0 Hs0 Htodo Hdone HO
  iintro ⟨Hf0, Hs0, Htodo, Hdone, HO⟩
  iapply (wp_turn d L T I O W hI f q.right.left fullShare.right.left 28 (by decide) 1 (by decide) cc1_scratch3.sem cc1_scratch6.sem (hsp := .inl rfl) (hr := by decide)) $$ [Hf1 Hs1 Htodo Hdone HO]
  · iframe Hf1 Hs1 Htodo Hdone HO
  iintro ⟨Hf1, Hs1, Htodo, Hdone, HO⟩
  iapply (wp_gatherDone d L T I O W q.right.right fullShare.right.right 29 (by decide) 2 (by decide) cc1_scratch4.sem) $$ [Hf2 HO]
  · iframe Hf2 HO
  iintro ⟨Hr2, Hx2, Hi2, Hg2, HO⟩
  ihave ⟨Ho, Htodo⟩ := (todo_take d L f 29 (by decide)) $$ Htodo
  iapply (wp_store d L T I 29 (by decide) 2 (by decide) cc1_scratch7.sem f) $$ [Hr2 Ho Hs2]
  · iframe Hr2 Ho Hs2
  iintro Hf2
  iapply (wp_gatherDone d L T I O W q.left fullShare.left 30 (by decide) 0 (by decide) cc1_scratch2.sem) $$ [Hf0 HO]
  · iframe Hf0 HO
  iintro ⟨Hr0, Hx0, Hi0, Hg0, HO⟩
  ihave ⟨Ho, Htodo⟩ := (todo_take d L f 30 (by decide)) $$ Htodo
  iapply (wp_store d L T I 30 (by decide) 0 (by decide) cc1_scratch5.sem f) $$ [Hr0 Ho Hs0]
  · iframe Hr0 Ho Hs0
  iintro Hf0
  iapply (wp_gatherDone d L T I O W q.right.left fullShare.right.left 31 (by decide) 1 (by decide) cc1_scratch3.sem) $$ [Hf1 HO]
  · iframe Hf1 HO
  iintro ⟨Hr1, Hx1, Hi1, Hg1, HO⟩
  ihave ⟨Ho, Htodo⟩ := (todo_take d L f 31 (by decide)) $$ Htodo
  iapply (wp_store d L T I 31 (by decide) 1 (by decide) cc1_scratch6.sem f) $$ [Hr1 Ho Hs1]
  · iframe Hr1 Ho Hs1
  iintro Hf1
  iapply (wp_storeDone d L T I O W 29 (by decide) 2 (by decide) cc1_scratch7.sem) $$ [Hf2 HO]
  · iframe Hf2 HO
  iintro ⟨Ho, Hr2, Hs2, HO⟩
  ihave Hdone := (done_put d L T I 29 (by decide)) $$ [Ho Hdone]
  · iframe Ho Hdone
  iapply (wp_storeDone d L T I O W 30 (by decide) 0 (by decide) cc1_scratch5.sem) $$ [Hf0 HO]
  · iframe Hf0 HO
  iintro ⟨Ho, Hr0, Hs0, HO⟩
  ihave Hdone := (done_put d L T I 30 (by decide)) $$ [Ho Hdone]
  · iframe Ho Hdone
  iapply (wp_storeDone d L T I O W 31 (by decide) 1 (by decide) cc1_scratch6.sem) $$ [Hf1 HO]
  · iframe Hf1 HO
  iintro ⟨Ho, Hr1, Hs1, HO⟩
  ihave Hdone := (done_put d L T I 31 (by decide)) $$ [Ho Hdone]
  · iframe Ho Hdone
  ihave Hx := (pointsTo_share (PosShare.mem_left_op_right q.right)).2 $$ [Hx1 Hx2]
  · iframe Hx1 Hx2
  ihave Hx := (pointsTo_share (PosShare.mem_left_op_right q)).2 $$ [Hx0 Hx]
  · iframe Hx0 Hx
  ihave Hl := (pointsTo_share (PosShare.mem_left_op_right fullShare.right)).2 $$ [Hi1 Hi2]
  · iframe Hi1 Hi2
  ihave Hl := (pointsTo_share (PosShare.mem_left_op_right fullShare)).2 $$ [Hi0 Hl]
  · iframe Hi0 Hl
  ihave Hr := (ring_join (F := F) d L) $$ [Hr0 Hr1 Hr2]
  · iframe Hr0 Hr1 Hr2
  unfold Owe
  icases HO with ⟨-, HO⟩
  sl_step
  iframe Hx Hi Hdone Hr Hbufs Hg0 Hg1 Hg2 Hs0 Hs1 Hs2 Hsc Hsems HO
  iexists _; iexact Hl

end Steps

end Cert.Proof.KernelIdeal.Tile

end
-- ==== Proof.IdealGather.lean ====
/-
  The gather call as the launch sees it: what the SparseCores are handed (each subcore a share of the table and of the lists
  and its chunks of the result) and hand back (the same, the chunks at the gathered rows), the subcores' obligation, and how
  the whole buffers fall into those parts and come together again.
-/
module

public import proofs.«01_k».proof.Proof.IdealBody
public import proofs.«01_k».proof.Proof.Gen.KernelIdeal.Launch
public import Idealize.ShloMosaic.Lib.ShareLeaves

@[expose] public section

noncomputable section

namespace Cert.Proof.KernelIdeal.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.ShareLeaves (leaf pointsTo_leaves)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## What the handshakes carry -/

def coordsV (c : Fin (grid1.bound 0)) (s : Fin (grid1.bound 1)) : grid1.Coords :=
  fun | 0 => c | 1 => s | ⟨_ + 2, h⟩ => absurd h (Nat.not_lt.2 (Nat.le_add_left _ _))

section Hand

variable (X : Dev nD → S262144x128.Idx → F .f32) (I : Dev nD → S32x32x128.Idx → BitVec 32) (f : Dev nD → S131072x128.Idx → F .f32)

/-- The share of the table and of the lists that subcore `i` of SparseCore `c` takes: one of 32. -/
abbrev tq (c : Fin 2) (i : Fin 16) : PosShare TreeShare := leaf 5 fullShare ⟨i.val + 16 * c.val, by omega⟩

/-- What subcore `i` of SparseCore `c` is handed, and what it hands back. -/
def In (d : Dev nD) (c : Fin 2) (i : Fin 16) : sProp 𝕄 :=
  iprop((xLoc d ↦{tq c i} X d) ∗ (iLoc d ↦{tq c i} I d) ∗ Todo d (coordsV c i) (f d) 0)
def Out (d : Dev nD) (c : Fin 2) (i : Fin 16) : sProp 𝕄 :=
  iprop((xLoc d ↦{tq c i} X d) ∗ (iLoc d ↦{tq c i} I d) ∗ Done d (coordsV c i) (X d) (I d) 32)

instance In_storable (d : Dev nD) (c : Fin 2) (i : Fin 16) : BI.Storable (upEmb : UEmb _ 𝕄) (In X I f d c i) := by
  unfold In Todo; infer_instance
instance Out_storable (d : Dev nD) (c : Fin 2) (i : Fin 16) : BI.Storable (upEmb : UEmb _ 𝕄) (Out X I d c i) := by
  unfold Out Done; infer_instance

def P : (K (F := F)).Pay (nD := nD) (Val := Elt F) (Name := ℕ) (U := UU) where
  st := fun q d c => match q with | 0 => bigSep Finset.univ fun i : Fin 16 => In X I f d (Fin.cast nCore_zero c) i
  dn := fun q d c => match q with | 0 => bigSep Finset.univ fun i : Fin 16 => Out X I d (Fin.cast nCore_zero c) i
  go := fun q d c i => match q with | 0 => In X I f d (Fin.cast nCore_zero c) (Fin.cast nSub_zero i)
  td := fun q d c i => match q with | 0 => Out X I d (Fin.cast nCore_zero c) (Fin.cast nSub_zero i)
  x := fun _ _ => iprop(emp)

instance P_storable : (P (F := F) X I f).IsStorable where
  st q d c := match q with
    | 0 => (inferInstance : BI.Storable (upEmb : UEmb _ 𝕄) (bigSep Finset.univ fun i : Fin 16 => In X I f d (Fin.cast nCore_zero c) i))
  dn q d c := match q with
    | 0 => (inferInstance : BI.Storable (upEmb : UEmb _ 𝕄) (bigSep Finset.univ fun i : Fin 16 => Out X I d (Fin.cast nCore_zero c) i))
  go q d c i := match q with
    | 0 => (inferInstance : BI.Storable (upEmb : UEmb _ 𝕄) (In X I f d (Fin.cast nCore_zero c) (Fin.cast nSub_zero i)))
  td q d c i := match q with
    | 0 => (inferInstance : BI.Storable (upEmb : UEmb _ 𝕄) (Out X I d (Fin.cast nCore_zero c) (Fin.cast nSub_zero i)))

/-! ## The subcores' obligation -/

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe HA HB HC
  iexists W'; isplitr
  · ipureintro; exact fun p hp => (hW' p hp).imp_right Or.inl
  · iexact HO

variable [FloatOps F]

set_option maxRecDepth 65536 in
/-- The turns of the loop from what the launch hands a subcore: its scoped storage is its own buffers and cells. -/
theorem tile_obl (hF : (K (F := F)).Facts) (d : Dev nD) (L : grid1.Coords) (T : S262144x128.Idx → F .f32) (J : S32x32x128.Idx → BitVec 32)
    (O : CellTallies nD τ sig (HIx 1)) (W : Waits sig (HIx 1)) (hO : ∀ g, O g none = 0) (hJ : ∀ x, (J x).toNat < 262144) (f : S131072x128.Idx → F .f32) (q : PosShare TreeShare) :
    iprop(levAts (K (F := F)).L (K (F := F)).lev ∗ emp ∗ ((xLoc d ↦{q} T) ∗ (iLoc d ↦{q} J) ∗ Todo d L f 0) ∗ scopedBufs (tV d L) ∗ scopedSems0 (tV d L) ∗ owes (tV d L) O W)
      ⊢ wp frame (wpE (defs₀ (F := F)) 𝒱₀ (tV d L) none) Set.univ
          (cc1__sc_gather_body L xV (Memref.isWhole_whole _) iV (Memref.isWhole_whole _) oV (Memref.isWhole_whole _)
            sV (Memref.isWhole_whole _) rV (Memref.isWhole_whole _) cc1_scratch2 cc1_scratch3 cc1_scratch4 cc1_scratch5 cc1_scratch6 cc1_scratch7 cc1_scoped0)
          fun _ => iprop(((xLoc d ↦{q} T) ∗ (iLoc d ↦{q} J) ∗ Done d L T J 32) ∗ scopedBufs (tV d L) ∗ scopedSems0 (tV d L)
            ∗ ∃ W', ⌜∀ p ∈ W', p ∈ W ∨ p.2 = none⌝ ∗ owes (tV d L) O W') := by
  rw [(K (F := F)).scopedBufs_V hF d (cV L) (jV L), SparseCore.Cfg.scopedSems0_V (Val := Elt F) d (cV L) (jV L)]
  iintro ⟨#Hlv, -, H⟩
  iapply (tile_body d L T J O W hJ f q)
  isplitr
  · iapply (show levAts (K (F := F)).L (K (F := F)).lev ⊢ Transfers.MayWaits (tV d L) (default : HIx 1) O from
      (K (F := F)).mayWaits_none (thr := tV d L) hO) $$ Hlv
  iexact H

theorem defs₀_vector (c : Fin τ.nSC) (s : Fin τ.nSub) :
    defs₀ (F := F) (.scVector c s) 1 ()
      = SparseCore.onTile hcore1 hsub1 (fun c s => cc1__sc_gather_body (coordsV c s)
          xV (Memref.isWhole_whole _) iV (Memref.isWhole_whole _) oV (Memref.isWhole_whole _)
          sV (Memref.isWhole_whole _) rV (Memref.isWhole_whole _) cc1_scratch2 cc1_scratch3 cc1_scratch4 cc1_scratch5 cc1_scratch6 cc1_scratch7 cc1_scoped0)
          ⟨⟩ c s := rfl

set_option maxRecDepth 16384 in
theorem tileObl (hF : (K (F := F)).Facts) (hI : ∀ d x, (I d x).toNat < 262144) : (K (F := F)).TileObl (D (F := F)) 𝒱 (P X I f) v₀ 0 := by
  intro d c i O W hO _ _
  simp only [show (P X I f).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_obl hF d (coordsV ⟨_, hci.1⟩ ⟨_, hci.2⟩) (X d) (I d) O W hO (hI d) (f d) (tq c i)).trans (wp_mono frame _ _ fun _ => obl_post)

theorem vecSplit : (K (F := F)).VecSplit' (P X I f) 0 := by
  intro d c
  show (bigSep Finset.univ fun i : Fin 16 => In X I f d (Fin.cast nCore_zero c) i) ⊢ |={Set.univ}=> iprop(
      (bigSep Finset.univ fun i : Fin ((K (F := F)).nSub 0) => In X I f d (Fin.cast nCore_zero c) (Fin.cast nSub_zero i))
      ∗ ((bigSep Finset.univ fun i : Fin ((K (F := F)).nSub 0) => Out X I d (Fin.cast nCore_zero c) (Fin.cast nSub_zero i))
          -∗ bigSep Finset.univ fun i : Fin 16 => Out X I d (Fin.cast nCore_zero c) i))
  iintro H; imodintro
  isplitl [H]; · iexact H
  iintro H; iexact H

end Hand

/-! ## The result's 1024 chunks -/

abbrev chunkRect (r : Fin 1024) : Rect S131072x128 := Rect.part (s := S131072x128) (a₀ := 0) (n := 1024) ⟨128, rfl⟩ r

/-- The number of chunk `j` of subcore `i` of SparseCore `c` among all. -/
def num (p : Fin 2 × Fin 16 × Fin 32) : Fin 1024 := ⟨32 * (2 * p.2.1.val + p.1.val) + p.2.2.val, by omega⟩

theorem num_injective : Function.Injective num := by
  rintro ⟨c, i, j⟩ ⟨c', i', j'⟩ h
  have h : 32 * (2 * i.val + c.val) + j.val = 32 * (2 * i'.val + c'.val) + j'.val := congrArg Fin.val h
  have : c = c' ∧ i = i' ∧ j = j' := by simp only [Fin.ext_iff]; omega
  obtain ⟨rfl, rfl, rfl⟩ := this; rfl

theorem num_surjective (r : Fin 1024) : ∃ p, num p = r :=
  ⟨(⟨r.val / 32 % 2, by omega⟩, ⟨r.val / 64, by omega⟩, ⟨r.val % 32, by omega⟩), Fin.ext (by simp only [num]; omega)⟩

theorem outM_set (c : Fin 2) (i : Fin 16) (j : Fin 32) : (outM (coordsV c i) j.val j.isLt).view.set = (chunkRect (num (c, i, j))).set := by
  refine (View.set_slice_whole _ _).trans ?_
  have e : Rect.unit (s := S131072x128) (k1_off2 (coordsV c i) (BitVec.ofNat 32 (128 * j.val))) S128x128.size (k1_off2_inb (coordsV c i) j) = chunkRect (num (c, i, j)) := by
    unfold chunkRect Rect.part Rect.block
    congr 1 <;> funext a
    · rw [k1_off2_eq (coordsV c i) j]
      match a with
      | 0 =>
        simp [Shape.partIx, Shape.partSize, num, coordsV]; omega
      | 1 => simp [Shape.partIx, Shape.partSize]
    · match a with
      | 0 => simp [Shape.partSize]
      | 1 => simp [Shape.partSize]
  rw [e]

section Whole

variable (X : Dev nD → S262144x128.Idx → F .f32) (I : Dev nD → S32x32x128.Idx → BitVec 32)

set_option maxRecDepth 65536 in
theorem out_chunks (d : Dev nD) (f : S131072x128.Idx → F .f32) :
    (oLoc d ↦{fullShare} f : sProp 𝕄)
      = bigSep Finset.univ fun c : Fin 2 => bigSep Finset.univ fun i : Fin 16 => bigSep Finset.univ fun j : Fin 32 => OutAt d (coordsV c i) j.val j.isLt f := by
  have h : (Finset.univ : Finset (Fin 2 × Fin 16 × Fin 32)).biUnion (fun p => (chunkRect (num p)).set) = Finset.univ := by
    refine Finset.eq_univ_of_forall fun x => ?_
    obtain ⟨r, hr⟩ := Rect.exists_mem_part (s := S131072x128) (a₀ := 0) (n := 1024) ⟨128, rfl⟩ x
    obtain ⟨p, rfl⟩ := num_surjective r
    exact Finset.mem_biUnion.mpr ⟨p, Finset.mem_univ _, hr⟩
  have e := pointsTo_biUnion (q := fullShare) (f := f) (ℓ := oLoc d) (Val := Elt F) (Ix := HIx 1) (Name := ℕ) (U := UU) (Lvl := ℕ) (Finset.univ : Finset (Fin 2 × Fin 16 × Fin 32)) (fun p => (chunkRect (num p)).set)
    (fun a _ b _ hab => Rect.part_disjoint _ fun e => hab (num_injective e))
  rw [h, bigSep_univ_prod] at e
  refine e.trans (bigSep_congr fun c _ => (bigSep_univ_prod _).trans (bigSep_congr fun i _ => bigSep_congr fun j _ => ?_))
  show _ = OutAt d (coordsV c i) j.val j.isLt f
  unfold OutAt
  rw [outM_set]

theorem shares {ℓ : Loc nD τ sig} (g : Buf (Elt F) ℓ) :
    (ℓ ↦{fullShare} g : sProp 𝕄) = bigSep Finset.univ fun c : Fin 2 => bigSep Finset.univ fun i : Fin 16 => ℓ ↦{tq c i} g := by
  rw [pointsTo_leaves Finset.univ g 5 fullShare, bigSep_univ_equiv (finProdFinEquiv (m := 2) (n := 16)), bigSep_univ_prod]
  rfl

theorem todo_zero (d : Dev nD) (L : grid1.Coords) (f : S131072x128.Idx → F .f32) :
    (Todo d L f 0 : sProp 𝕄) = bigSep Finset.univ fun j : Fin 32 => OutAt d L j.val j.isLt f := by
  unfold Todo
  rw [show (Finset.univ.filter fun n : Fin 32 => 0 ≤ n.val) = Finset.univ by ext n; simp]

theorem done_all (d : Dev nD) (L : grid1.Coords) (T : S262144x128.Idx → F .f32) (J : S32x32x128.Idx → BitVec 32) :
    (Done d L T J 32 : sProp 𝕄) = bigSep Finset.univ fun j : Fin 32 => OutAt d L j.val j.isLt (G T J) := by
  unfold Done
  rw [show (Finset.univ.filter fun n : Fin 32 => n.val < 32) = Finset.univ by ext n; simp]

/-- The table, the lists and the result whole are what the two SparseCores are handed, -/
theorem give (f : Dev nD → S131072x128.Idx → F .f32) (d : Dev nD) :
    (iprop((xLoc d ↦{fullShare} X d) ∗ (iLoc d ↦{fullShare} I d) ∗ oLoc d ↦{fullShare} f d) : sProp 𝕄)
      = bigSep Finset.univ fun c : Fin ((K (F := F)).nCore 0) => (P X I f).st 0 d c := by
  show _ = bigSep Finset.univ fun c : Fin 2 => bigSep Finset.univ fun i : Fin 16 => In X I f d c i
  unfold In
  simp only [bigSep_sep', todo_zero]
  rw [shares (ℓ := xLoc d) (X d), shares (ℓ := iLoc d) (I d), out_chunks]

/-- and what they hand back is the three whole, the result at the gathered rows. -/
theorem back (f : Dev nD → S131072x128.Idx → F .f32) (d : Dev nD) :
    (bigSep Finset.univ fun c : Fin ((K (F := F)).nCore 0) => (P X I f).dn 0 d c)
      = (iprop((xLoc d ↦{fullShare} X d) ∗ (iLoc d ↦{fullShare} I d) ∗ oLoc d ↦{fullShare} G (X d) (I d)) : sProp 𝕄) := by
  show (bigSep Finset.univ fun c : Fin 2 => bigSep Finset.univ fun i : Fin 16 => Out X I d c i) = _
  unfold Out
  simp only [bigSep_sep', done_all]
  rw [shares (ℓ := xLoc d) (X d), shares (ℓ := iLoc d) (I d), out_chunks]

end Whole

/-! ## The launch element of the certificate's ghost state -/

/-- The TensorCore calls' staging cells live in the middle factor of the certificate's algebra. -/
def EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ 𝕄) := by unfold EP; infer_instance

abbrev uP : UR sig nD τ := initOf (Pipeline.cells (nD := nD) (τ := τ) cfgs cellOf_inj) (Pipeline.launchToks (nD := nD) (τ := τ) cfgs cellOf_inj)

def u₀ : UU := (initOf (K (F := F)).hsCells (K (F := F)).hsToks, (uP, 1))

/-- What the launch deals the TensorCore for the staging cells of its own calls. -/
abbrev GP (d : Dev nD) : sProp 𝕄 :=
  iprop((bigSep Finset.univ fun p : Fin 2 => Pipeline.cellsGhost cfgs (EP (F := F)) p d) ∗ bigSep Finset.univ fun p : Fin 2 => Pipeline.toksInit cfgs (EP (F := F)) p d)

theorem bigSep_emp' {β : Type} (s : Finset β) : (bigSep s fun _ => iprop(emp)) = (iprop(emp) : sProp 𝕄) := bigSep_emp_const s

theorem hu₀ (X : Dev nD → S262144x128.Idx → F .f32) (I : Dev nD → S32x32x128.Idx → BitVec 32) (f : Dev nD → S131072x128.Idx → F .f32) :
    (ownU (u₀ (F := F)) : sProp 𝕄)
    ⊢ |={Set.univ}=> iprop(BI.own (EH (initOf (K (F := F)).hsCells (K (F := F)).hsToks)) ∗ (bigSep Finset.univ fun d : Dev nD => GP (F := F) d)
        ∗ bigSep Finset.univ fun thr : Thread nD τ => bigSep Finset.univ fun q : Fin 1 => (P X I f).x q thr) := by
  unfold u₀
  iintro Hu
  ihave H := (ownU_pair (initOf (K (F := F)).hsCells (K (F := F)).hsToks) ((uP, 1) : UR sig nD τ × Counters)) $$ Hu
  icases H with ⟨HH, HR⟩
  ihave HR := (show (BI.own ((embR : Emb (UR sig nD τ × Counters) (MT nD τ sig (HIx 1) (Elt F) ℕ UU ℕ)) (uP, (1 : Counters))) : sProp 𝕄)
      ⊢ iprop(BI.own ((EP (F := F)) (initOf (Pipeline.cells (nD := nD) (τ := τ) cfgs cellOf_inj) (Pipeline.launchToks (nD := nD) (τ := τ) cfgs cellOf_inj))) ∗ BI.own (((Emb.inr : Emb Counters (UR sig nD τ × Counters)).trans embR) (1 : Counters)))
      from own_pair_emb _ _ _) $$ HR
  icases HR with ⟨HP, -⟩
  imod (Pipeline.fund_ghost (nD := nD) (τ := τ) cfgs (EP (F := F)) cellOf_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (P (F := F) X I f).x q thr) = bigSep Finset.univ fun _ => iprop(emp) from
    bigSep_congr fun _ _ => bigSep_univ_of_subsingleton (0 : Fin 1), bigSep_emp']
  iempintro

end Cert.Proof.KernelIdeal.Tile

end
-- ==== Proof.IdealStageA.lean ====
/-
  The first TensorCore call (gate and standardised values): its windows' blocks, what its body leaves in each result's block,
  and the obligation of its body at every point of the grid.
-/
module

public import proofs.«01_k».proof.Proof.IdealGather
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.Proof.KernelIdeal.StageA

open Cert.KernelIdeal Cert.KernelIdeal.Gen
open Cert.Proof.KernelIdeal.Tile (K UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Before the body, input window 0's staging buffer holds its block at every point, fetched there or not. -/
theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 1's staging buffer holds its block at every point, fetched there or not. -/
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 2's staging buffer holds its block at every point, fetched there or not. -/
theorem before0_2_of {c : Dev nD} (dat : Dat τ (Elt F) (HIx 1) ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 3's staging buffer holds its block at every point, fetched there or not. -/
theorem before0_3_of {c : Dev nD} (dat : Dat τ (Elt F) (HIx 1) ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Before the body, input window 4's staging buffer holds its block at every point, fetched there or not. -/
theorem before0_4_of {c : Dev nD} (dat : Dat τ (Elt F) (HIx 1) ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x1 := Rect.unit (s := S1024x1) ![0, 0] S1024x1.size inb_S1024x1_S1024x1_0_0
abbrev r0_3 : Rect S512x1 := Rect.unit (s := S512x1) ![0, 0] S512x1.size inb_S512x1_S512x1_0_0
abbrev r0_4 : Rect S1024x512 := Rect.unit (s := S1024x512) ![0, 0] S1024x512.size inb_S1024x512_S1024x512_0_0
abbrev r0_5 : Rect S512x512 := Rect.unit (s := S512x512) ![0, 0] S512x512.size inb_S512x512_S512x512_0_0

/-! ## What the body leaves in each output window's buffer -/

def k0_pay11 (x0 : Vec F S512x1024 .f32) (x1 : Vec F S1024x1 .f32) (x2 : Vec F S1024x512 .f32) (x3 : Vec F S1x1024 .f32) (x4 : Vec F S1x1024 .f32) : FVec F S512x512 .f32 :=
  k0_pay4 (View.ld x0 r0_0) (View.ld x4 r0_1) (View.ld x2 r0_4) -- `v31`

/-- Window 5's staging buffer after the body, from the input windows' blocks: its 1 store as pieces, LAST
    FIRST. -/
def out0_5 (x0 : Vec F S512x1024 .f32) (x1 : Vec F S1024x1 .f32) (x2 : Vec F S1024x512 .f32) (x3 : Vec F S1x1024 .f32) (x4 : Vec F S1x1024 .f32) : Vec F S512x512 .f32 :=
  View.canon [⟨r0_5, k0_pay1 (k0_pay11 x0 x1 x2 x3 x4) (k0_pay8 (k0_pay5 (View.ld x0 r0_0) (View.ld x4 r0_1) (View.ld x2 r0_4)) (k0_pay6 (View.ld x0 r0_0) (View.ld x4 r0_1) (View.ld x2 r0_4)) (k0_pay7 (F := F))) (k0_pay9 (k0_pay11 x0 x1 x2 x3 x4)) (k0_pay10 (k0_pay11 x0 x1 x2 x3 x4))⟩]

/-- Its stores tile the buffer (checked by evaluation), so they cover it. -/
theorem cover0_5 (p0 : Vec F S512x512 .f32) (y : S512x512.Idx) :
    ∃ pc ∈ ([⟨r0_5, p0⟩] : List (View.Piece (Elt F) S512x512 .f32)), y ∈ pc.1.set :=
  View.cover_of_tiled [⟨r0_5, p0⟩] S512x512.size (by rfl) y

/-- Window 6's staging buffer after the body, from the input windows' blocks: its 1 store as pieces, LAST
    FIRST. -/
def out0_6 (x0 : Vec F S512x1024 .f32) (x1 : Vec F S1024x1 .f32) (x2 : Vec F S1024x512 .f32) (x3 : Vec F S1x1024 .f32) (x4 : Vec F S1x1024 .f32) : Vec F S512x1 .f32 :=
  View.canon [⟨r0_3, k0_pay3 (View.ld x0 r0_0) (View.ld x3 r0_1) (View.ld x1 r0_2)⟩]

/-- Its stores tile the buffer (checked by evaluation), so they cover it. -/
theorem cover0_6 (p0 : Vec F S512x1 .f32) (y : S512x1.Idx) :
    ∃ pc ∈ ([⟨r0_3, p0⟩] : List (View.Piece (Elt F) S512x1 .f32)), y ∈ pc.1.set :=
  View.cover_of_tiled [⟨r0_3, p0⟩] S512x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S512x1024 .f32) (harg1 : arg1.IsWhole) (arg2 : Memref sig .tc .vmem S1024x1 .f32) (harg2 : arg2.IsWhole) (arg3 : Memref sig .tc .vmem S1024x512 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x512 .f32) (harg6 : arg6.IsWhole) (arg7 : Memref sig .tc .vmem S512x1 .f32) (harg7 : arg7.IsWhole)
    (x0 : Vec F S512x1024 .f32) (x1 : Vec F S1024x1 .f32) (x2 : Vec F S1024x512 .f32) (x3 : Vec F S1x1024 .f32) (x4 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__stage3a_body i arg1 harg1 arg2 harg2 arg3 harg3 arg4 harg4 arg5 harg5 arg6 harg6 arg7 harg7) K := by
  simp only [cc0__stage3a_body_eq_skeleton]; unfold cc0__stage3a_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The pipeline's proof data -/

/-- The proof data of pipeline 0 on core `c`: the arrays as the region finds them (`V`); after the body at
    point `t` each input's buffer at its block and each output's at `out0_W` of the input blocks; the invariant the
    class's (the scoped rest and the generator register, untouched); what the TensorCore owes the
    SparseCores stays as it is; full shares. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := iprop(Pipeline.scopedRest spec0 c ∗ ∃ r, prngReg c r)
  q _ := fullShare
  owed _ := (K (F := F)).Otc c 0
  recorded _ := {p | (K (F := F)).lev ((c : Thread nD τ), p.1) p.2 ≤ 0}

/-- The proof data's arrays are the contents at the call's entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, -/
def bodyPre0 (c : Dev nD) (t : Fin cfg0.N) : sProp 𝕄 :=
  iprop((dat0 V c).Φ t.castSucc ∗ (dat0 V c).owesAt none t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt none t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt none t.succ = (dat0 V c).owesAt none t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  rfl

/-- The library's body obligation, at every point: the body's triple restated. -/
theorem body_obligation0 (c : Dev nD) : BodyObligation (dat0 (F := F) V c) (defs₀ (F := F)) Variants.none none Set.univ := fun t => by
  rw [bigSep_W0, bigSep_W0, defs₀_row0]
  exact triple_restated (sound_body0 V c t) rfl .rfl fun _ => .rfl

end Cert.Proof.KernelIdeal.StageA

end
-- ==== Proof.IdealStageB.lean ====
/-
  The last TensorCore call (weighted sum of the gathered rows, blend, norm, projection): its windows' blocks, what its body
  leaves in the result's block, and the obligation of its body at every point of the grid.
-/
module

public import proofs.«01_k».proof.Proof.IdealGather
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic

@[expose] public section

set_option maxRecDepth 16384

noncomputable section

namespace Cert.Proof.KernelIdeal.StageB

open Cert.KernelIdeal Cert.KernelIdeal.Gen
open Cert.Proof.KernelIdeal.Tile (K UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the TensorCore's buffer contents when the call is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Before the body, input window 0's staging buffer holds its block at every point, fetched there or not. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Before the body, input window 1's staging buffer holds its block at every point, fetched there or not. -/
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Before the body, input window 2's staging buffer holds its block at every point, fetched there or not. -/
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Before the body, input window 3's staging buffer holds its block at every point, fetched there or not. -/
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Before the body, input window 4's staging buffer holds its block at every point, fetched there or not. -/
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Before the body, input window 5's staging buffer holds its block at every point, fetched there or not. -/
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S32x512 := Rect.unit (s := S32x512) ![0, 0] S32x512.size inb_S32x512_S32x512_0_0
abbrev r2_1 : Rect S512x1 := Rect.unit (s := S512x1) ![0, 0] S512x1.size inb_S512x1_S512x1_0_0
abbrev r2_2 : Rect S512x512 := Rect.unit (s := S512x512) ![0, 0] S512x512.size inb_S512x512_S512x512_0_0
abbrev r2_3 : Rect S32x512x128 := Rect.unit (s := S32x512x128) ![0, 0, 0] S1x512x128.size inb_S32x512x128_S1x512x128_0_0_0
abbrev r2_4 : Rect S32x512x128 := Rect.unit (s := S32x512x128) ![1, 0, 0] S1x512x128.size inb_S32x512x128_S1x512x128_1_0_0
abbrev r2_5 : Rect S32x512x128 := Rect.unit (s := S32x512x128) ![2, 0, 0] S1x512x128.size inb_S32x512x128_S1x512x128_2_0_0
abbrev r2_6 : Rect S32x512x128 := Rect.unit (s := S32x512x128) ![3, 0, 0] S1x512x128.size inb_S32x512x128_S1x512x128_3_0_0
abbrev r2_7 : Rect S32x512x128 := Rect.unit (s := S32x512x128) ![4, 0, 0] S1x512x128.size inb_S32x512x128_S1x512x128_4_0_0
abbrev r2_8 : Rect S32x512x128 := Rect.unit (s := S32x512x128) ![5, 0, 0] S1x512x128.size inb_S32x512x128_S1x512x128_5_0_0
abbrev r2_9 : Rect S32x512x128 := Rect.unit (s := S32x512x128) ![6, 0, 0] S1x512x128.size inb_S32x512x128_S1x512x128_6_0_0
abbrev r2_10 : Rect S32x512x128 := Rect.unit (s := S32x512x128) ![7, 0, 0] S1x512x128.size inb_S32x512x128_S1x512x128_7_0_0
abbrev r2_11 : Rect S32x512x128 := Rect.unit (s := S32x512x128) ![8, 0, 0] S1x512x128.size inb_S32x512x128_S1x512x128_8_0_0
abbrev r2_12 : Rect S32x512x128 := Rect.unit (s := S32x512x128) ![9, 0, 0] S1x512x128.size inb_S32x512x128_S1x512x128_9_0_0
abbrev r2_13 : Rect S32x512x128 := Rect.unit (s := S32x512x128) ![10, 0, 0] S1x512x128.size inb_S32x512x128_S1x512x128_10_0_0
abbrev r2_14 : Rect S32x512x128 := Rect.unit (s := S32x512x128) ![11, 0, 0] S1x512x128.size inb_S32x512x128_S1x512x128_11_0_0
abbrev r2_15 : Rect S32x512x128 := Rect.unit (s := S32x512x128) ![12, 0, 0] S1x512x128.size inb_S32x512x128_S1x512x128_12_0_0
abbrev r2_16 : Rect S32x512x128 := Rect.unit (s := S32x512x128) ![13, 0, 0] S1x512x128.size inb_S32x512x128_S1x512x128_13_0_0
abbrev r2_17 : Rect S32x512x128 := Rect.unit (s := S32x512x128) ![14, 0, 0] S1x512x128.size inb_S32x512x128_S1x512x128_14_0_0
abbrev r2_18 : Rect S32x512x128 := Rect.unit (s := S32x512x128) ![15, 0, 0] S1x512x128.size inb_S32x512x128_S1x512x128_15_0_0
abbrev r2_19 : Rect S32x512x128 := Rect.unit (s := S32x512x128) ![16, 0, 0] S1x512x128.size inb_S32x512x128_S1x512x128_16_0_0
abbrev r2_20 : Rect S32x512x128 := Rect.unit (s := S32x512x128) ![17, 0, 0] S1x512x128.size inb_S32x512x128_S1x512x128_17_0_0
abbrev r2_21 : Rect S32x512x128 := Rect.unit (s := S32x512x128) ![18, 0, 0] S1x512x128.size inb_S32x512x128_S1x512x128_18_0_0
abbrev r2_22 : Rect S32x512x128 := Rect.unit (s := S32x512x128) ![19, 0, 0] S1x512x128.size inb_S32x512x128_S1x512x128_19_0_0
abbrev r2_23 : Rect S32x512x128 := Rect.unit (s := S32x512x128) ![20, 0, 0] S1x512x128.size inb_S32x512x128_S1x512x128_20_0_0
abbrev r2_24 : Rect S32x512x128 := Rect.unit (s := S32x512x128) ![21, 0, 0] S1x512x128.size inb_S32x512x128_S1x512x128_21_0_0
abbrev r2_25 : Rect S32x512x128 := Rect.unit (s := S32x512x128) ![22, 0, 0] S1x512x128.size inb_S32x512x128_S1x512x128_22_0_0
abbrev r2_26 : Rect S32x512x128 := Rect.unit (s := S32x512x128) ![23, 0, 0] S1x512x128.size inb_S32x512x128_S1x512x128_23_0_0
abbrev r2_27 : Rect S32x512x128 := Rect.unit (s := S32x512x128) ![24, 0, 0] S1x512x128.size inb_S32x512x128_S1x512x128_24_0_0
abbrev r2_28 : Rect S32x512x128 := Rect.unit (s := S32x512x128) ![25, 0, 0] S1x512x128.size inb_S32x512x128_S1x512x128_25_0_0
abbrev r2_29 : Rect S32x512x128 := Rect.unit (s := S32x512x128) ![26, 0, 0] S1x512x128.size inb_S32x512x128_S1x512x128_26_0_0
abbrev r2_30 : Rect S32x512x128 := Rect.unit (s := S32x512x128) ![27, 0, 0] S1x512x128.size inb_S32x512x128_S1x512x128_27_0_0
abbrev r2_31 : Rect S32x512x128 := Rect.unit (s := S32x512x128) ![28, 0, 0] S1x512x128.size inb_S32x512x128_S1x512x128_28_0_0
abbrev r2_32 : Rect S32x512x128 := Rect.unit (s := S32x512x128) ![29, 0, 0] S1x512x128.size inb_S32x512x128_S1x512x128_29_0_0
abbrev r2_33 : Rect S32x512x128 := Rect.unit (s := S32x512x128) ![30, 0, 0] S1x512x128.size inb_S32x512x128_S1x512x128_30_0_0
abbrev r2_34 : Rect S32x512x128 := Rect.unit (s := S32x512x128) ![31, 0, 0] S1x512x128.size inb_S32x512x128_S1x512x128_31_0_0
abbrev r2_35 : Rect S1x512 := Rect.unit (s := S1x512) ![0, 0] S1x512.size inb_S1x512_S1x512_0_0
abbrev r2_36 : Rect S512x1024 := Rect.unit (s := S512x1024) ![0, 0] S512x1024.size inb_S512x1024_S512x1024_0_0

/-! ## What the body leaves in each output window's buffer -/

def k2_pay18 (x0 : Vec F S32x512x128 .f32) (x1 : Vec F S32x512 .f32) (x2 : Vec F S512x512 .f32) (x3 : Vec F S512x1 .f32) (x4 : Vec F S512x1024 .f32) (x5 : Vec F S1x512 .f32) : FVec F S512x32 .f32 :=
  k2_pay1 (View.ld x1 r2_0) -- `v1`
def k2_pay19 (x0 : Vec F S32x512x128 .f32) (x1 : Vec F S32x512 .f32) (x2 : Vec F S512x512 .f32) (x3 : Vec F S512x1 .f32) (x4 : Vec F S512x1024 .f32) (x5 : Vec F S1x512 .f32) : FVec F S512x1 .f32 :=
  k2_pay2 (View.ld x3 r2_1) -- `v3`
def k2_pay20 (x0 : Vec F S32x512x128 .f32) (x1 : Vec F S32x512 .f32) (x2 : Vec F S512x512 .f32) (x3 : Vec F S512x1 .f32) (x4 : Vec F S512x1024 .f32) (x5 : Vec F S1x512 .f32) : FVec F S512x512 .f32 :=
  k2_pay3 (View.ld x2 r2_2) -- `v5`

/-- Window 6's staging buffer after the body, from the input windows' blocks: its 1 store as pieces, LAST
    FIRST. -/
def out2_6 (x0 : Vec F S32x512x128 .f32) (x1 : Vec F S32x512 .f32) (x2 : Vec F S512x512 .f32) (x3 : Vec F S512x1 .f32) (x4 : Vec F S512x1024 .f32) (x5 : Vec F S1x512 .f32) : Vec F S512x1024 .f32 :=
  View.canon [⟨r2_36, k2_pay17 (k2_pay18 x0 x1 x2 x3 x4 x5) (k2_pay19 x0 x1 x2 x3 x4 x5) (k2_pay20 x0 x1 x2 x3 x4 x5) (k2_pay5 (k2_pay18 x0 x1 x2 x3 x4 x5) (k2_pay19 x0 x1 x2 x3 x4 x5) (k2_pay20 x0 x1 x2 x3 x4 x5) (k2_pay4 (View.ld x1 r2_0) (View.ld x0 r2_3) (View.ld x0 r2_4) (View.ld x0 r2_5) (View.ld x0 r2_6) (View.ld x0 r2_7)) (View.ld x0 r2_8) (View.ld x0 r2_9) (View.ld x0 r2_10)) (k2_pay8 (k2_pay18 x0 x1 x2 x3 x4 x5) (k2_pay19 x0 x1 x2 x3 x4 x5) (k2_pay20 x0 x1 x2 x3 x4 x5) (k2_pay6 (k2_pay18 x0 x1 x2 x3 x4 x5) (View.ld x0 r2_11) (View.ld x0 r2_12)) (k2_pay7 (k2_pay18 x0 x1 x2 x3 x4 x5) (View.ld x0 r2_13)) (View.ld x0 r2_14) (View.ld x0 r2_15) (View.ld x0 r2_16) (View.ld x0 r2_17) (View.ld x0 r2_18)) (k2_pay14 (k2_pay19 x0 x1 x2 x3 x4 x5) (k2_pay20 x0 x1 x2 x3 x4 x5) (k2_pay12 (k2_pay18 x0 x1 x2 x3 x4 x5) (k2_pay9 (F := F)) (k2_pay10 (View.ld x0 r2_19)) (k2_pay11 (k2_pay18 x0 x1 x2 x3 x4 x5)) (View.ld x0 r2_20) (View.ld x0 r2_21) (View.ld x0 r2_22) (View.ld x0 r2_23) (View.ld x0 r2_24) (View.ld x0 r2_25)) (k2_pay13 (k2_pay18 x0 x1 x2 x3 x4 x5)) (View.ld x0 r2_26)) (k2_pay15 (k2_pay18 x0 x1 x2 x3 x4 x5) (View.ld x0 r2_27) (View.ld x0 r2_28) (View.ld x0 r2_29) (View.ld x0 r2_30) (View.ld x0 r2_31)) (k2_pay16 (k2_pay18 x0 x1 x2 x3 x4 x5)) (View.ld x0 r2_32) (View.ld x0 r2_33) (View.ld x0 r2_34) (View.ld x5 r2_35) (View.ld x4 r2_36)⟩]

/-- Its stores tile the buffer (checked by evaluation), so they cover it. -/
theorem cover2_6 (p0 : Vec F S512x1024 .f32) (y : S512x1024.Idx) :
    ∃ pc ∈ ([⟨r2_36, p0⟩] : List (View.Piece (Elt F) S512x1024 .f32)), y ∈ pc.1.set :=
  View.cover_of_tiled [⟨r2_36, p0⟩] S512x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel2 (c : Dev nD) (E : Set ℕ) (i : grid2.Coords) (arg1 : Memref sig .tc .vmem S32x512x128 .f32) (harg1 : arg1.IsWhole) (arg2 : Memref sig .tc .vmem S32x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S512x1024 .f32) (harg5 : arg5.IsWhole) (arg6 : Memref sig .tc .vmem S1x512 .f32) (harg6 : arg6.IsWhole) (arg7 : Memref sig .tc .vmem S512x1024 .f32) (harg7 : arg7.IsWhole)
    (x0 : Vec F S32x512x128 .f32) (x1 : Vec F S32x512 .f32) (x2 : Vec F S512x512 .f32) (x3 : Vec F S512x1 .f32) (x4 : Vec F S512x1024 .f32) (x5 : Vec F S1x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__stage3b_body i arg1 harg1 arg2 harg2 arg3 harg3 arg4 harg4 arg5 harg5 arg6 harg6 arg7 harg7) K := by
  simp only [cc2__stage3b_body_eq_skeleton]; unfold cc2__stage3b_body_skel
  simp only [k2_part6_eq_skeleton, k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover2_6 _)).trans ?_
  rfl

/-! ## The pipeline's proof data -/

/-- The proof data of pipeline 1 on core `c`: the arrays as the region finds them (`V`); after the body at
    point `t` each input's buffer at its block and each output's at `out2_W` of the input blocks; the invariant the
    class's (the scoped rest and the generator register, untouched); what the TensorCore owes the
    SparseCores stays as it is; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := iprop(Pipeline.scopedRest spec2 c ∗ ∃ r, prngReg c r)
  q _ := fullShare
  owed _ := (K (F := F)).Otc c 1
  recorded _ := {p | (K (F := F)).lev ((c : Thread nD τ), p.1) p.2 ≤ 8}

/-- The proof data's arrays are the contents at the call's entry. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t`, -/
def bodyPre2 (c : Dev nD) (t : Fin cfg2.N) : sProp 𝕄 :=
  iprop((dat2 V c).Φ t.castSucc ∗ (dat2 V c).owesAt none t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt none t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt2` spells it. -/
theorem defs₀_row2 (t : Fin cfg2.N) :
    defs₀ (F := F) .tc cfg2.body (cfg2.bodyArgs t (cfg2.slots t)) = bodyAt2 t := by
  rfl

/-- The library's body obligation, at every point: the body's triple restated. -/
theorem body_obligation2 (c : Dev nD) : BodyObligation (dat2 (F := F) V c) (defs₀ (F := F)) Variants.none none Set.univ := fun t => by
  rw [bigSep_W2, bigSep_W2, defs₀_row2]
  exact triple_restated (sound_body2 V c t) rfl .rfl fun _ => .rfl

end Cert.Proof.KernelIdeal.StageB

end
-- ==== Proof.IdealRegions.lean ====
/-
  The two TensorCore calls of @main, each run as one step on the TensorCore: from every buffer of the device at the call's
  entry contents to every buffer at its exit contents, the core's dues to the SparseCores and the bound on what it has
  waited for carried across unchanged.
-/
module

public import proofs.«01_k».proof.Proof.IdealStageA
public import proofs.«01_k».proof.Proof.IdealStageB
public import Idealize.ShloMosaic.Lib.Pipeline.Frame
public import Idealize.ShloMosaic.Lib.Pipeline.RegionsLoop
public import Idealize.ShloMosaic.Lib.Pipeline.FrameSuffix

@[expose] public section

set_option maxRecDepth 16384

noncomputable section

namespace Cert.Proof.KernelIdeal.Regions

open Cert.KernelIdeal Cert.KernelIdeal.Gen
open Cert.Proof.KernelIdeal.Tile (K UU D 𝒱 𝒱₀ EP EP_landsIn)
open Cert.Proof.KernelIdeal.StageA (dat0 A_eq0 body_obligation0)
open Cert.Proof.KernelIdeal.StageB (dat2 A_eq2 body_obligation2)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- every buffer's contents as each call is entered
variable (WA WB : Dev nD → Valuation τ sig (Elt F))

/-- The same contents read at the TensorCore's references. -/
abbrev tcv (W : Dev nD → Valuation τ sig (Elt F)) : (c : Dev nD) → (b : Ref sig .tc) → Buf (Elt F) ((c : Thread nD τ).loc b) := fun c b => W c b

abbrev adm : (p : Fin 2) → (pcfgs (F := F) p).Adm := fun p => (cfgs p).toPCfg_adm

/-- Both calls' proof data, each at its entry contents. -/
def pdats : (p : Fin 2) → (c : Dev nD) → Dat τ (Elt F) (HIx 1) ℕ UU ℕ (Pipeline.pin (pcfgs (F := F)) adm p) c
  | ⟨0, _⟩ => fun c => dat0 (tcv WA) c
  | ⟨1, _⟩ => fun c => dat2 (tcv WB) c

/-- What rides beside the buffers: the generator register, and what the core owes before SparseCore call `n` with the
    bound on what it has waited for. -/
abbrev R (n : ℕ) (c : Dev nD) : sProp 𝕄 :=
  iprop((∃ r, prngReg c r) ∗ ∃ W, ⌜(K (F := F)).WBelow (SparseCore.T c) W (8 * n)⌝ ∗ owes (c : Thread nD τ) ((K (F := F)).Otc c n) W)

/-- A call's statement of @main is the call of the kernel's own table, lifted. -/
theorem call_eq (p : Fin 2) :
    (Prog.lift (.customCall (SparseCore.inner (Pipeline.entry p)) ()) : Prog (TpuEff nD τ sig (Elt F) (SparseCore.Sig (Pipeline.Sig Λ₀ (Fin 2) fun p => (pcfgs (F := F) p).Adm) 1) .tc) PUnit)
      = SparseCore.liftProg (Prog.lift (.customCall (Pipeline.entry p) ())) := rfl

/-! ## Call 0 -/

/-- Every buffer's contents when call 0 has ended: its arrays at what it leaves, every other as entered. -/
def exit0 (c : Dev nD) : Valuation τ sig (Elt F) :=
  Pipeline.withArrays spec0 c (WA c) fun w => (dat0 (tcv WA) c).arrAt w cfg0.N
theorem exit0_arr (c : Dev nD) (w : Fin cfg0.W) :
    exit0 WA c (Proc.devRef .tc (Pipeline.arrRef spec0 w)) = (dat0 (tcv WA) c).arrAt w cfg0.N := by
  unfold exit0; exact Pipeline.withArrays_arr spec0 launch0.win.arr_inj c _ _ w
theorem exit0_of_ne (c : Dev nD) (b : Ref sig .tc) (hb : ∀ w, Pipeline.arrRef spec0 w ≠ b) :
    exit0 WA c (Proc.devRef .tc b) = WA c (Proc.devRef .tc b) := by
  unfold exit0; exact Pipeline.withArrays_of_ne spec0 c _ _ b hb
/-- What is none of the call's results keeps its contents across it. -/
theorem exit0_of (c : Dev nD) (r : Ref sig .tc) (h : ∀ w : Fin cfg0.W, Pipeline.arrRef spec0 w = r → (cfg0.win w).isOut = false) :
    exit0 WA c (Proc.devRef .tc r) = WA c (Proc.devRef .tc r) := by
  by_cases hw : ∃ w : Fin cfg0.W, Pipeline.arrRef spec0 w = r
  · obtain ⟨w, rfl⟩ := hw
    exact (exit0_arr WA c w).trans (((dat0 (tcv WA) c).arrAt_in w (h w rfl) _).trans (A_eq0 (tcv WA) c w))
  · exact exit0_of_ne WA c r fun w e => hw ⟨w, e⟩

set_option backward.isDefEq.respectTransparency.types false in
/-- The call as a step from `held … WA` to `held … (exit0 WA)`. -/
def reg0 : Pipeline.RegionSeg (pcfgs (F := F)) adm (pdats WA WB) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (tcv WA) c).loose
  hwaits c := Pipeline.cellsWaits_of_cut (Pipeline.pin (pcfgs (F := F)) adm) (pdats WA WB) none 0 c (8 * 0) ((K (F := F)).Otc c 0) (fun _ => rfl)
    (fun _ _ => Finset.mem_univ _) (fun _ _ => Nat.zero_le _) (fun g i h => ⟨Finset.mem_univ _, Nat.lt_of_lt_of_le (Nat.succ_pos _) (SparseCore.Cfg.lev_of_Otc_pos h)⟩)
  pre c := iprop(StableHlo.held (c : Thread nD τ) (Pipeline.ucRefs τ sig) (WA c) ∗ R (F := F) 0 c)
  post c := iprop(StableHlo.held (c : Thread nD τ) (Pipeline.ucRefs τ sig) (exit0 WA c) ∗ R (F := F) 0 c)
  X c := iprop(∃ r, prngReg c r)
  Y c := iprop(∃ r, prngReg c r)
  Z c := Pipeline.unscopedRest (Ix := HIx 1) (Name := ℕ) (U := UU) (Lvl := ℕ) spec0 c (tcv WA c)
  hentry c := by
    rw [Pipeline.ownSems0_none]
    have hsplit := Pipeline.arrays_of_unscopedBufs (p := 0) (pcfgs (F := F)) adm (pdats WA WB) launch0.win launch0.arr_whole c
      ((pdats WA WB 0 c).share_full fun _ => rfl) (tcv WA c) (A_eq0 (tcv WA) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats WA WB 0 c).Φ 0 = iprop(Pipeline.scopedRest spec0 c ∗ ∃ r, prngReg c r) from rfl]
    iintro ⟨Hp, -, Hr⟩
    isplitl [Hr]; · iexact Hr
    iexact Hp
  hout c := by
    rw [Pipeline.ownSems0_none, show (pdats WA WB 0 c).Φ (Fin.last _) = iprop(Pipeline.scopedRest spec0 c ∗ ∃ r, prngReg c r) from rfl]
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats WA WB) ((pdats WA WB 0 c).share_full fun _ => rfl)
      (tcv WA c) (tcv (exit0 WA) c) ((pdats WA WB 0 c).arrAt · cfg0.N) (fun w => (exit0_arr WA c w).symm)
      (fun b hb => exit0_of_ne WA c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-- The call's statement of @main, run from the boundary and every buffer at its entry contents. -/
theorem wp_call0 (κ : GSem nD τ sig → ℕ) (c : Dev nD) {Φ : PUnit → sProp 𝕄} [∀ e, Nonempty (Elt F e)] :
    iprop((iprop(boundary (c.tc : Thread nD τ) ∗ StableHlo.held (c : Thread nD τ) (Pipeline.ucRefs τ sig) (exit0 WA c) ∗ R (F := F) 0 c) -∗ Φ ⟨⟩)
        ∗ boundary (c.tc : Thread nD τ) ∗ (StableHlo.held (c : Thread nD τ) (Pipeline.ucRefs τ sig) (WA c) ∗ R (F := F) 0 c)
        ∗ levAts (K (F := F)).L (K (F := F)).lev
        ∗ Pipeline.cellsGhost cfgs (EP (F := F)) 0 c ∗ Pipeline.toksInit cfgs (EP (F := F)) 0 c)
      ⊢ wp frame (wpE ((K (F := F)).defs (D (F := F))) 𝒱 (SparseCore.T c) none) Set.univ
          (Prog.lift (.customCall (SparseCore.inner (Pipeline.entry 0)) ())) Φ := by
  rw [call_eq]
  refine BIBase.Entails.trans ?_ ((K (F := F)).wp_liftProg (D (F := F)) 𝒱 (SparseCore.T c) Set.univ none _ Φ)
  refine BIBase.Entails.trans ?_ (Pipeline.RegionSeg.wp (pcfgs (F := F)) adm (pdats WA WA) none cellOf_inj (EP (F := F)) defs₀ 𝒱₀ (K (F := F)).L (K (F := F)).lev
    (reg0 WA WA) c none (fun _ h => nomatch h) Prog.ret Φ)
  rw [show (reg0 WA WA).pre c = iprop(StableHlo.held (c : Thread nD τ) (Pipeline.ucRefs τ sig) (WA c) ∗ R (F := F) 0 c) from rfl,
    show (reg0 WA WA).post c = iprop(StableHlo.held (c : Thread nD τ) (Pipeline.ucRefs τ sig) (exit0 WA c) ∗ R (F := F) 0 c) from rfl]
  iintro ⟨Hk, Hb, Hpre, Hlev, Hg, Ht⟩
  isplitl [Hk]
  · iintro H
    rw [wp_ret]
    imodintro
    iapply Hk
    iexact H
  isplitl [Hb]; · iexact Hb
  isplitl [Hpre]; · iexact Hpre
  isplitl [Hlev]; · iexact Hlev
  isplitl [Hg]; · iexact Hg
  iexact Ht

/-! ## Call 2 -/

/-- Every buffer's contents when call 2 has ended: its arrays at what it leaves, every other as entered. -/
def exit2 (c : Dev nD) : Valuation τ sig (Elt F) :=
  Pipeline.withArrays spec2 c (WB c) fun w => (dat2 (tcv WB) c).arrAt w cfg2.N
theorem exit2_arr (c : Dev nD) (w : Fin cfg2.W) :
    exit2 WB c (Proc.devRef .tc (Pipeline.arrRef spec2 w)) = (dat2 (tcv WB) c).arrAt w cfg2.N := by
  unfold exit2; exact Pipeline.withArrays_arr spec2 launch2.win.arr_inj c _ _ w
theorem exit2_of_ne (c : Dev nD) (b : Ref sig .tc) (hb : ∀ w, Pipeline.arrRef spec2 w ≠ b) :
    exit2 WB c (Proc.devRef .tc b) = WB c (Proc.devRef .tc b) := by
  unfold exit2; exact Pipeline.withArrays_of_ne spec2 c _ _ b hb
/-- What is none of the call's results keeps its contents across it. -/
theorem exit2_of (c : Dev nD) (r : Ref sig .tc) (h : ∀ w : Fin cfg2.W, Pipeline.arrRef spec2 w = r → (cfg2.win w).isOut = false) :
    exit2 WB c (Proc.devRef .tc r) = WB c (Proc.devRef .tc r) := by
  by_cases hw : ∃ w : Fin cfg2.W, Pipeline.arrRef spec2 w = r
  · obtain ⟨w, rfl⟩ := hw
    exact (exit2_arr WB c w).trans (((dat2 (tcv WB) c).arrAt_in w (h w rfl) _).trans (A_eq2 (tcv WB) c w))
  · exact exit2_of_ne WB c r fun w e => hw ⟨w, e⟩

set_option backward.isDefEq.respectTransparency.types false in
/-- The call as a step from `held … WB` to `held … (exit2 WB)`. -/
def reg2 : Pipeline.RegionSeg (pcfgs (F := F)) adm (pdats WA WB) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (tcv WB) c).loose
  hwaits c := Pipeline.cellsWaits_of_cut (Pipeline.pin (pcfgs (F := F)) adm) (pdats WA WB) none 1 c (8 * 1) ((K (F := F)).Otc c 1) (fun _ => rfl)
    (fun _ _ => Finset.mem_univ _) (fun _ _ => Nat.zero_le _) (fun g i h => ⟨Finset.mem_univ _, absurd h (by rw [SparseCore.Cfg.Otc_end _ _ le_rfl]; exact Nat.lt_irrefl 0)⟩)
  pre c := iprop(StableHlo.held (c : Thread nD τ) (Pipeline.ucRefs τ sig) (WB c) ∗ R (F := F) 1 c)
  post c := iprop(StableHlo.held (c : Thread nD τ) (Pipeline.ucRefs τ sig) (exit2 WB c) ∗ R (F := F) 1 c)
  X c := iprop(∃ r, prngReg c r)
  Y c := iprop(∃ r, prngReg c r)
  Z c := Pipeline.unscopedRest (Ix := HIx 1) (Name := ℕ) (U := UU) (Lvl := ℕ) spec2 c (tcv WB c)
  hentry c := by
    rw [Pipeline.ownSems0_none]
    have hsplit := Pipeline.arrays_of_unscopedBufs (p := 1) (pcfgs (F := F)) adm (pdats WA WB) launch2.win launch2.arr_whole c
      ((pdats WA WB 1 c).share_full fun _ => rfl) (tcv WB c) (A_eq2 (tcv WB) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats WA WB 1 c).Φ 0 = iprop(Pipeline.scopedRest spec2 c ∗ ∃ r, prngReg c r) from rfl]
    iintro ⟨Hp, -, Hr⟩
    isplitl [Hr]; · iexact Hr
    iexact Hp
  hout c := by
    rw [Pipeline.ownSems0_none, show (pdats WA WB 1 c).Φ (Fin.last _) = iprop(Pipeline.scopedRest spec2 c ∗ ∃ r, prngReg c r) from rfl]
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats WA WB) ((pdats WA WB 1 c).share_full fun _ => rfl)
      (tcv WB c) (tcv (exit2 WB) c) ((pdats WA WB 1 c).arrAt · cfg2.N) (fun w => (exit2_arr WB c w).symm)
      (fun b hb => exit2_of_ne WB c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

/-- The call's statement of @main, run from the boundary and every buffer at its entry contents. -/
theorem wp_call2 (κ : GSem nD τ sig → ℕ) (c : Dev nD) {Φ : PUnit → sProp 𝕄} [∀ e, Nonempty (Elt F e)] :
    iprop((iprop(boundary (c.tc : Thread nD τ) ∗ StableHlo.held (c : Thread nD τ) (Pipeline.ucRefs τ sig) (exit2 WB c) ∗ R (F := F) 1 c) -∗ Φ ⟨⟩)
        ∗ boundary (c.tc : Thread nD τ) ∗ (StableHlo.held (c : Thread nD τ) (Pipeline.ucRefs τ sig) (WB c) ∗ R (F := F) 1 c)
        ∗ levAts (K (F := F)).L (K (F := F)).lev
        ∗ Pipeline.cellsGhost cfgs (EP (F := F)) 1 c ∗ Pipeline.toksInit cfgs (EP (F := F)) 1 c)
      ⊢ wp frame (wpE ((K (F := F)).defs (D (F := F))) 𝒱 (SparseCore.T c) none) Set.univ
          (Prog.lift (.customCall (SparseCore.inner (Pipeline.entry 1)) ())) Φ := by
  rw [call_eq]
  refine BIBase.Entails.trans ?_ ((K (F := F)).wp_liftProg (D (F := F)) 𝒱 (SparseCore.T c) Set.univ none _ Φ)
  refine BIBase.Entails.trans ?_ (Pipeline.RegionSeg.wp (pcfgs (F := F)) adm (pdats WB WB) none cellOf_inj (EP (F := F)) defs₀ 𝒱₀ (K (F := F)).L (K (F := F)).lev
    (reg2 WB WB) c none (fun _ h => nomatch h) Prog.ret Φ)
  rw [show (reg2 WB WB).pre c = iprop(StableHlo.held (c : Thread nD τ) (Pipeline.ucRefs τ sig) (WB c) ∗ R (F := F) 1 c) from rfl,
    show (reg2 WB WB).post c = iprop(StableHlo.held (c : Thread nD τ) (Pipeline.ucRefs τ sig) (exit2 WB c) ∗ R (F := F) 1 c) from rfl]
  iintro ⟨Hk, Hb, Hpre, Hlev, Hg, Ht⟩
  isplitl [Hk]
  · iintro H
    rw [wp_ret]
    imodintro
    iapply Hk
    iexact H
  isplitl [Hb]; · iexact Hb
  isplitl [Hpre]; · iexact Hpre
  isplitl [Hlev]; · iexact Hlev
  isplitl [Hg]; · iexact Hg
  iexact Ht

end Cert.Proof.KernelIdeal.Regions

end
-- ==== Proof.IdealRun.lean ====
/-
  The program's run: the reshapes of @main, the two TensorCore calls and the gather call between them, and what memory
  holds when all has stopped — every buffer at the contents `W6`, every semaphore at zero.
-/
module

public import proofs.«01_k».proof.Proof.IdealRegions

@[expose] public section

set_option maxRecDepth 16384

noncomputable section

namespace Cert.Proof.KernelIdeal.Run

open Cert.KernelIdeal Cert.KernelIdeal.Gen Cert.Proof.KernelIdeal.Tile Cert.Proof.KernelIdeal.Regions

open Idealize.ShloMosaic Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## @main -/

abbrev opsA : List (HloOp τ sig (Elt F)) :=
  [ StableHlo.reshape main_arg0 main_v0 (rfl : (.f32 : EltTy) = .f32) shapeCasts_S2x2048x1024_S4096x1024,
    StableHlo.reshape main_arg1 main_v1 (rfl : (.f32 : EltTy) = .f32) shapeCasts_S65536x4x128_S262144x128,
    StableHlo.reshape main_arg7 main_v2 (rfl : (.f32 : EltTy) = .f32) shapeCasts_S1024_S1x1024,
    StableHlo.reshape main_arg8 main_v3 (rfl : (.f32 : EltTy) = .f32) shapeCasts_S1024_S1x1024 ]
abbrev opsB : List (HloOp τ sig (Elt F)) :=
  [ StableHlo.reshape main_arg2 main_v5 (rfl : (.i32 : EltTy) = .i32) shapeCasts_S32x4096_S32x32x128 ]
abbrev opsC : List (HloOp τ sig (Elt F)) :=
  [ StableHlo.reshape main_v6 main_v7 (rfl : (.f32 : EltTy) = .f32) shapeCasts_S131072x128_S32x4096x128,
    StableHlo.reshape main_arg9 main_v8 (rfl : (.f32 : EltTy) = .f32) shapeCasts_S512_S1x512 ]

theorem main_eq (d : Dev nD) : main (F := F) d = StableHlo.seq opsA >>= fun _ =>
    Prog.lift (.customCall (SparseCore.inner (Pipeline.entry 0)) ()) >>= fun _ =>
    StableHlo.seq opsB >>= fun _ => (K (F := F)).run d 0 >>= fun _ => StableHlo.seq opsC >>= fun _ =>
    Prog.lift (.customCall (SparseCore.inner (Pipeline.entry 1)) ()) >>= fun _ => pure ⟨⟩ := rfl

theorem ops_ok {ops : List (HloOp τ sig (Elt F))} (h : ops.Forall fun op => op.bufs ⊆ StableHlo.tcRefs τ sig) :
    ∀ op ∈ ops, op.bufs ⊆ Pipeline.ucRefs τ sig :=
  fun op hop => Pipeline.sub_ucRefs op ((List.forall_iff_forall_mem.mp h) op hop)

theorem opsA_sub : ∀ op ∈ (opsA : List (HloOp τ sig (Elt F))), op.bufs ⊆ Pipeline.ucRefs τ sig :=
  ops_ok ⟨StableHlo.reshape_bufs_sub .., StableHlo.reshape_bufs_sub .., StableHlo.reshape_bufs_sub .., StableHlo.reshape_bufs_sub ..⟩
theorem opsB_sub : ∀ op ∈ (opsB : List (HloOp τ sig (Elt F))), op.bufs ⊆ Pipeline.ucRefs τ sig :=
  ops_ok (StableHlo.reshape_bufs_sub ..)
theorem opsC_sub : ∀ op ∈ (opsC : List (HloOp τ sig (Elt F))), op.bufs ⊆ Pipeline.ucRefs τ sig :=
  ops_ok ⟨StableHlo.reshape_bufs_sub .., StableHlo.reshape_bufs_sub ..⟩

theorem fresh_ok {ops : List (HloOp τ sig (Elt F))} (h : ops.Forall fun op => op.fresh = ∅) : ∀ op ∈ ops, op.fresh = ∅ :=
  fun op hop => (List.forall_iff_forall_mem.mp h) op hop
theorem opsA_fresh : ∀ op ∈ (opsA : List (HloOp τ sig (Elt F))), op.fresh = ∅ := fresh_ok ⟨rfl, rfl, rfl, rfl⟩
theorem opsB_fresh : ∀ op ∈ (opsB : List (HloOp τ sig (Elt F))), op.fresh = ∅ := fresh_ok rfl
theorem opsC_fresh : ∀ op ∈ (opsC : List (HloOp τ sig (Elt F))), op.fresh = ∅ := fresh_ok ⟨rfl, rfl⟩

/-- The reference each reshape writes. -/
abbrev writesA : List (Ref sig .tc) := [main_v0, main_v1, main_v2, main_v3]
abbrev writesB : List (Ref sig .tc) := [main_v5]
abbrev writesC : List (Ref sig .tc) := [main_v7, main_v8]
theorem opsA_writes : (opsA : List (HloOp τ sig (Elt F))).Forall fun op => op.writes ⊆ (writesA.map (Proc.devRef (τ := τ) .tc)).toFinset :=
  StableHlo.forall_writes_sub_of_map rfl
theorem opsB_writes : (opsB : List (HloOp τ sig (Elt F))).Forall fun op => op.writes ⊆ (writesB.map (Proc.devRef (τ := τ) .tc)).toFinset :=
  StableHlo.forall_writes_sub_of_map rfl
theorem opsC_writes : (opsC : List (HloOp τ sig (Elt F))).Forall fun op => op.writes ⊆ (writesC.map (Proc.devRef (τ := τ) .tc)).toFinset :=
  StableHlo.forall_writes_sub_of_map rfl

/-! ## The contents between the statements -/

/-- At the launch; after the first reshapes; after the first call; after the reshape of the indices; after the gather;
    after the last reshapes; at the end. -/
def W0 (d : Dev nD) : Valuation τ sig (Elt F) := fun b => m (d, b)
def W1 (d : Dev nD) : Valuation τ sig (Elt F) := StableHlo.after opsA (W0 m d)
def W2 (d : Dev nD) : Valuation τ sig (Elt F) := exit0 (W1 m) d
def W3 (d : Dev nD) : Valuation τ sig (Elt F) := StableHlo.after opsB (W2 m d)

/-- The table and the lists that the gather is handed, and what its result holds before. -/
def X (d : Dev nD) : S262144x128.Idx → F .f32 := W3 m d main_v1
def I (d : Dev nD) : S32x32x128.Idx → BitVec 32 := W3 m d main_v5
def f (d : Dev nD) : S131072x128.Idx → F .f32 := W3 m d main_v6

def W4 (d : Dev nD) : Valuation τ sig (Elt F) :=
  Function.update (W3 m d) (Proc.devRef .tc main_v6) (show Buf (Elt F) (oLoc d) from G (X m d) (I m d))
def W5 (d : Dev nD) : Valuation τ sig (Elt F) := StableHlo.after opsC (W4 m d)
def W6 (d : Dev nD) : Valuation τ sig (Elt F) := exit2 (W5 m) d

theorem W1_of (d : Dev nD) (r : Ref sig .tc) (h : r ∉ writesA) : W1 m d (Proc.devRef .tc r) = m ((d : Thread nD τ).loc r) :=
  StableHlo.after_of_writes_sub opsA _ opsA_writes h
theorem W2_of (d : Dev nD) (r : Ref sig .tc) (h : ∀ w : Fin cfg0.W, Pipeline.arrRef spec0 w = r → (cfg0.win w).isOut = false) :
    W2 m d (Proc.devRef .tc r) = W1 m d (Proc.devRef .tc r) := exit0_of (W1 m) d r h
theorem W3_of (d : Dev nD) (r : Ref sig .tc) (h : r ∉ writesB) : W3 m d (Proc.devRef .tc r) = W2 m d (Proc.devRef .tc r) :=
  StableHlo.after_of_writes_sub opsB _ opsB_writes h
theorem W4_of (d : Dev nD) (r : Ref sig .tc) (h : r ≠ main_v6) : W4 m d (Proc.devRef .tc r) = W3 m d (Proc.devRef .tc r) :=
  Function.update_of_ne (fun e => h (Proc.devRef_injective _ e)) _ _
theorem W4_v6 (d : Dev nD) : W4 m d (Proc.devRef .tc main_v6) = G (X m d) (I m d) := Function.update_self ..
theorem W5_of (d : Dev nD) (r : Ref sig .tc) (h : r ∉ writesC) : W5 m d (Proc.devRef .tc r) = W4 m d (Proc.devRef .tc r) :=
  StableHlo.after_of_writes_sub opsC _ opsC_writes h
theorem W6_of (d : Dev nD) (r : Ref sig .tc) (h : ∀ w : Fin cfg2.W, Pipeline.arrRef spec2 w = r → (cfg2.win w).isOut = false) :
    W6 m d (Proc.devRef .tc r) = W5 m d (Proc.devRef .tc r) := exit2_of (W5 m) d r h

/-- The gather's table and lists are reshapes of the launch contents. -/
theorem X_eq (d : Dev nD) : X m d = shapeCast S262144x128 (m ((d : Thread nD τ).loc main_arg1)) shapeCasts_S65536x4x128_S262144x128 := by
  refine (W3_of m d main_v1 (by decide)).trans ((W2_of m d main_v1 (by decide)).trans ?_)
  unfold W1
  after_results <;> rfl
theorem I_eq (d : Dev nD) : I m d = shapeCast S32x32x128 (m ((d : Thread nD τ).loc main_arg2)) shapeCasts_S32x4096_S32x32x128 := by
  have h : W2 m d (Proc.devRef .tc main_arg2) = m ((d : Thread nD τ).loc main_arg2) :=
    (W2_of m d main_arg2 (by decide)).trans (W1_of m d main_arg2 (by decide))
  rw [← h]
  unfold I W3
  after_results <;> rfl

/-- Every index names a row of the table. -/
def PreOK : Prop := ∀ (d : Dev nD) j, (m ((d : Thread nD τ).loc main_arg2) j : BitVec 32).toNat < 262144

theorem I_lt (h : PreOK m) (d : Dev nD) (x : S32x32x128.Idx) : (I m d x).toNat < 262144 := by
  rw [I_eq]; exact h d _

/-- @main's argument arrays keep their launch contents. -/
abbrev argRefs : List (Ref sig .tc) := [main_arg0, main_arg1, main_arg2, main_arg3, main_arg4, main_arg5, main_arg6, main_arg7, main_arg8, main_arg9]
theorem W6_args (d : Dev nD) (a : Ref sig .tc) (ha : a ∈ argRefs) : W6 m d (Proc.devRef .tc a) = m ((d : Thread nD τ).loc a) :=
  (W6_of m d a ((ListAll.forall_mem_of_all_decide (by decide +kernel) :
      ∀ a ∈ argRefs, ∀ w : Fin cfg2.W, Pipeline.arrRef spec2 w = a → (cfg2.win w).isOut = false) a ha)).trans <|
  (W5_of m d a ((ListAll.forall_mem_of_all_decide (by decide +kernel) : ∀ a ∈ argRefs, a ∉ writesC) a ha)).trans <|
  (W4_of m d a ((ListAll.forall_mem_of_all_decide (by decide +kernel) : ∀ a ∈ argRefs, a ≠ main_v6) a ha)).trans <|
  (W3_of m d a ((ListAll.forall_mem_of_all_decide (by decide +kernel) : ∀ a ∈ argRefs, a ∉ writesB) a ha)).trans <|
  (W2_of m d a ((ListAll.forall_mem_of_all_decide (by decide +kernel) :
      ∀ a ∈ argRefs, ∀ w : Fin cfg0.W, Pipeline.arrRef spec0 w = a → (cfg0.win w).isOut = false) a ha)).trans <|
  W1_of m d a ((ListAll.forall_mem_of_all_decide (by decide +kernel) : ∀ a ∈ argRefs, a ∉ writesA) a ha)

/-! ## The run of @main -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The three buffers of the gather. -/
abbrev scRefs : Finset (DevRef τ sig) := {Proc.devRef .tc main_v1, Proc.devRef .tc main_v5, Proc.devRef .tc main_v6}
theorem scRefs_sub : scRefs ⊆ Pipeline.ucRefs τ sig := by
  intro b hb
  simp only [Finset.mem_insert, Finset.mem_singleton] at hb
  rcases hb with rfl | rfl | rfl <;> exact mem_uc _ (by decide)

theorem held_sc (d : Dev nD) (W : Valuation τ sig (Elt F)) :
    (StableHlo.held (d : Thread nD τ) scRefs W : sProp 𝕄)
      = iprop((xLoc d ↦{fullShare} W main_v1) ∗ (iLoc d ↦{fullShare} W main_v5) ∗ oLoc d ↦{fullShare} W main_v6) := by
  unfold StableHlo.held
  rw [SparseCore.bigSep_insert' (by decide), SparseCore.bigSep_insert' (by decide), bigSep_singleton]

/-- Around the gather: its three buffers taken out of all, and put back with the result at the gathered rows. -/
theorem held_W3 (d : Dev nD) :
    (StableHlo.held (d : Thread nD τ) (Pipeline.ucRefs τ sig) (W3 m d) : sProp 𝕄)
      = iprop(((xLoc d ↦{fullShare} X m d) ∗ (iLoc d ↦{fullShare} I m d) ∗ oLoc d ↦{fullShare} f m d)
          ∗ StableHlo.held (d : Thread nD τ) (Pipeline.ucRefs τ sig \ scRefs) (W3 m d)) := by
  rw [StableHlo.held_sub_split _ scRefs_sub, held_sc]
  rfl
theorem held_W4 (d : Dev nD) :
    (StableHlo.held (d : Thread nD τ) (Pipeline.ucRefs τ sig) (W4 m d) : sProp 𝕄)
      = iprop(((xLoc d ↦{fullShare} X m d) ∗ (iLoc d ↦{fullShare} I m d) ∗ oLoc d ↦{fullShare} G (X m d) (I m d))
          ∗ StableHlo.held (d : Thread nD τ) (Pipeline.ucRefs τ sig \ scRefs) (W3 m d)) := by
  rw [StableHlo.held_sub_split _ scRefs_sub, held_sc, W4_of m d main_v1 (by decide), W4_of m d main_v5 (by decide), W4_v6,
    StableHlo.held_congr (d : Thread nD τ) (S := Pipeline.ucRefs τ sig \ scRefs) (V := W4 m d) (V' := W3 m d) fun b hb =>
      Function.update_of_ne (fun e => (Finset.mem_sdiff.mp hb).2 (by rw [e]; simp)) _ _]
  rfl

/-- What the handshake state of the TensorCore is beside what it owes. -/
abbrev tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) (n : ℕ) :
    ((K (F := F)).tcSt EH d n : sProp 𝕄)
      = iprop((∃ W, ⌜(K (F := F)).WBelow (SparseCore.T d) W (8 * n)⌝ ∗ owes (d : Thread nD τ) ((K (F := F)).Otc d n) W) ∗ tcRest (F := F) d n) := rfl

/-- What @main ends holding: every buffer at `W6`. -/
abbrev FIN (d : Dev nD) : sProp 𝕄 := StableHlo.held (d : Thread nD τ) (Pipeline.ucRefs τ sig) (W6 m d)

set_option maxRecDepth 65536 in
theorem hmain [∀ e, Nonempty (Elt F e)] (κ : GSem nD τ sig → ℕ) (d : Dev nD) :
    iprop((K (F := F)).ctx EH (P (X m) (I m) (f m)) κ ∗ (K (F := F)).tcSt EH d 0 ∗ (K (F := F)).tcRes m ρ d ∗ GP (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, Hp⟩, Hg, Ht⟩
  ihave #Hlev := (SparseCore.Cfg.ctx_levAts κ) $$ Hctx
  ihave Hg := (Entails.of_eq (show (bigSep Finset.univ fun p : Fin 2 => Pipeline.cellsGhost cfgs (EP (F := F)) p d)
      = iprop(Pipeline.cellsGhost cfgs (EP (F := F)) 0 d ∗ Pipeline.cellsGhost cfgs (EP (F := F)) 1 d) from bigSep_fin_two _)) $$ Hg
  ihave Ht := (Entails.of_eq (show (bigSep Finset.univ fun p : Fin 2 => Pipeline.toksInit cfgs (EP (F := F)) p d)
      = iprop(Pipeline.toksInit cfgs (EP (F := F)) 0 d ∗ Pipeline.toksInit cfgs (EP (F := F)) 1 d) from bigSep_fin_two _)) $$ Ht
  icases Hg with ⟨Hg0, Hg1⟩
  icases Ht with ⟨Ht0, Ht1⟩
  ihave Hh := (Entails.of_eq (show (unscopedBufs d (fun b => m ((SparseCore.T d : Thread nD τ).loc b)) : sProp 𝕄) = StableHlo.held (d.tc : Thread nD τ) (Pipeline.ucRefs τ sig) (W0 m d)
      from Pipeline.unscopedBufs_held d (W0 m d))) $$ Hu
  iapply (StableHlo.wp_seq 𝒱 none Set.univ d (Pipeline.ucRefs τ sig) _ opsA opsA_sub opsA_fresh (W0 m d)) $$ [Hb Hh]
  · isplitl [Hb]; · iexact Hb
    iexact Hh
  iintro ⟨Hb, Hh⟩
  -- the first call
  ihave Hst := (Entails.of_eq (tcSt_eq d 0)) $$ Hst
  icases Hst with ⟨HO, Hrest⟩
  rw [wp_bind]
  iapply (wp_call0 (W1 m) κ d)
  isplitr [Hb Hh HO Hp Hg0 Ht0]
  swap
  · isplitl [Hb]; · iexact Hb
    isplitl [Hh HO Hp]
    · isplitl [Hh]; · iexact Hh
      isplitl [Hp]; · iexists _; iexact Hp
      iexact HO
    isplitr; · iexact Hlev
    isplitl [Hg0]; · iexact Hg0
    iexact Ht0
  iintro ⟨Hb, Hh, Hp, HO⟩
  -- the reshape of the indices
  iapply (StableHlo.wp_seq 𝒱 none Set.univ d (Pipeline.ucRefs τ sig) _ opsB opsB_sub opsB_fresh (W2 m d)) $$ [Hb Hh]
  · isplitl [Hb]; · iexact Hb
    iexact Hh
  iintro ⟨Hb, Hh⟩
  -- the gather
  ihave Hh := (Entails.of_eq (show StableHlo.held (d : Thread nD τ) (Pipeline.ucRefs τ sig) (StableHlo.after opsB (W2 m d)) = _ from held_W3 m d)) $$ Hh
  icases Hh with ⟨Hxio, Hh⟩
  rw [wp_bind]
  iapply ((K (F := F)).wp_run (D (F := F)) 𝒱 (EH := EH) (P := P (X m) (I m) (f m)) κ d 0)
  isplitr; · iexact Hctx
  isplitl [HO Hrest]
  · iapply (Entails.of_eq (tcSt_eq d 0).symm)
    isplitl [HO] <;> iassumption
  isplitl [Hxio]
  · iapply (Entails.of_eq (give (X m) (I m) (f m) d))
    iexact Hxio
  iintro ⟨Hst, Hdn⟩
  ihave Hxio := (Entails.of_eq (back (X m) (I m) (f m) d)) $$ Hdn
  ihave Hh := (Entails.of_eq (held_W4 m d).symm) $$ [Hxio Hh]
  · isplitl [Hxio] <;> iassumption
  -- the last reshapes
  iapply (StableHlo.wp_seq 𝒱 none Set.univ d (Pipeline.ucRefs τ sig) _ opsC opsC_sub opsC_fresh (W4 m d)) $$ [Hb Hh]
  · isplitl [Hb]; · iexact Hb
    iexact Hh
  iintro ⟨Hb, Hh⟩
  -- the last call
  ihave Hst := (Entails.of_eq (show (K (F := F)).tcSt EH d ((0 : Fin 1).val + 1) = _ from tcSt_eq d 1)) $$ Hst
  icases Hst with ⟨HO, Hrest⟩
  rw [wp_bind]
  iapply (wp_call2 (W5 m) κ d)
  isplitr [Hb Hh HO Hp Hg1 Ht1]
  swap
  · isplitl [Hb]; · iexact Hb
    isplitl [Hh HO Hp]
    · isplitl [Hh]; · iexact Hh
      isplitl [Hp]; · iexact Hp
      iexact HO
    isplitr; · iexact Hlev
    isplitl [Hg1]; · iexact Hg1
    iexact Ht1
  iintro ⟨Hb, Hh, -, HO⟩
  rw [wp_pure]
  imodintro
  isplitl [HO Hrest]
  · iapply (Entails.of_eq (tcSt_eq d 1).symm)
    isplitl [HO] <;> iassumption
  isplitl [Hh]; · iexact Hh
  iframe Hb Hts

def fq (d : Dev nD) (s' : Phys nD τ sig (Elt F)) : Prop := ∀ b ∈ Pipeline.ucRefs τ sig, s'.mem.mem (d, b) = W6 m d b

theorem hfin (d : Dev nD) (s' : Phys nD τ sig (Elt F)) : iprop(FIN m d ∗ SI s') ⊢ (⌜fq m d s'⌝ : sProp 𝕄) := by
  iintro ⟨Hh, HSI⟩
  unfold FIN StableHlo.held
  ihave H := (pointsTo_read_all (Pipeline.ucRefs τ sig) (fun b => (d, b)) (W6 m d) s') $$ [Hh HSI]
  · isplitl [Hh] <;> iassumption
  icases H with ⟨%h, -⟩
  ipureintro
  exact h

/-! ## The program's run -/

/-- The end state: every unscoped buffer of every device at `W6`, every semaphore at zero. -/
def QC : PUnit × MemSt nD τ sig (Elt F) → Prop := fun r =>
  (∀ c : Dev nD, ∀ b ∈ Pipeline.ucRefs τ sig, r.2.mem (c, b) = W6 m c b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m) (I m) (f m)) (A := ∅) facts v₀
    (fun q hq => match q with | 0 => nomatch hq)
    (fun q _ => match q with | 0 => tileObl (X m) (I m) (f m) facts (I_lt m hpre))
    (fun q _ => match q with | 0 => SparseCore.Cfg.VecSplit.of_plain (vecSplit (X m) (I m) (f m)))
    m ρ main (GP (F := F)) (FIN m) (u₀ (F := F)) (sep_elim_left.trans (hu₀ (X m) (I m) (f m))) (hmain m ρ) (fq m) (hfin m) (QC m) (fun _ h hz => ⟨h, hz⟩)

/-- An argument array in an end state. -/
theorem QC.arg {r : PUnit × MemSt nD τ sig (Elt F)} (h : QC m r) (c : Dev nD) (a : Ref sig .tc) (ha : a ∈ argRefs) :
    r.2.mem ((c.tc : Thread nD τ).loc a) = m ((c.tc : Thread nD τ).loc a) :=
  (h.1 c _ (mem_uc a ((ListAll.forall_mem_of_all_decide (by decide +kernel) :
    ∀ a ∈ argRefs, ¬ (Proc.devRef .tc a : DevRef τ sig).isScoped) a ha))).trans (W6_args m c a ha)

end Cert.Proof.KernelIdeal.Run

end
-- ==== Proof.Spec.lean ====
/-
  The function of one token that both programs compute, written over plain index types: the normalisation, the gate, the
  projected target and its per-head standardisation, the weighted sum of the gathered rows, the mix and the last projection;
  and the facts about the extended reals under which the reference's spelling of each is the kernel's.
-/
module

public import Idealize.ShloMosaic.Lib.Pointwise
public import Idealize.ShloMosaic.Lib.IdealHost

@[expose] public section

noncomputable section

namespace Cert.Proof.Spec

open Idealize.ShloMosaic
open scoped BigOperators

/-- The mean of the squares, from the pattern of the length, plus the small constant. -/
def den (c : BitVec 32) {n : Nat} (x : Fin n → EReal) : EReal :=
  Ideal.div (∑ k, x k * x k) (Ideal.ofBits .f32 c) + Ideal.ofBits .f32 0x34000000#32

/-- The scaled normalisation of a vector, at one place. -/
def nrm (c : BitVec 32) {n : Nat} (x g : Fin n → EReal) (i : Fin n) : EReal := x i * Ideal.rsqrt (den c x) * g i

/-- The gate of a token. -/
def gate (x g W : Fin 1024 → EReal) : EReal :=
  Ideal.div 1 (1 + Ideal.exp (0 - ∑ k, nrm 0x44800000#32 x g k * W k))

/-- The projected target of a token. -/
def target (x g : Fin 1024 → EReal) (W : Fin 1024 → Fin 512 → EReal) (c : Fin 512) : EReal :=
  ∑ k, nrm 0x44800000#32 x g k * W k c

/-- A head of the target less its mean. -/
def centred (u : Fin 128 → EReal) (d : Fin 128) : EReal := u d - Ideal.div (∑ e, u e) (Ideal.ofBits .f32 0x43000000#32)

/-- A head of the target standardised: centred, over its deviation kept off zero. -/
def stdz (u : Fin 128 → EReal) (d : Fin 128) : EReal :=
  Ideal.div (centred u d) (max (Ideal.sqrt (Ideal.div (∑ e, centred u e * centred u e) (Ideal.ofBits .f32 0x42FE0000#32))) (Ideal.ofBits .f32 0x2EDBE6FF#32))

/-- The column of head `h` and place `d` in a row of all four heads. -/
def col (h : Fin 4) (d : Fin 128) : Fin 512 := ⟨h.val * 128 + d.val, by omega⟩

/-- The head of a column, and its place there. -/
def head (c : Fin 512) : Fin 4 := ⟨c.val / 128, by omega⟩
def place (c : Fin 512) : Fin 128 := ⟨c.val % 128, by omega⟩
theorem head_col (h : Fin 4) (d : Fin 128) : head (col h d) = h := Fin.ext (by show (h.val * 128 + d.val) / 128 = h.val; omega)
theorem place_col (h : Fin 4) (d : Fin 128) : place (col h d) = d := Fin.ext (by show (h.val * 128 + d.val) % 128 = d.val; omega)
theorem col_head (c : Fin 512) : col (head c) (place c) = c := Fin.ext (by show c.val / 128 * 128 + c.val % 128 = c.val; omega)

/-- The standardised target of a token, at a column of all four heads. -/
def tvs (x g : Fin 1024 → EReal) (W : Fin 1024 → Fin 512 → EReal) (c : Fin 512) : EReal :=
  stdz (fun d => target x g W (col (head c) d)) (place c)

/-- The place of choice `k` of head `h` among a token's thirty-two. -/
def slot (h : Fin 4) (k : Fin 8) : Fin 32 := ⟨h.val * 8 + k.val, by omega⟩

/-- The weighted sum of a head's gathered rows. -/
def val (rows : Fin 32 → Fin 128 → EReal) (w : Fin 32 → EReal) (h : Fin 4) (d : Fin 128) : EReal :=
  ∑ k, w (slot h k) * rows (slot h k) d

/-- The gated mix of the standardised target and the weighted rows. -/
def mix (t g v : EReal) : EReal := t + g * (v - t)

/-- The last projection, of the normalised mix. -/
def proj (o go : Fin 512 → EReal) (W : Fin 512 → Fin 1024 → EReal) (e : Fin 1024) : EReal :=
  ∑ c, nrm 0x44000000#32 o go c * W c e

/-- A token's result. -/
def out (rows : Fin 32 → Fin 128 → EReal) (w : Fin 32 → EReal) (t : Fin 512 → EReal) (g : EReal) (go : Fin 512 → EReal)
    (W : Fin 512 → Fin 1024 → EReal) (e : Fin 1024) : EReal :=
  proj (fun c => mix (t c) g (val rows w (head c) (place c))) go W e

/-- All tokens' results from the arrays: the tokens, the table of rows, the indices and their weights, the three projections
    and the three scales. -/
def tokens (x : (⟨2, ![4096, 1024]⟩ : Shape).Idx → EReal) (tab : (⟨2, ![262144, 128]⟩ : Shape).Idx → EReal) (idx : IVec ⟨2, ![32, 4096]⟩ 32)
    (w : (⟨2, ![32, 4096]⟩ : Shape).Idx → EReal) (Wg : (⟨2, ![1024, 1]⟩ : Shape).Idx → EReal) (Wv : (⟨2, ![1024, 512]⟩ : Shape).Idx → EReal)
    (Wo : (⟨2, ![512, 1024]⟩ : Shape).Idx → EReal) (gg gv : (⟨1, ![1024]⟩ : Shape).Idx → EReal) (go : (⟨1, ![512]⟩ : Shape).Idx → EReal)
    (n : Fin 4096) (e : Fin 1024) : EReal :=
  out (fun j d => tab (ix2 ⟨(idx (ix2 j n)).toNat % 262144, by omega⟩ d)) (fun j => w (ix2 j n))
    (fun c => tvs (fun k => x (ix2 n k)) (fun k => gv (ix1 k)) (fun k c => Wv (ix2 k c)) c)
    (gate (fun k => x (ix2 n k)) (fun k => gg (ix1 k)) (fun k => Wg (ix2 k 0)))
    (fun c => go (ix1 c)) (fun c e => Wo (ix2 c e)) e

theorem two_pow_pos : (0 : EReal) < Ideal.ofBits .f32 0x34000000#32 := by
  simp [Ideal.ofBits, Ideal.ieee, -EReal.coe_mul]; try norm_num

theorem c1024 : Ideal.ofBits .f32 0x44800000#32 = ((1024 : ℝ) : EReal) := by
  simp [Ideal.ofBits, Ideal.ieee, -EReal.coe_mul]; try norm_num
theorem c512 : Ideal.ofBits .f32 0x44000000#32 = ((512 : ℝ) : EReal) := by
  simp [Ideal.ofBits, Ideal.ieee, -EReal.coe_mul]; try norm_num
theorem c128 : Ideal.ofBits .f32 0x43000000#32 = ((128 : ℝ) : EReal) := by
  simp [Ideal.ofBits, Ideal.ieee, -EReal.coe_mul]; try norm_num
theorem c127 : Ideal.ofBits .f32 0x42FE0000#32 = ((127 : ℝ) : EReal) := by
  simp [Ideal.ofBits, Ideal.ieee, -EReal.coe_mul]; try norm_num

theorem mul_self_nonneg (x : EReal) : 0 ≤ x * x := by
  induction x using EReal.rec with
  | bot => simp
  | top => simp
  | coe r => exact_mod_cast _root_.mul_self_nonneg r

theorem den_pos {c : BitVec 32} {r : ℝ} (hr : 0 < r) (hc : Ideal.ofBits .f32 c = (r : EReal)) {n : Nat} (x : Fin n → EReal) : 0 < den c x := by
  have hs : 0 ≤ ∑ k, x k * x k := Finset.sum_nonneg fun k _ => mul_self_nonneg _
  have hd : 0 ≤ Ideal.div (∑ k, x k * x k) (Ideal.ofBits .f32 c) := by
    rw [hc]
    unfold Ideal.div
    rw [if_neg (by exact_mod_cast hr.ne')]
    refine mul_nonneg hs (EReal.inv_nonneg_of_nonneg ?_)
    exact_mod_cast hr.le
  exact lt_of_lt_of_le two_pow_pos (le_add_of_nonneg_left hd)

/-- Dividing by the root of a positive value is scaling by its inverse root. -/
theorem div_sqrt (x y : EReal) (hy : 0 < y) : Ideal.div x (Ideal.sqrt y) = x * Ideal.rsqrt y := by
  induction y using EReal.rec with
  | bot => simp at hy
  | top =>
    show Ideal.div x ⊤ = x * 0
    rw [Ideal.div, if_neg EReal.top_ne_zero, EReal.inv_top]
  | coe r =>
    have hr : 0 < r := by exact_mod_cast hy
    have hs : Real.sqrt r ≠ 0 := (Real.sqrt_pos.2 hr).ne'
    have h1 : Ideal.sqrt (r : EReal) = ((Real.sqrt r : ℝ) : EReal) := by
      show (if r < 0 then (⊥ : EReal) else (Real.sqrt r : EReal)) = _
      rw [if_neg (not_lt.2 hr.le)]
    have h2 : Ideal.rsqrt (r : EReal) = (((Real.sqrt r)⁻¹ : ℝ) : EReal) := by
      show (if r < 0 then (⊥ : EReal) else if r = 0 then ⊤ else ((Real.sqrt r)⁻¹ : ℝ)) = _
      rw [if_neg (not_lt.2 hr.le), if_neg hr.ne']
    rw [h1, h2, Ideal.div, if_neg (by exact_mod_cast hs), EReal.coe_inv]

end Cert.Proof.Spec

end
-- ==== Proof.IdealValue.lean ====
/-
  What the two TensorCore bodies compute, read at an entry of a block: the gate and the standardised target of a token (first
  call), and the token's result from its gathered rows, weights, standardised target and gate (last call), as `Spec` writes
  them.
-/
module

public import proofs.«01_k».proof.Proof.IdealRun
public import proofs.«01_k».proof.Proof.Spec

@[expose] public section

noncomputable section

namespace Cert.Proof.Value

open Idealize.ShloMosaic Cert.KernelIdeal Cert.KernelIdeal.Gen Cert.Proof.Spec
open Cert.Proof.KernelIdeal.StageA Cert.Proof.KernelIdeal.StageB
open scoped BigOperators

attribute [local instance] Cert.KernelIdeal.Gen.facts

theorem pay2_apply (x : FVec Ideal S512x1024 .f32) (r : Fin 512) (k : Fin 1024) :
    k0_pay2 (F := Ideal) x (ix2 r k) = x (ix2 r k) * Ideal.rsqrt (den 0x44800000#32 fun k => x (ix2 r k)) := by
  pointwise [k0_pay2]
  rfl

theorem pay3_apply (x : FVec Ideal S512x1024 .f32) (g : FVec Ideal S1x1024 .f32) (W : FVec Ideal S1024x1 .f32) (r : Fin 512) :
    k0_pay3 (F := Ideal) x g W (ix2 r 0) = gate (fun k => x (ix2 r k)) (fun k => g (ix2 0 k)) (fun k => W (ix2 k 0)) := by
  pointwise [k0_pay3, pay2_apply]
  rfl

theorem pay4_apply (x : FVec Ideal S512x1024 .f32) (g : FVec Ideal S1x1024 .f32) (W : FVec Ideal S1024x512 .f32) (r : Fin 512) (c : Fin 512) :
    k0_pay4 (F := Ideal) x g W (ix2 r c) = target (fun k => x (ix2 r k)) (fun k => g (ix2 0 k)) (fun k c => W (ix2 k c)) c := by
  pointwise [k0_pay4, pay2_apply]
  rfl

/-- Four heads joined, read at a head's column. -/
theorem concat_apply (a : Fin 4 → FVec Ideal S512x128 .f32) (r : Fin 512) (h : Fin 4) (d : Fin 128) :
    concatenate S512x512 1 [⟨S512x128, a 0⟩, ⟨S512x128, a 1⟩, ⟨S512x128, a 2⟩, ⟨S512x128, a 3⟩] concatenates_S512x128_S512x128_S512x128_S512x128_S512x512_d1 (ix2 r (col h d))
      = a h (ix2 r d) := by
  have hd := d.isLt
  have e : ∀ n (hn : n < 128), n = d.val → (⟨n, hn⟩ : Fin 128) = d := fun n hn e => Fin.ext e
  obtain ⟨h, hh⟩ := h
  interval_cases h
  · pointwise [col]
  · pointwise [col]
  · pointwise [col]
    rw [dif_neg (by omega), dif_neg (by omega), dif_pos (by omega), e _ _ (by omega)]
  · pointwise [col]
    rw [dif_neg (by omega), dif_neg (by omega), dif_neg (by omega), e _ _ (by omega)]

/-- The first output of the first call is the standardised target, at the columns of each head. -/
theorem heads_apply (x : FVec Ideal S512x1024 .f32) (g : FVec Ideal S1x1024 .f32) (W : FVec Ideal S1024x512 .f32) (r : Fin 512) (h : Fin 4) (d : Fin 128) :
    k0_pay1 (F := Ideal) (k0_pay4 x g W) (k0_pay8 (k0_pay5 x g W) (k0_pay6 x g W) k0_pay7) (k0_pay9 (k0_pay4 x g W)) (k0_pay10 (k0_pay4 x g W)) (ix2 r (col h d))
      = stdz (fun e => k0_pay4 (F := Ideal) x g W (ix2 r (col h e))) d := by
  have hd := d.isLt
  have e3 : ∀ o n (hn : n < 512) (e : n = o + d.val), (⟨n, hn⟩ : Fin 512) = ⟨o + d.val, e ▸ hn⟩ := fun o n hn e => Fin.ext e
  obtain ⟨h, hh⟩ := h
  interval_cases h
  · pointwise [k0_pay1, k0_pay8, k0_pay5, k0_pay6, k0_pay7, col]
    rfl
  · pointwise [k0_pay1, k0_pay9, col]
    rfl
  · pointwise [k0_pay1, k0_pay10, col]
    rw [dif_neg (by omega), dif_neg (by omega), dif_pos (by omega), e3 256 _ _ (by omega)]
    rfl
  · pointwise [k0_pay1, col]
    rw [dif_neg (by omega), dif_neg (by omega), dif_neg (by omega), e3 384 _ _ (by omega)]
    rfl

/-- Eight products added from zero, one after another, are their sum. -/
theorem fold8 (f : Fin 8 → EReal) : 0 + f 0 + f 1 + f 2 + f 3 + f 4 + f 5 + f 6 + f 7 = ∑ k, f k := by
  rw [Fin.sum_univ_eight, zero_add]

/-- The mixed values normalised and projected. -/
def tail (o : FVec Ideal S512x512 .f32) (go : Vec Ideal S1x512 .f32) (W : Vec Ideal S512x1024 .f32) : FVec Ideal S512x1024 .f32 :=
  matmul (φ₂ := .f32) dot_S512x512_S512x1024_S512x1024_1_0_0_1_n_n none
    (mulf (mulf o (broadcastTo S512x512 (rsqrt (addf (divf (shapeCast S512x1 (multiReduction .add [1] S512 (mulf o o) 0x00000000#32 reduces_S512x512_S512 (.inl rfl) rfl) shapeCasts_S512_S512x1)
        (broadcast S512x1 (Scalar.ofBits .f32 0x44000000#32))) (broadcast S512x1 (Scalar.ofBits .f32 0x34000000#32)))) broadcasts_S512x1_S512x512))
      (broadcastTo S512x512 (shapeCast S1x512 go shapeCasts_S1x512_S1x512) broadcasts_S1x512_S512x512))
    W (constant S512x1024 .f32 0x00000000#32)

theorem tail_apply (o : FVec Ideal S512x512 .f32) (go : Vec Ideal S1x512 .f32) (W : Vec Ideal S512x1024 .f32) (r : Fin 512) (e : Fin 1024) :
    tail o go W (ix2 r e) = proj (fun c => o (ix2 r c)) (fun c => go (ix2 0 c)) (fun c e => W (ix2 c e)) e := by
  pointwise [tail]
  rfl

/-- The last head's mix, from the sum of its first five products. -/
def last (w : FVec Ideal S512x32 .f32) (g : FVec Ideal S512x1 .f32) (t : FVec Ideal S512x512 .f32) (s : FVec Ideal S512x128 .f32) (w5 : FVec Ideal S512x1 .f32)
    (r5 r6 r7 : Vec Ideal S1x512x128 .f32) : FVec Ideal S512x128 .f32 :=
  addf (extractStridedSlice S512x128 ![0, 384] t slices_S512x512_o0_384_S512x128)
    (mulf (broadcastTo S512x128 g broadcasts_S512x1_S512x128)
      (subf
        (addf (addf (addf s (mulf (broadcastTo S512x128 w5 broadcasts_S512x1_S512x128) (shapeCast S512x128 r5 shapeCasts_S1x512x128_S512x128)))
            (mulf (broadcastTo S512x128 (extractStridedSlice S512x1 ![0, 30] w slices_S512x32_o0_30_S512x1) broadcasts_S512x1_S512x128) (shapeCast S512x128 r6 shapeCasts_S1x512x128_S512x128)))
          (mulf (broadcastTo S512x128 (extractStridedSlice S512x1 ![0, 31] w slices_S512x32_o0_31_S512x1) broadcasts_S512x1_S512x128) (shapeCast S512x128 r7 shapeCasts_S1x512x128_S512x128)))
        (extractStridedSlice S512x128 ![0, 384] t slices_S512x512_o0_384_S512x128)))

section Block

variable (x0 : FVec Ideal S32x512x128 .f32) (x1 : FVec Ideal S32x512 .f32) (x2 : FVec Ideal S512x512 .f32) (x3 : FVec Ideal S512x1 .f32)
  (x4 : FVec Ideal S512x1024 .f32) (x5 : FVec Ideal S1x512 .f32)

theorem head0_apply (r : Fin 512) (d : Fin 128) :
    k2_pay5 (F := Ideal) (k2_pay18 x0 x1 x2 x3 x4 x5) (k2_pay19 x0 x1 x2 x3 x4 x5) (k2_pay20 x0 x1 x2 x3 x4 x5) (k2_pay4 (View.ld x1 r2_0) (View.ld x0 r2_3) (View.ld x0 r2_4) (View.ld x0 r2_5) (View.ld x0 r2_6) (View.ld x0 r2_7)) (View.ld x0 r2_8) (View.ld x0 r2_9) (View.ld x0 r2_10) (ix2 r d)
      = mix (x2 (ix2 r (col 0 d))) (x3 (ix2 r 0)) (val (fun j d => x0 (ix3 j r d)) (fun j => x1 (ix2 j r)) 0 d) := by
  unfold mix val
  rw [← fold8]
  pointwise [k2_pay5, k2_pay18, k2_pay19, k2_pay20, k2_pay1, k2_pay2, k2_pay3, k2_pay4, col, slot]

theorem head1_apply (r : Fin 512) (d : Fin 128) :
    k2_pay8 (F := Ideal) (k2_pay18 x0 x1 x2 x3 x4 x5) (k2_pay19 x0 x1 x2 x3 x4 x5) (k2_pay20 x0 x1 x2 x3 x4 x5) (k2_pay6 (k2_pay18 x0 x1 x2 x3 x4 x5) (View.ld x0 r2_11) (View.ld x0 r2_12)) (k2_pay7 (k2_pay18 x0 x1 x2 x3 x4 x5) (View.ld x0 r2_13)) (View.ld x0 r2_14) (View.ld x0 r2_15) (View.ld x0 r2_16) (View.ld x0 r2_17) (View.ld x0 r2_18) (ix2 r d)
      = mix (x2 (ix2 r (col 1 d))) (x3 (ix2 r 0)) (val (fun j d => x0 (ix3 j r d)) (fun j => x1 (ix2 j r)) 1 d) := by
  unfold mix val
  rw [← fold8]
  pointwise [k2_pay8, k2_pay6, k2_pay7, k2_pay18, k2_pay19, k2_pay20, k2_pay1, k2_pay2, k2_pay3, col, slot]

theorem head2_apply (r : Fin 512) (d : Fin 128) :
    k2_pay14 (F := Ideal) (k2_pay19 x0 x1 x2 x3 x4 x5) (k2_pay20 x0 x1 x2 x3 x4 x5) (k2_pay12 (k2_pay18 x0 x1 x2 x3 x4 x5) (k2_pay9 (F := Ideal)) (k2_pay10 (View.ld x0 r2_19)) (k2_pay11 (k2_pay18 x0 x1 x2 x3 x4 x5)) (View.ld x0 r2_20) (View.ld x0 r2_21) (View.ld x0 r2_22) (View.ld x0 r2_23) (View.ld x0 r2_24) (View.ld x0 r2_25)) (k2_pay13 (k2_pay18 x0 x1 x2 x3 x4 x5)) (View.ld x0 r2_26) (ix2 r d)
      = mix (x2 (ix2 r (col 2 d))) (x3 (ix2 r 0)) (val (fun j d => x0 (ix3 j r d)) (fun j => x1 (ix2 j r)) 2 d) := by
  unfold mix val
  rw [← fold8]
  pointwise [k2_pay14, k2_pay12, k2_pay13, k2_pay9, k2_pay10, k2_pay11, k2_pay18, k2_pay19, k2_pay20, k2_pay1, k2_pay2, k2_pay3, col, slot]

theorem head3_apply (r : Fin 512) (d : Fin 128) :
    last (k2_pay18 x0 x1 x2 x3 x4 x5) (k2_pay19 x0 x1 x2 x3 x4 x5) (k2_pay20 x0 x1 x2 x3 x4 x5) (k2_pay15 (k2_pay18 x0 x1 x2 x3 x4 x5) (View.ld x0 r2_27) (View.ld x0 r2_28) (View.ld x0 r2_29) (View.ld x0 r2_30) (View.ld x0 r2_31)) (k2_pay16 (k2_pay18 x0 x1 x2 x3 x4 x5)) (View.ld x0 r2_32) (View.ld x0 r2_33) (View.ld x0 r2_34) (ix2 r d)
      = mix (x2 (ix2 r (col 3 d))) (x3 (ix2 r 0)) (val (fun j d => x0 (ix3 j r d)) (fun j => x1 (ix2 j r)) 3 d) := by
  unfold mix val
  rw [← fold8]
  pointwise [last, k2_pay15, k2_pay16, k2_pay18, k2_pay19, k2_pay20, k2_pay1, k2_pay2, k2_pay3, col, slot]

/-- The four heads' mixes. -/
def heads : Fin 4 → FVec Ideal S512x128 .f32 := ![(k2_pay5 (k2_pay18 x0 x1 x2 x3 x4 x5) (k2_pay19 x0 x1 x2 x3 x4 x5) (k2_pay20 x0 x1 x2 x3 x4 x5) (k2_pay4 (View.ld x1 r2_0) (View.ld x0 r2_3) (View.ld x0 r2_4) (View.ld x0 r2_5) (View.ld x0 r2_6) (View.ld x0 r2_7)) (View.ld x0 r2_8) (View.ld x0 r2_9) (View.ld x0 r2_10)),
  (k2_pay8 (k2_pay18 x0 x1 x2 x3 x4 x5) (k2_pay19 x0 x1 x2 x3 x4 x5) (k2_pay20 x0 x1 x2 x3 x4 x5) (k2_pay6 (k2_pay18 x0 x1 x2 x3 x4 x5) (View.ld x0 r2_11) (View.ld x0 r2_12)) (k2_pay7 (k2_pay18 x0 x1 x2 x3 x4 x5) (View.ld x0 r2_13)) (View.ld x0 r2_14) (View.ld x0 r2_15) (View.ld x0 r2_16) (View.ld x0 r2_17) (View.ld x0 r2_18)),
  (k2_pay14 (k2_pay19 x0 x1 x2 x3 x4 x5) (k2_pay20 x0 x1 x2 x3 x4 x5) (k2_pay12 (k2_pay18 x0 x1 x2 x3 x4 x5) (k2_pay9 (F := Ideal)) (k2_pay10 (View.ld x0 r2_19)) (k2_pay11 (k2_pay18 x0 x1 x2 x3 x4 x5)) (View.ld x0 r2_20) (View.ld x0 r2_21) (View.ld x0 r2_22) (View.ld x0 r2_23) (View.ld x0 r2_24) (View.ld x0 r2_25)) (k2_pay13 (k2_pay18 x0 x1 x2 x3 x4 x5)) (View.ld x0 r2_26)),
  (last (k2_pay18 x0 x1 x2 x3 x4 x5) (k2_pay19 x0 x1 x2 x3 x4 x5) (k2_pay20 x0 x1 x2 x3 x4 x5) (k2_pay15 (k2_pay18 x0 x1 x2 x3 x4 x5) (View.ld x0 r2_27) (View.ld x0 r2_28) (View.ld x0 r2_29) (View.ld x0 r2_30) (View.ld x0 r2_31)) (k2_pay16 (k2_pay18 x0 x1 x2 x3 x4 x5)) (View.ld x0 r2_32) (View.ld x0 r2_33) (View.ld x0 r2_34))]

theorem pay17_eq (v1 : FVec Ideal S512x32 .f32) (v3 : FVec Ideal S512x1 .f32) (v5 : FVec Ideal S512x512 .f32) (a0 a1 a2 s : FVec Ideal S512x128 .f32) (w5 : FVec Ideal S512x1 .f32)
    (r5 r6 r7 : Vec Ideal S1x512x128 .f32) (go : Vec Ideal S1x512 .f32) (W : Vec Ideal S512x1024 .f32) :
    k2_pay17 (F := Ideal) v1 v3 v5 a0 a1 a2 s w5 r5 r6 r7 go W
      = tail (concatenate S512x512 1 [⟨S512x128, a0⟩, ⟨S512x128, a1⟩, ⟨S512x128, a2⟩, ⟨S512x128, last v1 v3 v5 s w5 r5 r6 r7⟩] concatenates_S512x128_S512x128_S512x128_S512x128_S512x512_d1) go W := rfl

/-- The second call's block at a token's row is the token's result. -/
theorem block_apply (r : Fin 512) (e : Fin 1024) :
    k2_pay17 (F := Ideal) (k2_pay18 x0 x1 x2 x3 x4 x5) (k2_pay19 x0 x1 x2 x3 x4 x5) (k2_pay20 x0 x1 x2 x3 x4 x5) (k2_pay5 (k2_pay18 x0 x1 x2 x3 x4 x5) (k2_pay19 x0 x1 x2 x3 x4 x5) (k2_pay20 x0 x1 x2 x3 x4 x5) (k2_pay4 (View.ld x1 r2_0) (View.ld x0 r2_3) (View.ld x0 r2_4) (View.ld x0 r2_5) (View.ld x0 r2_6) (View.ld x0 r2_7)) (View.ld x0 r2_8) (View.ld x0 r2_9) (View.ld x0 r2_10)) (k2_pay8 (k2_pay18 x0 x1 x2 x3 x4 x5) (k2_pay19 x0 x1 x2 x3 x4 x5) (k2_pay20 x0 x1 x2 x3 x4 x5) (k2_pay6 (k2_pay18 x0 x1 x2 x3 x4 x5) (View.ld x0 r2_11) (View.ld x0 r2_12)) (k2_pay7 (k2_pay18 x0 x1 x2 x3 x4 x5) (View.ld x0 r2_13)) (View.ld x0 r2_14) (View.ld x0 r2_15) (View.ld x0 r2_16) (View.ld x0 r2_17) (View.ld x0 r2_18)) (k2_pay14 (k2_pay19 x0 x1 x2 x3 x4 x5) (k2_pay20 x0 x1 x2 x3 x4 x5) (k2_pay12 (k2_pay18 x0 x1 x2 x3 x4 x5) (k2_pay9 (F := Ideal)) (k2_pay10 (View.ld x0 r2_19)) (k2_pay11 (k2_pay18 x0 x1 x2 x3 x4 x5)) (View.ld x0 r2_20) (View.ld x0 r2_21) (View.ld x0 r2_22) (View.ld x0 r2_23) (View.ld x0 r2_24) (View.ld x0 r2_25)) (k2_pay13 (k2_pay18 x0 x1 x2 x3 x4 x5)) (View.ld x0 r2_26)) (k2_pay15 (k2_pay18 x0 x1 x2 x3 x4 x5) (View.ld x0 r2_27) (View.ld x0 r2_28) (View.ld x0 r2_29) (View.ld x0 r2_30) (View.ld x0 r2_31)) (k2_pay16 (k2_pay18 x0 x1 x2 x3 x4 x5)) (View.ld x0 r2_32) (View.ld x0 r2_33) (View.ld x0 r2_34) (View.ld x5 r2_35) (View.ld x4 r2_36) (ix2 r e)
      = out (fun j d => x0 (ix3 j r d)) (fun j => x1 (ix2 j r)) (fun c => x2 (ix2 r c)) (x3 (ix2 r 0)) (fun c => x5 (ix2 0 c)) (fun c e => x4 (ix2 c e)) e := by
  rw [pay17_eq]
  change tail (concatenate S512x512 1 [⟨S512x128, (heads x0 x1 x2 x3 x4 x5 0)⟩, ⟨S512x128, (heads x0 x1 x2 x3 x4 x5 1)⟩, ⟨S512x128, (heads x0 x1 x2 x3 x4 x5 2)⟩, ⟨S512x128, (heads x0 x1 x2 x3 x4 x5 3)⟩] concatenates_S512x128_S512x128_S512x128_S512x128_S512x512_d1) _ _ (ix2 r e) = _
  rw [tail_apply]
  have ho : (fun c => concatenate S512x512 1 [⟨S512x128, (heads x0 x1 x2 x3 x4 x5 0)⟩, ⟨S512x128, (heads x0 x1 x2 x3 x4 x5 1)⟩, ⟨S512x128, (heads x0 x1 x2 x3 x4 x5 2)⟩, ⟨S512x128, (heads x0 x1 x2 x3 x4 x5 3)⟩] concatenates_S512x128_S512x128_S512x128_S512x128_S512x512_d1 (ix2 r c))
      = fun c => mix (x2 (ix2 r c)) (x3 (ix2 r 0)) (val (fun j d => x0 (ix3 j r d)) (fun j => x1 (ix2 j r)) (head c) (place c)) := by
    funext c
    rw [← col_head c, head_col, place_col, concat_apply]
    generalize place c = d
    generalize head c = h
    obtain ⟨h, hh⟩ := h
    interval_cases h
    · exact head0_apply x0 x1 x2 x3 x4 x5 r d
    · exact head1_apply x0 x1 x2 x3 x4 x5 r d
    · exact head2_apply x0 x1 x2 x3 x4 x5 r d
    · exact head3_apply x0 x1 x2 x3 x4 x5 r d
  rw [ho]
  unfold out proj
  pointwise

end Block

end Cert.Proof.Value

end
-- ==== Proof.IdealArrays.lean ====
/-
  From blocks to arrays: each window's block is the array's rows that the grid point covers, and the blocks that the bodies
  leave fill the results, every token's entry being `Spec`'s function of that token.
-/
module

public import proofs.«01_k».proof.Proof.IdealValue
public import Idealize.ShloMosaic.Lib.Pipeline.ValueKit

@[expose] public section

noncomputable section

namespace Cert.Proof.Value

open Idealize.ShloMosaic Idealize.ShloMosaic.TcCoe Cert.KernelIdeal Cert.KernelIdeal.Gen Cert.Proof.Spec
open Cert.Proof.KernelIdeal.StageA Cert.Proof.KernelIdeal.StageB
open scoped BigOperators

attribute [local instance] Cert.KernelIdeal.Gen.facts

variable (V : (c : Dev nD) → (b : Ref sig .tc) → Buf (Elt Ideal) ((c : Thread nD τ).loc b))

/-- Where the windows of the first call stand at each grid point. -/
theorem idx0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ win0_6.index t = ![t.val, 0] :=
  (by decide +kernel : ∀ t : Fin grid0.N, _)

/-- The standardised targets of all tokens. -/
def tvsArr (x : FVec Ideal S4096x1024 .f32) (g : FVec Ideal S1x1024 .f32) (W : FVec Ideal S1024x512 .f32) : FVec Ideal S4096x512 .f32 :=
  fun i => tvs (fun k => x (ix2 (i 0) k)) (fun k => g (ix2 0 k)) (fun k c => W (ix2 k c)) (i 1)

/-- The gates of all tokens. -/
def gateArr (x : FVec Ideal S4096x1024 .f32) (g : FVec Ideal S1x1024 .f32) (W : FVec Ideal S1024x1 .f32) : FVec Ideal S4096x1 .f32 :=
  fun i => gate (fun k => x (ix2 (i 0) k)) (fun k => g (ix2 0 k)) (fun k => W (ix2 k 0))

theorem pay0_5 (x : FVec Ideal S512x1024 .f32) (g : FVec Ideal S1x1024 .f32) (W : FVec Ideal S1024x512 .f32) (r c : Fin 512) :
    k0_pay1 (F := Ideal) (k0_pay4 x g W) (k0_pay8 (k0_pay5 x g W) (k0_pay6 x g W) k0_pay7) (k0_pay9 (k0_pay4 x g W)) (k0_pay10 (k0_pay4 x g W)) (ix2 r c)
      = tvs (fun k => x (ix2 r k)) (fun k => g (ix2 0 k)) (fun k c => W (ix2 k c)) c := by
  have h := heads_apply x g W r (head c) (place c)
  rw [col_head] at h
  exact h.trans (congrArg (fun u => stdz u (place c)) (funext fun e => pay4_apply x g W r (col (head c) e)))

theorem blk0_0 (c : Dev nD) (t : Fin cfg0.N) (r : Fin 512) (k : Fin 1024) (n : Fin 4096) (hn : n.val = t.val * 512 + r.val) :
    (iblk0 V c 0 t : S512x1024.Idx → EReal) (ix2 r k) = (V c main_v0 : S4096x1024.Idx → EReal) (ix2 n k) := by
  blk_ext [iblk0, idx0 t]
theorem blk0_1 (c : Dev nD) (t : Fin cfg0.N) : (iblk0 V c 1 t : S1024x1.Idx → EReal) = V c main_arg4 := by blk_ext! [iblk0, idx0 t]
theorem blk0_2 (c : Dev nD) (t : Fin cfg0.N) : (iblk0 V c 2 t : S1024x512.Idx → EReal) = V c main_arg5 := by blk_ext! [iblk0, idx0 t]
theorem blk0_3 (c : Dev nD) (t : Fin cfg0.N) : (iblk0 V c 3 t : S1x1024.Idx → EReal) = V c main_v2 := by blk_ext! [iblk0, idx0 t]
theorem blk0_4 (c : Dev nD) (t : Fin cfg0.N) : (iblk0 V c 4 t : S1x1024.Idx → EReal) = V c main_v3 := by blk_ext! [iblk0, idx0 t]

/-- What the first call leaves in its two results. -/
theorem final0_5 (c : Dev nD) : (dat0 V c).arrAt 5 cfg0.N = tvsArr (V c main_v0) (V c main_v3) (V c main_arg5) := by
  refine (dat0 V c).arrAt_eq_of_covers 5 _ (by decide +kernel) fun t _ y => ?_
  blk_simp
  rw [after0_5]
  unfold out0_5 k0_pay11
  frame_out
  obtain ⟨r, q, rfl⟩ : ∃ (r q : Fin 512), y = ix2 r q := ⟨y 0, y 1, by funext a; match a with | 0 => rfl | 1 => rfl⟩
  have ht : t.val < 8 := t.isLt
  have he : ((View.whole main_v4_0).slice (win0_5.rect t)).emb (ix2 r q) = (ix2 (⟨t.val * 512 + r.val, by omega⟩ : Fin 4096) q : S4096x512.Idx) := by
    blk_ext [idx0 t]
  rw [he]
  refine (pay0_5 _ _ _ r q).trans ?_
  rw [blk0_2, blk0_4]
  exact congrArg (fun x => tvs x _ _ q) (funext fun k => blk0_0 V c t r k _ rfl)

theorem final0_6 (c : Dev nD) : (dat0 V c).arrAt 6 cfg0.N = gateArr (V c main_v0) (V c main_v2) (V c main_arg4) := by
  refine (dat0 V c).arrAt_eq_of_covers 6 _ (by decide +kernel) fun t _ y => ?_
  blk_simp
  rw [after0_6]
  frame_out
  obtain ⟨r, rfl⟩ : ∃ (r : Fin 512), y = ix2 r (0 : Fin 1) := ⟨y 0, by funext a; match a with | 0 => rfl | 1 => exact Subsingleton.elim (α := Fin 1) _ _⟩
  have ht : t.val < 8 := t.isLt
  have he : ((View.whole main_v4_1).slice (win0_6.rect t)).emb (ix2 r (0 : Fin 1)) = (ix2 (⟨t.val * 512 + r.val, by omega⟩ : Fin 4096) (0 : Fin 1) : S4096x1.Idx) := by
    blk_ext [idx0 t]
  rw [he]
  refine (pay3_apply _ _ _ r).trans ?_
  rw [blk0_1, blk0_3]
  exact congrArg (fun x => gate x _ _) (funext fun k => blk0_0 V c t r k _ rfl)

/-- Where the windows of the last call stand at each grid point. -/
theorem idx2 : ∀ t : Fin cfg2.N, win2_0.index t = ![0, t.val, 0] ∧ win2_1.index t = ![0, t.val] ∧ win2_2.index t = ![t.val, 0] ∧ win2_3.index t = ![t.val, 0]
    ∧ win2_4.index t = ![0, 0] ∧ win2_5.index t = ![0, 0] ∧ win2_6.index t = ![t.val, 0] :=
  (by decide +kernel : ∀ t : Fin grid2.N, _)

/-- The results of all tokens, from their gathered rows, weights, standardised targets and gates. -/
def outArr (rows : FVec Ideal S32x4096x128 .f32) (w : FVec Ideal S32x4096 .f32) (t : FVec Ideal S4096x512 .f32) (g : FVec Ideal S4096x1 .f32) (W : FVec Ideal S512x1024 .f32)
    (go : FVec Ideal S1x512 .f32) : FVec Ideal S4096x1024 .f32 :=
  fun i => out (fun j d => rows (ix3 j (i 0) d)) (fun j => w (ix2 j (i 0))) (fun c => t (ix2 (i 0) c)) (g (ix2 (i 0) 0)) (fun c => go (ix2 0 c)) (fun c e => W (ix2 c e)) (i 1)

theorem blk2_0 (c : Dev nD) (t : Fin cfg2.N) (j : Fin 32) (r : Fin 512) (d : Fin 128) (n : Fin 4096) (hn : n.val = t.val * 512 + r.val) :
    (iblk2 V c 0 t : S32x512x128.Idx → EReal) (ix3 j r d) = (V c main_v7 : S32x4096x128.Idx → EReal) (ix3 j n d) := by
  blk_ext [iblk2, idx2 t]
theorem blk2_1 (c : Dev nD) (t : Fin cfg2.N) (j : Fin 32) (r : Fin 512) (n : Fin 4096) (hn : n.val = t.val * 512 + r.val) :
    (iblk2 V c 1 t : S32x512.Idx → EReal) (ix2 j r) = (V c main_arg3 : S32x4096.Idx → EReal) (ix2 j n) := by
  blk_ext [iblk2, idx2 t]
theorem blk2_2 (c : Dev nD) (t : Fin cfg2.N) (r q : Fin 512) (n : Fin 4096) (hn : n.val = t.val * 512 + r.val) :
    (iblk2 V c 2 t : S512x512.Idx → EReal) (ix2 r q) = (V c main_v4_0 : S4096x512.Idx → EReal) (ix2 n q) := by
  blk_ext [iblk2, idx2 t]
theorem blk2_3 (c : Dev nD) (t : Fin cfg2.N) (r : Fin 512) (n : Fin 4096) (hn : n.val = t.val * 512 + r.val) :
    (iblk2 V c 3 t : S512x1.Idx → EReal) (ix2 r 0) = (V c main_v4_1 : S4096x1.Idx → EReal) (ix2 n 0) := by
  blk_ext [iblk2, idx2 t]
theorem blk2_4 (c : Dev nD) (t : Fin cfg2.N) : (iblk2 V c 4 t : S512x1024.Idx → EReal) = V c main_arg6 := by blk_ext! [iblk2, idx2 t]
theorem blk2_5 (c : Dev nD) (t : Fin cfg2.N) : (iblk2 V c 5 t : S1x512.Idx → EReal) = V c main_v8 := by blk_ext! [iblk2, idx2 t]

/-- What the last call leaves in its result. -/
theorem final2_6 (c : Dev nD) :
    (dat2 V c).arrAt 6 cfg2.N = outArr (V c main_v7) (V c main_arg3) (V c main_v4_0) (V c main_v4_1) (V c main_arg6) (V c main_v8) := by
  refine (dat2 V c).arrAt_eq_of_covers 6 _ (by decide +kernel) fun t _ y => ?_
  blk_simp
  rw [after2_6]
  unfold out2_6
  rw [show (View.canon [⟨r2_36, _⟩] : Vec Ideal S512x1024 .f32) = _ from View.canon_unit_zero (by funext a; match a with | 0 => rfl | 1 => rfl) ..]
  obtain ⟨r, q, rfl⟩ : ∃ (r : Fin 512) (q : Fin 1024), y = ix2 r q := ⟨y 0, y 1, by funext a; match a with | 0 => rfl | 1 => rfl⟩
  have ht : t.val < 8 := t.isLt
  have he : ((View.whole main_v9).slice (win2_6.rect t)).emb (ix2 r q) = (ix2 (⟨t.val * 512 + r.val, by omega⟩ : Fin 4096) q : S4096x1024.Idx) := by
    blk_ext [idx2 t]
  rw [he]
  refine (block_apply _ _ _ _ _ _ r q).trans ?_
  rw [blk2_4, blk2_5]
  have e0 : (fun (j : Fin 32) (d : Fin 128) => (iblk2 V c 0 t : S32x512x128.Idx → EReal) (ix3 j r d)) = fun j d => (V c main_v7 : S32x4096x128.Idx → EReal) (ix3 j (⟨t.val * 512 + r.val, by omega⟩ : Fin 4096) d) :=
    funext fun j => funext fun d => blk2_0 V c t j r d _ rfl
  have e1 : (fun (j : Fin 32) => (iblk2 V c 1 t : S32x512.Idx → EReal) (ix2 j r)) = fun j => (V c main_arg3 : S32x4096.Idx → EReal) (ix2 j (⟨t.val * 512 + r.val, by omega⟩ : Fin 4096)) :=
    funext fun j => blk2_1 V c t j r _ rfl
  have e2 : (fun (q : Fin 512) => (iblk2 V c 2 t : S512x512.Idx → EReal) (ix2 r q)) = fun q => (V c main_v4_0 : S4096x512.Idx → EReal) (ix2 (⟨t.val * 512 + r.val, by omega⟩ : Fin 4096) q) :=
    funext fun q => blk2_2 V c t r q _ rfl
  rw [e0, e1, e2, blk2_3 V c t r (⟨t.val * 512 + r.val, by omega⟩ : Fin 4096) rfl]
  rfl

end Cert.Proof.Value

end
-- ==== Proof.Result.lean ====
/-
  The kernel's result read at a token: what the last call leaves, traced back through the gather and the first call to the
  launch contents of the arguments.
-/
module

public import proofs.«01_k».proof.Proof.IdealRun
public import proofs.«01_k».proof.Proof.IdealArrays

@[expose] public section

noncomputable section

namespace Cert.Proof.Value

open Idealize.ShloMosaic Idealize.ShloMosaic.TcCoe Cert.KernelIdeal Cert.KernelIdeal.Gen Cert.Proof.Spec
open Cert.Proof.KernelIdeal.StageA Cert.Proof.KernelIdeal.StageB Cert.Proof.KernelIdeal.Run Cert.Proof.KernelIdeal.Regions Cert.Proof.KernelIdeal.Tile
open scoped BigOperators

attribute [local instance] Cert.KernelIdeal.Gen.facts

variable (m : (ℓ : Loc nD τ sig) → Buf (Elt Ideal) ℓ) (d : Dev nD)

/-- The reshapes at the head, and the one before the last call. -/
theorem W1_v0 : (W1 m d (Proc.devRef .tc main_v0) : S4096x1024.Idx → EReal) = shapeCast S4096x1024 (m ((d : Thread nD τ).loc main_arg0)) shapeCasts_S2x2048x1024_S4096x1024 := by
  unfold W1
  after_results <;> rfl
theorem W1_v2 : (W1 m d (Proc.devRef .tc main_v2) : S1x1024.Idx → EReal) = shapeCast S1x1024 (m ((d : Thread nD τ).loc main_arg7)) shapeCasts_S1024_S1x1024 := by
  unfold W1
  after_results <;> rfl
theorem W1_v3 : (W1 m d (Proc.devRef .tc main_v3) : S1x1024.Idx → EReal) = shapeCast S1x1024 (m ((d : Thread nD τ).loc main_arg8)) shapeCasts_S1024_S1x1024 := by
  unfold W1
  after_results <;> rfl

/-- A buffer no statement up to the gather writes holds its launch contents after it. -/
theorem W4_arg (r : Ref sig .tc) (h1 : r ∉ writesA) (h2 : ∀ w : Fin cfg0.W, Pipeline.arrRef spec0 w = r → (cfg0.win w).isOut = false)
    (h3 : r ∉ writesB) (h4 : r ≠ main_v6) : W4 m d (Proc.devRef .tc r) = m ((d : Thread nD τ).loc r) :=
  (W4_of m d r h4).trans ((W3_of m d r h3).trans ((W2_of m d r h2).trans (W1_of m d r h1)))

theorem W5_v8 : (W5 m d (Proc.devRef .tc main_v8) : S1x512.Idx → EReal) = shapeCast S1x512 (m ((d : Thread nD τ).loc main_arg9)) shapeCasts_S512_S1x512 := by
  rw [← W4_arg m d main_arg9 (by decide) (by decide) (by decide) (by decide)]
  unfold W5
  after_results <;> rfl
theorem W5_v7 : (W5 m d (Proc.devRef .tc main_v7) : S32x4096x128.Idx → EReal) = shapeCast S32x4096x128 (G (F := Ideal) (X m d) (I m d)) shapeCasts_S131072x128_S32x4096x128 := by
  rw [← W4_v6 m d]
  unfold W5
  after_results <;> rfl
theorem W5_arg3 : W5 m d (Proc.devRef .tc main_arg3) = m ((d : Thread nD τ).loc main_arg3) :=
  (W5_of m d main_arg3 (by decide)).trans (W4_arg m d main_arg3 (by decide) (by decide) (by decide) (by decide))
theorem W5_arg6 : W5 m d (Proc.devRef .tc main_arg6) = m ((d : Thread nD τ).loc main_arg6) :=
  (W5_of m d main_arg6 (by decide)).trans (W4_arg m d main_arg6 (by decide) (by decide) (by decide) (by decide))

/-- The first call's results before the last call. -/
theorem W5_v4_0 : (W5 m d (Proc.devRef .tc main_v4_0) : S4096x512.Idx → EReal)
    = tvsArr (W1 m d (Proc.devRef .tc main_v0)) (W1 m d (Proc.devRef .tc main_v3)) (W1 m d (Proc.devRef .tc main_arg5)) :=
  (W5_of m d main_v4_0 (by decide)).trans ((W4_of m d main_v4_0 (by decide)).trans ((W3_of m d main_v4_0 (by decide)).trans
    ((exit0_arr (W1 m) d 5).trans (final0_5 (tcv (W1 m)) d))))
theorem W5_v4_1 : (W5 m d (Proc.devRef .tc main_v4_1) : S4096x1.Idx → EReal)
    = gateArr (W1 m d (Proc.devRef .tc main_v0)) (W1 m d (Proc.devRef .tc main_v2)) (W1 m d (Proc.devRef .tc main_arg4)) :=
  (W5_of m d main_v4_1 (by decide)).trans ((W4_of m d main_v4_1 (by decide)).trans ((W3_of m d main_v4_1 (by decide)).trans
    ((exit0_arr (W1 m) d 6).trans (final0_6 (tcv (W1 m)) d))))

/-- The gathered rows by lists: row `n` of list `j` is the table's row at that index. -/
theorem rows_apply (T : S262144x128.Idx → EReal) (b : IVec S32x4096 32) (j : Fin 32) (n : Fin 4096) (q : Fin 128) :
    shapeCast S32x4096x128 (G (F := Ideal) T (shapeCast S32x32x128 b shapeCasts_S32x4096_S32x32x128)) shapeCasts_S131072x128_S32x4096x128 (ix3 j n q)
      = T (ix2 ⟨(b (ix2 j n)).toNat % 262144, by omega⟩ q) := by
  have hj : j.val < 32 := j.isLt
  have hn : n.val < 4096 := n.isLt
  rw [shapeCast_apply _ _ (ix3 j n q) (ix2 (⟨j.val * 4096 + n.val, by omega⟩ : Fin 131072) q)
    (by rw [Shape.rowMajor_val_two, Shape.rowMajor_val_three]; show (j.val * 4096 + n.val) * 128 + q.val = _; rfl)]
  unfold G
  refine congrArg T (congrArg (fun z => ix2 z q) (Fin.ext (congrArg (fun v : BitVec 32 => v.toNat % 262144) ?_)))
  refine shapeCast_apply b _ _ _ ?_
  rw [Shape.rowMajor_val_two, Shape.rowMajor_val_three]
  show j.val * 4096 + n.val = ((j.val * 4096 + n.val) / 4096 * 32 + (j.val * 4096 + n.val) % 4096 / 128) * 128 + (j.val * 4096 + n.val) % 128
  omega

/-- The kernel's result at a token. -/
theorem result_apply (n : Fin 4096) (e : Fin 1024) :
    (W6 m d (Proc.devRef .tc main_v9) : S4096x1024.Idx → EReal) (ix2 n e)
      = tokens (shapeCast S4096x1024 (m ((d : Thread nD τ).loc main_arg0)) shapeCasts_S2x2048x1024_S4096x1024)
          (shapeCast S262144x128 (m ((d : Thread nD τ).loc main_arg1)) shapeCasts_S65536x4x128_S262144x128)
          (m ((d : Thread nD τ).loc main_arg2)) (m ((d : Thread nD τ).loc main_arg3)) (m ((d : Thread nD τ).loc main_arg4)) (m ((d : Thread nD τ).loc main_arg5))
          (m ((d : Thread nD τ).loc main_arg6)) (m ((d : Thread nD τ).loc main_arg7)) (m ((d : Thread nD τ).loc main_arg8)) (m ((d : Thread nD τ).loc main_arg9)) n e := by
  have h : (W6 m d (Proc.devRef .tc main_v9) : S4096x1024.Idx → EReal)
      = outArr (W5 m d (Proc.devRef .tc main_v7)) (W5 m d (Proc.devRef .tc main_arg3)) (W5 m d (Proc.devRef .tc main_v4_0)) (W5 m d (Proc.devRef .tc main_v4_1))
          (W5 m d (Proc.devRef .tc main_arg6)) (W5 m d (Proc.devRef .tc main_v8)) :=
    (exit2_arr (W5 m) d 6).trans (final2_6 (tcv (W5 m)) d)
  rw [h, W5_v7, W5_v8, W5_arg3, W5_arg6, W5_v4_0, W5_v4_1, W1_v0, W1_v2, W1_v3, W1_of m d main_arg4 (by decide), W1_of m d main_arg5 (by decide), X_eq, I_eq]
  have e0 : (fun (j : Fin 32) (q : Fin 128) => shapeCast S32x4096x128 (G (F := Ideal) (shapeCast S262144x128 (m ((d : Thread nD τ).loc main_arg1)) shapeCasts_S65536x4x128_S262144x128)
      (shapeCast S32x32x128 (m ((d : Thread nD τ).loc main_arg2)) shapeCasts_S32x4096_S32x32x128)) shapeCasts_S131072x128_S32x4096x128 (ix3 j n q)) = _ :=
    funext fun j => funext fun q => rows_apply _ _ j n q
  have e1 : ∀ (g : FVec Ideal S1024 .f32), (fun k : Fin 1024 => shapeCast S1x1024 g shapeCasts_S1024_S1x1024 (ix2 0 k)) = fun k => g (ix1 k) :=
    fun g => funext fun k => shapeCast_apply g _ _ _ (by rw [Shape.rowMajor_val_one, Shape.rowMajor_val_two]; show k.val = 0 * 1024 + k.val; omega)
  have e2 : ∀ (g : FVec Ideal S512 .f32), (fun k : Fin 512 => shapeCast S1x512 g shapeCasts_S512_S1x512 (ix2 0 k)) = fun k => g (ix1 k) :=
    fun g => funext fun k => shapeCast_apply g _ _ _ (by rw [Shape.rowMajor_val_one, Shape.rowMajor_val_two]; show k.val = 0 * 512 + k.val; omega)
  show out (fun j q => shapeCast S32x4096x128 _ _ (ix3 j n q)) _ (fun c => tvs _ (fun k => shapeCast S1x1024 _ _ (ix2 0 k)) _ c)
    (gate _ (fun k => shapeCast S1x1024 _ _ (ix2 0 k)) _) (fun c => shapeCast S1x512 _ _ (ix2 0 c)) _ e = _
  rw [e0, e1, e1, e2]
  rfl

end Cert.Proof.Value

end
-- ==== Proof.Rows.lean ====
/-
  The precondition read: every index names a row of the table.
-/
module

public import proofs.«01_k».proof.Proof.Gen.Pre_rows_exist
public import Idealize.ShloMosaic.Lib.Pipeline.Value

@[expose] public section

noncomputable section

namespace Cert.Proof.Rows

open Idealize.ShloMosaic Cert.Pre_rows_exist

attribute [local instance] Cert.Pre_rows_exist.Gen.facts

variable {F : FTy → Type} [FloatOps F]

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

theorem word_lt (v : BitVec 32) (e : IntOp.andi (IntOp.cmpi .sge v 0#32) (IntOp.cmpi .slt v 262144#32) = 1#1) : v.toNat < 262144 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition says that every index is below 262144. -/
theorem rows_lt (a0 : FVec F S2x2048x1024 .f32) (a1 : FVec F S65536x4x128 .f32) (b : IVec S32x4096 32) (a3 : FVec F S32x4096 .f32) (a4 : FVec F S1024x1 .f32)
    (a5 : FVec F S1024x512 .f32) (a6 : FVec F S512x1024 .f32) (a7 a8 : FVec F S1024 .f32) (a9 : FVec F S512 .f32)
    (h : Cert.Pre_rows_exist.fn (F := F) a0 a1 b a3 a4 a5 a6 a7 a8 a9 = fun _ => 1#1) (j : S32x4096.Idx) : (b j).toNat < 262144 := by
  have e := congrFun h j
  simp only [Cert.Pre_rows_exist.fn, andi, cmpi, broadcastInDim, constantI] at e
  exact word_lt _ e

/-- Such an index is not negative. -/
theorem not_neg {v : BitVec 32} (h : v.toNat < 262144) : IntOp.cmpi .slt v 0#32 ≠ 1#1 := by
  simp only [IntOp.cmpi, ne_eq, ofBool_eq_one, BitVec.slt_eq_decide, decide_eq_true_eq, BitVec.toInt_eq_toNat_cond, BitVec.toNat_ofNat, Nat.reducePow, Nat.reduceMod]
  omega

end Cert.Proof.Rows

end
-- ==== Proof.RefValue.lean ====
/-
  The reference's result read at a token: its own term, cut into the layers of the computation, each layer the token's
  function of `Spec` at an index.
-/
module

public import proofs.«01_k».proof.Proof.Spec
public import proofs.«01_k».proof.Proof.Rows
public import proofs.«01_k».proof.Proof.Gen.ReferenceIdeal.Run

@[expose] public section

noncomputable section

namespace Cert.Proof.RefValue

open Idealize.ShloMosaic Idealize.ShloMosaic.TcCoe Cert.ReferenceIdeal Cert.ReferenceIdeal.Gen Cert.Proof.Spec
open scoped BigOperators

attribute [local instance] Cert.ReferenceIdeal.Gen.facts

/-- The scaled normalisation of every token. -/
def rNorm (X : FVec Ideal S4096x1024 .f32) (g : FVec Ideal S1024 .f32) : FVec Ideal S4096x1024 .f32 :=
  mulf (Host.divf X (broadcastInDim S4096x1024 ![0, 1] bcast_S4096x1_S4096x1024_0_1 (Host.sqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x34000000#32)))))) (broadcastInDim S4096x1024 ![0, 1] bcast_S1x1024_S4096x1024_0_1 (broadcastInDim S1x1024 ![1] bcast_S1024_S1x1024_1 g))

theorem rNorm_apply (X : FVec Ideal S4096x1024 .f32) (g : FVec Ideal S1024 .f32) (n : Fin 4096) (k : Fin 1024) :
    rNorm X g (ix2 n k) = nrm 0x44800000#32 (fun k => X (ix2 n k)) (fun k => g (ix1 k)) k := by
  unfold nrm
  rw [← div_sqrt _ _ (den_pos (by norm_num) c1024 _)]
  pointwise [rNorm, den]

/-- The gate of every token. -/
def rGate (N : FVec Ideal S4096x1024 .f32) (W : FVec Ideal S1024x1 .f32) : FVec Ideal S4096x1x1 .f32 :=
  broadcastInDim S4096x1x1 ![0, 1] bcast_S4096x1_S4096x1x1_0_1 (Host.divf (broadcastInDim S4096x1 ![] bcast_S_S4096x1 (constant S_ .f32 0x3F800000#32)) (addf (broadcastInDim S4096x1 ![] bcast_S_S4096x1 (constant S_ .f32 0x3F800000#32)) (Host.exp (Host.negf (Host.dotGeneral dot_S4096x1024_S1024x1_S4096x1_1_0_0_1_n_n none N W)))))

theorem rGate_apply (X : FVec Ideal S4096x1024 .f32) (g : FVec Ideal S1024 .f32) (W : FVec Ideal S1024x1 .f32) (n : Fin 4096) :
    rGate (rNorm X g) W (ix3 n 0 0) = gate (fun k => X (ix2 n k)) (fun k => g (ix1 k)) (fun k => W (ix2 k 0)) := by
  unfold gate
  rw [zero_sub]
  pointwise [rGate, rNorm_apply]

/-- The projected target of every token, by heads. -/
def rTarget (N : FVec Ideal S4096x1024 .f32) (W : FVec Ideal S1024x512 .f32) : FVec Ideal S4096x4x128 .f32 :=
  shapeCast _ (Host.dotGeneral dot_S4096x1024_S1024x512_S4096x512_1_0_0_1_n_n none N W) shapeCasts_S4096x512_S4096x4x128

theorem rTarget_apply (X : FVec Ideal S4096x1024 .f32) (g : FVec Ideal S1024 .f32) (W : FVec Ideal S1024x512 .f32) (n : Fin 4096) (h : Fin 4) (d : Fin 128) :
    rTarget (rNorm X g) W (ix3 n h d) = target (fun k => X (ix2 n k)) (fun k => g (ix1 k)) (fun k c => W (ix2 k c)) (col h d) := by
  unfold target col
  pointwise [rTarget, rNorm_apply]

/-- Every head of every token less its mean. -/
def rCentred (U : FVec Ideal S4096x4x128 .f32) : FVec Ideal S4096x4x128 .f32 :=
  subf U (broadcastInDim S4096x4x128 ![0, 1, 2] bcast_S4096x4x1_S4096x4x128_0_1_2 (Host.divf (broadcastInDim S4096x4x1 ![0, 1] bcast_S4096x4_S4096x4x1_0_1 (Host.reduceAdd U (constant S_ .f32 0x00000000#32) reducesTo_S4096x4x128_S4096x4_d2 h_S_)) (broadcastInDim S4096x4x1 ![] bcast_S_S4096x4x1 (constant S_ .f32 0x43000000#32))))

theorem rCentred_apply (U : FVec Ideal S4096x4x128 .f32) (n : Fin 4096) (h : Fin 4) (d : Fin 128) :
    rCentred U (ix3 n h d) = centred (fun d => U (ix3 n h d)) d := by
  unfold centred
  pointwise [rCentred]

/-- Every head of every token standardised. -/
def rStd (U : FVec Ideal S4096x4x128 .f32) : FVec Ideal S4096x4x128 .f32 :=
  Host.divf (rCentred U) (broadcastInDim S4096x4x128 ![0, 1, 2] bcast_S4096x4x1_S4096x4x128_0_1_2 (maximumf (Host.sqrt (select (broadcastInDim S4096x4x1 ![] bcast_S_S4096x4x1 (cmpf .ogt (subf (constant S_ .f32 0x43000000#32) (sitofp .f32 (constantI S_ 32 1#32)) : FVec Ideal S_ .f32) (constant S_ .f32 0x00000000#32))) (Host.divf (broadcastInDim S4096x4x1 ![0, 1] bcast_S4096x4_S4096x4x1_0_1 (Host.reduceAdd (mulf (rCentred U) (rCentred U)) (constant S_ .f32 0x00000000#32) reducesTo_S4096x4x128_S4096x4_d2 h_S_)) (broadcastInDim S4096x4x1 ![] bcast_S_S4096x4x1 (subf (constant S_ .f32 0x43000000#32) (sitofp .f32 (constantI S_ 32 1#32))))) (broadcastInDim S4096x4x1 ![] bcast_S_S4096x4x1 (id (constant S_ .f32 0x7FC00000#32))))) (broadcastInDim S4096x4x1 ![] bcast_S_S4096x4x1 (constant S_ .f32 0x2EDBE6FF#32))))

/-- The divisor of the variance is 127. -/
theorem norm_count : Ideal.ofBits .f32 0x43000000#32 - (FloatOps.sitofp .f32 (1#32) : Ideal .f32) = ((127 : ℝ) : EReal) := by
  rw [c128, show (FloatOps.sitofp .f32 (1#32) : Ideal .f32) = ((1 : ℝ) : EReal) from by
    show (((1#32 : BitVec 32).toInt : ℝ) : EReal) = _
    norm_num, ← EReal.coe_sub]
  norm_num

theorem rStd_apply (U : FVec Ideal S4096x4x128 .f32) (n : Fin 4096) (h : Fin 4) (d : Fin 128) :
    rStd U (ix3 n h d) = stdz (fun d => U (ix3 n h d)) d := by
  unfold stdz
  pointwise [rStd, rCentred_apply]
  rw [norm_count, c127, if_pos (by norm_num)]

/-- The gathered rows weighted and summed. -/
def rVal (rows : FVec Ideal S32x4096x128 .f32) (w : FVec Ideal S32x4096 .f32) : FVec Ideal S4096x4x128 .f32 :=
  Host.dotGeneral dot_S4x8x4096x128_S4x8x4096_S4096x4x128_1_1_3_n_20_20 none (shapeCast S4x8x4096x128 rows shapeCasts_S32x4096x128_S4x8x4096x128) (shapeCast S4x8x4096 w shapeCasts_S32x4096_S4x8x4096)

theorem rVal_apply (rows : FVec Ideal S32x4096x128 .f32) (w : FVec Ideal S32x4096 .f32) (n : Fin 4096) (h : Fin 4) (d : Fin 128) :
    rVal rows w (ix3 n h d) = val (fun j d => rows (ix3 j n d)) (fun j => w (ix2 j n)) h d := by
  unfold val slot
  pointwise [rVal]
  exact Finset.sum_congr rfl fun _ _ => mul_comm _ _

/-- The mix of every token, in a row of all its heads. -/
def rMix (T : FVec Ideal S4096x4x128 .f32) (G : FVec Ideal S4096x1x1 .f32) (Y : FVec Ideal S4096x4x128 .f32) : FVec Ideal S4096x512 .f32 :=
  shapeCast _ (addf T (mulf (broadcastInDim S4096x4x128 ![0, 1, 2] bcast_S4096x1x1_S4096x4x128_0_1_2 G) (subf Y T))) shapeCasts_S4096x4x128_S4096x512

theorem rMix_apply (T : FVec Ideal S4096x4x128 .f32) (G : FVec Ideal S4096x1x1 .f32) (Y : FVec Ideal S4096x4x128 .f32) (n : Fin 4096) (c : Fin 512) :
    rMix T G Y (ix2 n c) = mix (T (ix3 n (head c) (place c))) (G (ix3 n 0 0)) (Y (ix3 n (head c) (place c))) := by
  unfold mix head place
  pointwise [rMix]

/-- The last projection of every token. -/
def rProj (O : FVec Ideal S4096x512 .f32) (go : FVec Ideal S512 .f32) (W : FVec Ideal S512x1024 .f32) : FVec Ideal S4096x1024 .f32 :=
  Host.dotGeneral dot_S4096x512_S512x1024_S4096x1024_1_0_0_1_n_n none (mulf (Host.divf O (broadcastInDim S4096x512 ![0, 1] bcast_S4096x1_S4096x512_0_1 (Host.sqrt (addf (Host.divf (broadcastInDim S4096x1 ![0] bcast_S4096_S4096x1_0 (Host.reduceAdd (mulf O O) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x34000000#32)))))) (broadcastInDim S4096x512 ![0, 1] bcast_S1x512_S4096x512_0_1 (broadcastInDim S1x512 ![1] bcast_S512_S1x512_1 go))) W

theorem rProj_apply (O : FVec Ideal S4096x512 .f32) (go : FVec Ideal S512 .f32) (W : FVec Ideal S512x1024 .f32) (n : Fin 4096) (e : Fin 1024) :
    rProj O go W (ix2 n e) = proj (fun c => O (ix2 n c)) (fun c => go (ix1 c)) (fun c e => W (ix2 c e)) e := by
  unfold proj nrm
  simp only [← div_sqrt _ _ (den_pos (by norm_num) c512 _)]
  pointwise [rProj, den]

/-- The reference's gathered rows. -/
def rRows (mem : FVec Ideal S65536x4x128 .f32) (idx : IVec S32x4096 32) : FVec Ideal S32x4096x128 .f32 :=
  Host.gather gather_S262144x128_S32x4096x1_S32x4096x128_2_0_n_n_0_2_1128 (shapeCast S262144x128 mem shapeCasts_S65536x4x128_S262144x128) (broadcastInDim S32x4096x1 ![0, 1] bcast_S32x4096_S32x4096x1_0_1 (select (cmpi .slt idx (broadcastInDim S32x4096 ![] bcast_S_S32x4096 (constantI S_ 32 0#32))) (addi idx (broadcastInDim S32x4096 ![] bcast_S_S32x4096 (constantI S_ 32 262144#32))) idx))

/-- A gather down the rows of a table by a list of lists of row numbers, read at an index. -/
theorem gather_rows (x : FVec Ideal S262144x128 .f32) (idx : IVec S32x4096x1 32) (j : Fin 32) (n : Fin 4096) (d : Fin 128) :
    Host.gather gather_S262144x128_S32x4096x1_S32x4096x128_2_0_n_n_0_2_1128 x idx (ix3 j n d)
      = x (ix2 ⟨min (idx (ix3 j n 0)).toInt.toNat (262144 - 1), by omega⟩ d) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S262144x128_S32x4096x1_S32x4096x128_2_0_n_n_0_2_1128.startIndexMap from List.mem_singleton.mpr rfl)]
    have hsi : gather_S262144x128_S32x4096x1_S32x4096x128_2_0_n_n_0_2_1128.siIdx (ix3 j n d)
        ⟨List.idxOf (0 : Fin 2) gather_S262144x128_S32x4096x1_S32x4096x128_2_0_n_n_0_2_1128.startIndexMap,
          List.idxOf_lt_length_iff.2 (List.mem_singleton.mpr rfl)⟩ = ix3 j n 0 := by
      funext b; refine Fin.ext ?_
      match b with
      | ⟨0, _⟩ => rfl
      | ⟨1, _⟩ => rfl
      | ⟨2, _⟩ => rfl
    rw [hsi]
    rfl
  · have h1 : (1 : Fin 2) ∉ gather_S262144x128_S32x4096x1_S32x4096x128_2_0_n_n_0_2_1128.startIndexMap := by decide
    unfold GatherDims.start
    rw [dif_neg h1]
    simp only [Nat.zero_add, Nat.add_zero]
    rfl

/-- At an index that names a row, the gathered row is that row: no wrap and no clamp. -/
theorem rRows_apply (mem : FVec Ideal S65536x4x128 .f32) (idx : IVec S32x4096 32) (j : Fin 32) (n : Fin 4096) (d : Fin 128)
    (h : (idx (ix2 j n)).toNat < 262144) :
    rRows mem idx (ix3 j n d) = shapeCast S262144x128 mem shapeCasts_S65536x4x128_S262144x128 (ix2 ⟨(idx (ix2 j n)).toNat, h⟩ d) := by
  unfold rRows
  rw [gather_rows]
  refine congrArg _ (congrArg (fun z => ix2 z d) (Fin.ext ?_))
  have e : ∀ v : BitVec 32, v = idx (ix2 j n) → min v.toInt.toNat (262144 - 1) = (idx (ix2 j n)).toNat := by
    rintro v rfl
    rw [BitVec.toInt_eq_toNat_cond, if_pos (by omega)]
    omega
  refine e _ ?_
  pointwise
  exact if_neg (Rows.not_neg h)

/-- The reference's term is its layers put together. -/
theorem res_eq (m : (ℓ : Loc nD τ sig) → Buf (Elt Ideal) ℓ) (c : Dev nD) :
    (Value.res_main_v77 m c : S4096x1024.Idx → EReal)
      = rProj (rMix (rStd (rTarget (rNorm (shapeCast S4096x1024 (m ((c.tc : Thread nD τ).loc main_arg0)) shapeCasts_S2x2048x1024_S4096x1024) (m ((c.tc : Thread nD τ).loc main_arg8))) (m ((c.tc : Thread nD τ).loc main_arg5))))
          (rGate (rNorm (shapeCast S4096x1024 (m ((c.tc : Thread nD τ).loc main_arg0)) shapeCasts_S2x2048x1024_S4096x1024) (m ((c.tc : Thread nD τ).loc main_arg7))) (m ((c.tc : Thread nD τ).loc main_arg4)))
          (rVal (rRows (m ((c.tc : Thread nD τ).loc main_arg1)) (m ((c.tc : Thread nD τ).loc main_arg2))) (m ((c.tc : Thread nD τ).loc main_arg3))))
        (m ((c.tc : Thread nD τ).loc main_arg9)) (m ((c.tc : Thread nD τ).loc main_arg6)) := by
  unfold Value.res_main_v77 rProj rMix rStd rCentred rTarget rGate rNorm rVal rRows
  rfl

/-- The reference's term at a token, at indices that name rows. -/
theorem term_apply (X : FVec Ideal S4096x1024 .f32) (mem : FVec Ideal S65536x4x128 .f32) (idx : IVec S32x4096 32) (w : FVec Ideal S32x4096 .f32)
    (Wg : FVec Ideal S1024x1 .f32) (Wv : FVec Ideal S1024x512 .f32) (Wo : FVec Ideal S512x1024 .f32) (gg gv : FVec Ideal S1024 .f32) (go : FVec Ideal S512 .f32)
    (h : ∀ j, (idx j).toNat < 262144) (n : Fin 4096) (e : Fin 1024) :
    rProj (rMix (rStd (rTarget (rNorm X gv) Wv)) (rGate (rNorm X gg) Wg) (rVal (rRows mem idx) w)) go Wo (ix2 n e)
      = tokens X (shapeCast S262144x128 mem shapeCasts_S65536x4x128_S262144x128) idx w Wg Wv Wo gg gv go n e := by
  rw [rProj_apply]
  refine congrArg (fun o => proj o _ _ e) (funext fun c => ?_)
  rw [rMix_apply, rStd_apply, rGate_apply, rVal_apply]
  have e1 : (fun d => rTarget (rNorm X gv) Wv (ix3 n (head c) d))
      = fun d => target (fun k => X (ix2 n k)) (fun k => gv (ix1 k)) (fun k c => Wv (ix2 k c)) (col (head c) d) :=
    funext fun d => rTarget_apply X gv Wv n (head c) d
  have e2 : (fun j d => rRows mem idx (ix3 j n d))
      = fun j d => shapeCast S262144x128 mem shapeCasts_S65536x4x128_S262144x128 (ix2 ⟨(idx (ix2 j n)).toNat % 262144, by omega⟩ d) :=
    funext fun j => funext fun d => (rRows_apply mem idx j n d (h _)).trans
      (congrArg _ (congrArg (fun z => ix2 z d) (Fin.ext (Nat.mod_eq_of_lt (h _)).symm)))
  rw [e1, e2]
  rfl

end Cert.Proof.RefValue

end
-- ==== Proof.Pick.lean ====
/-
  The places of the least entries of a column, in order: `pick f t` is the place found in round `t` when each round takes the
  first place of the least entry and then raises that entry to ⊤. The same places, read off a stable sort by the entries:
  `sorted_pick`; and off `Host.topK` of the column negated.
-/
module

public import Idealize.ShloMosaic.PureOps.Ideal
public import Idealize.ShloMosaic.PureOps.Ideal.Laws
public import Idealize.ShloMosaic.Lib.SortPrefix
public import Idealize.ShloMosaic.Lib.Routing.BitFacts
public import Idealize.ShloMosaic.Lib.Pointwise

@[expose] public section

noncomputable section

namespace Cert.Proof.Pick

open Idealize.ShloMosaic

variable {n : ℕ} [NeZero n]

/-- Some place holds the least entry. -/
theorem exists_low (f : Fin n → EReal) : (Finset.univ.filter fun i => ∀ j, f i ≤ f j).Nonempty := by
  obtain ⟨i, -, h⟩ := Finset.exists_min_image Finset.univ f Finset.univ_nonempty
  exact ⟨i, Finset.mem_filter.mpr ⟨Finset.mem_univ _, fun j => h j (Finset.mem_univ _)⟩⟩

/-- The first place of the least entry. -/
def low (f : Fin n → EReal) : Fin n := (Finset.univ.filter fun i => ∀ j, f i ≤ f j).min' (exists_low f)

theorem low_le (f : Fin n → EReal) (j : Fin n) : f (low f) ≤ f j :=
  (Finset.mem_filter.mp (Finset.min'_mem _ (exists_low f))).2 j

theorem low_first (f : Fin n → EReal) (j : Fin n) (h : f j ≤ f (low f)) : low f ≤ j :=
  Finset.min'_le _ _ (Finset.mem_filter.mpr ⟨Finset.mem_univ _, fun l => h.trans (low_le f l)⟩)

/-- The column before round `t`. -/
def rest (f : Fin n → EReal) : ℕ → Fin n → EReal
  | 0 => f
  | t + 1 => Function.update (rest f t) (low (rest f t)) ⊤

/-- The place that round `t` finds. -/
def pick (f : Fin n → EReal) (t : ℕ) : Fin n := low (rest f t)

/-- Before round `t` the places found are at ⊤ and the others as they were. -/
theorem rest_apply (f : Fin n → EReal) (t : ℕ) (i : Fin n) : rest f t i = if ∃ s < t, pick f s = i then ⊤ else f i := by
  induction t with
  | zero => simp [rest]
  | succ t ih =>
    show Function.update (rest f t) (pick f t) ⊤ i = _
    by_cases h : i = pick f t
    · rw [h, Function.update_self, if_pos ⟨t, Nat.lt_succ_self t, rfl⟩]
    · rw [Function.update_of_ne h, ih]
      refine if_congr ⟨fun ⟨s, hs, e⟩ => ⟨s, hs.trans (Nat.lt_succ_self t), e⟩, fun ⟨s, hs, e⟩ => ⟨s, ?_, e⟩⟩ rfl rfl
      exact (Nat.lt_succ_iff_lt_or_eq.mp hs).resolve_right fun e' => h (e' ▸ e.symm)

section Finite

variable (f : Fin n → EReal) (hf : ∀ i, f i ≠ ⊤)
include hf

/-- While a place is left, the place found is none of those before. -/
theorem pick_new {t : ℕ} (ht : t < n) : ¬ ∃ s < t, pick f s = pick f t := by
  classical
  have hc : ((Finset.range t).image (pick f)).card < (Finset.univ : Finset (Fin n)).card := by
    rw [Finset.card_univ, Fintype.card_fin]
    exact lt_of_le_of_lt Finset.card_image_le (by rwa [Finset.card_range])
  obtain ⟨p, -, hp⟩ := Finset.exists_mem_notMem_of_card_lt_card hc
  have hp' : ¬ ∃ s < t, pick f s = p := fun ⟨s, hs, e⟩ => hp (Finset.mem_image.mpr ⟨s, Finset.mem_range.mpr hs, e⟩)
  intro h
  have h1 := low_le (rest f t) p
  rw [rest_apply f t p, if_neg hp'] at h1
  have h2 : rest f t (low (rest f t)) = ⊤ := by rw [rest_apply]; exact if_pos h
  rw [h2] at h1
  exact hf p (top_le_iff.mp h1)

/-- The least entry found is the column's own. -/
theorem rest_pick {t : ℕ} (ht : t < n) : rest f t (pick f t) = f (pick f t) := by
  rw [rest_apply, if_neg (pick_new f hf ht)]

/-- The entry found is at most every entry not found before, and the first of its equals. -/
theorem pick_before {t : ℕ} (ht : t < n) (p : Fin n) (hp : ¬ ∃ s < t, pick f s = p) :
    f (pick f t) ≤ f p ∧ (f p ≤ f (pick f t) → pick f t ≤ p) := by
  have h1 : rest f t p = f p := by rw [rest_apply, if_neg hp]
  have h2 := rest_pick f hf ht
  refine ⟨?_, fun h => low_first (rest f t) p ?_⟩
  · rw [← h2, ← h1]; exact low_le _ _
  · rw [h1]; exact h.trans_eq h2.symm

end Finite

/-- A column's order: by the entry, and of equal entries by the place. -/
def before (f : Fin n → EReal) (p q : Fin n) : Bool := decide (f p < f q) || (decide (f p = f q) && decide (p < q))

theorem before_strict (f : Fin n → EReal) : StrictTotalBefore (before f) :=
  StrictTotalBefore.of_key_then_position (fun a b : EReal => decide (a < b)) f (fun a => by simp)
    (fun a b c h h' => by simp only [decide_eq_true_eq] at h h' ⊢; exact h.trans h')
    (fun a b => by simpa only [decide_eq_true_eq] using lt_trichotomy a b)

/-- A stable insertion of an element that stands before all the others depends on the strict order of the entries alone. -/
theorem insert_eq (f : Fin n → EReal) (a : Fin n) (l : List (Fin n)) (h : ∀ b ∈ l, a < b) :
    insertBefore (fun p q => decide (f p < f q)) a l = insertBefore (before f) a l := by
  refine insertBefore_congr _ _ a l fun b hb => ?_
  have : decide (b < a) = false := decide_eq_false (not_lt.mpr (h b hb).le)
  simp [before, this]

theorem sort_eq (f : Fin n → EReal) (l : List (Fin n)) (h : l.Pairwise (· < ·)) :
    stableSort (fun p q => decide (f p < f q)) l = stableSort (before f) l := by
  induction l with
  | nil => rfl
  | cons a l ih =>
    rw [List.pairwise_cons] at h
    unfold stableSort
    rw [ih h.2]
    exact insert_eq f a _ fun b hb => h.1 b ((perm_stableSort _ _).mem_iff.mp hb)

/-- The first places of the stable sort by the entries are the places found round by round. -/
theorem sorted_pick (f : Fin n → EReal) (hf : ∀ i, f i ≠ ⊤) {k : ℕ} (hk : k ≤ n) (i : Fin k) :
    sortedFrom (fun p q => decide (f p < f q)) (i.castLE hk) = pick f i.val := by
  have e : sortedFrom (fun p q => decide (f p < f q)) = sortedFrom (before f) := by
    funext a
    unfold sortedFrom
    rw [List.get_of_eq (show sortPositions n _ = sortPositions n (before f) from sort_eq f _ (List.pairwise_lt_finRange n))]
    rfl
  rw [e]
  have hn : ∀ j : Fin k, j.val < n := fun j => j.isLt.trans_le hk
  have hlt : ∀ i j : Fin k, i < j → pick f i.val ≠ pick f j.val := fun i j hij h => pick_new f hf (hn j) ⟨i.val, hij, h⟩
  have hno : ∀ (i : Fin k) (p : Fin n), (¬ ∃ s < i.val, pick f s = p) → before f p (pick f i.val) = false := fun i p hp => by
    obtain ⟨h1, h2⟩ := pick_before f hf (hn i) p hp
    unfold before
    rw [decide_eq_false (not_lt.mpr h1), Bool.false_or, Bool.and_eq_false_iff, decide_eq_false_iff_not, decide_eq_false_iff_not]
    by_cases h : f p = f (pick f i.val)
    · exact Or.inr (not_lt.mpr (h2 h.le))
    · exact Or.inl h
  refine (before_strict f).sortedFrom_eq_of_prefix hk (fun j : Fin k => pick f j.val) (fun i j h => ?_) (fun i j hij => ?_) (fun i p hp => ?_) i
  · rcases lt_trichotomy i j with hij | hij | hij
    · exact absurd h (hlt i j hij)
    · exact hij
    · exact absurd h.symm (hlt j i hij)
  · refine hno i _ fun ⟨s, hs, e⟩ => pick_new f hf (hn j) ⟨s, hs.trans hij, e⟩
  · exact hno i p fun ⟨s, hs, e⟩ => hp ⟨s, hs.trans i.isLt⟩ e

/-- The order that the host's selection of the greatest asks of a negated column. -/
theorem greater_neg (a b : EReal) : (FloatOps.cmpfTotal (F := Ideal) (φ := .f32) .gt (-a) (-b) == 1#1) = decide (a < b) := by
  show (Ideal.cmp .ogt (-a) (-b) == 1#1) = _
  simp only [Ideal.cmp, EReal.neg_lt_neg_iff, gt_iff_lt]
  by_cases h : a < b <;> simp [h]

/-- The places that the host's selection of the `k` greatest along the last of three axes returns for a negated array. -/
theorem topK_three {a b k : ℕ} (x : FVec Ideal ⟨3, ![a, b, n]⟩ .f32) (h : (⟨3, ![a, b, n]⟩ : Shape).Slices (fun _ => 0) ⟨3, ![a, b, k]⟩) (hk : k ≤ n)
    (p : Fin a) (q : Fin b) (i : Fin k) (f : Fin n → EReal) (hx : ∀ j, x (ix3 p q j) = -f j) (hf : ∀ i, f i ≠ ⊤) :
    (Host.topK (⟨3, ![a, b, k]⟩ : Shape) 2 (FloatOps.cmpfTotal .gt) x h).2 (ix3 p q i) = BitVec.ofNat 32 (pick f i.val).val := by
  have e : sortedFrom (fun u v => FloatOps.cmpfTotal (F := Ideal) (φ := .f32) .gt (x (ix3 p q u)) (x (ix3 p q v)) == 1#1) (i.castLE hk) = pick f i.val := by
    rw [← sorted_pick f hf hk i]
    congr 1
    funext u v
    rw [hx, hx]
    exact greater_neg _ _
  rw [← e]
  have along : ∀ (j : (⟨3, ![a, b, n]⟩ : Shape).Idx) (u : Fin n), j 0 = p → j 1 = q → Shape.Idx.along j 2 u = ix3 p q u := by
    intro j u h0 h1
    funext c
    match c with
    | ⟨0, _⟩ => exact (Function.update_of_ne (fun h => absurd (congrArg Fin.val h) (show ¬ (_ : ℕ) = 2 by simp)) _ _).trans h0
    | ⟨1, _⟩ => exact (Function.update_of_ne (fun h => absurd (congrArg Fin.val h) (show ¬ (_ : ℕ) = 2 by simp)) _ _).trans h1
    | ⟨2, _⟩ => exact Function.update_self _ _ _
  have gen : ∀ (y : Fin n → (⟨3, ![a, b, n]⟩ : Shape).Idx) (_ : ∀ u, y u = ix3 p q u) (z : Fin n) (_ : z = i.castLE hk),
      iotaInDim (⟨3, ![a, b, n]⟩ : Shape) 32 2 (y (sortedFrom (fun u v =>
          FloatOps.cmpfTotal (F := Ideal) (φ := .f32) .gt (x (y u)) (x (y v)) == 1#1) z))
        = BitVec.ofNat 32 (sortedFrom (fun u v => FloatOps.cmpfTotal (F := Ideal) (φ := .f32) .gt (x (ix3 p q u)) (x (ix3 p q v)) == 1#1) (i.castLE hk)).val := by
    intro y hy z hz
    obtain rfl : y = fun u => ix3 p q u := funext hy
    subst hz
    rfl
  exact gen (fun u => Shape.Idx.along (fun c => ⟨0 + (ix3 p q i (c.cast h.1.symm)).val,
    Nat.lt_of_lt_of_le (Nat.add_lt_add_left (ix3 p q i _).isLt _) (h.2 c)⟩) 2 u)
    (fun u => along _ u (Fin.ext (Nat.zero_add _)) (Fin.ext (Nat.zero_add _))) _ (Fin.ext (Nat.zero_add _))

/-- The least entry, as a fold, is at its first place. -/
theorem fold_min (f : Fin n → EReal) : Finset.fold min (Ideal.ofBits .f32 0x7F800000#32) f Finset.univ = f (low f) := by
  rw [show Ideal.ofBits .f32 0x7F800000#32 = ⊤ by simp [Ideal.ofBits, Ideal.ieee]]
  refine le_antisymm (Finset.fold_min_le _ |>.mpr (.inr ⟨_, Finset.mem_univ _, le_rfl⟩)) ?_
  exact Finset.le_fold_min _ |>.mpr ⟨le_top, fun j _ => low_le f j⟩

/-- The signed minimum of two small words is the word of the lesser number. -/
theorem minsi_small (a : ℕ) (ha : a ≤ 2147483647) (b : ℕ) (hb : b ≤ 2147483647) :
    IntOp.minsi (BitVec.ofNat 32 a) (BitVec.ofNat 32 b) = BitVec.ofNat 32 (min a b) := by
  unfold IntOp.minsi
  rw [Routing.slt_ofNat32 (by omega) (by omega)]
  by_cases h : a < b
  · rw [decide_eq_true h, if_pos rfl, min_eq_left h.le]
  · rw [decide_eq_false h, if_neg Bool.false_ne_true, min_eq_right (not_lt.mp h)]

/-- A signed minimum over small words is the minimum of the numbers they write. -/
theorem fold_minsi {ι : Type} [DecidableEq ι] (g : ι → ℕ) (hg : ∀ i, g i ≤ 2147483647) (s : Finset ι) :
    Finset.fold IntOp.minsi (2147483647#32) (fun i => BitVec.ofNat 32 (g i)) s = BitVec.ofNat 32 (Finset.fold min 2147483647 g s)
      ∧ Finset.fold min 2147483647 g s ≤ 2147483647 := by
  induction s using Finset.induction_on with
  | empty => exact ⟨rfl, le_rfl⟩
  | insert a s ha ih =>
    rw [Finset.fold_insert ha, Finset.fold_insert ha, ih.1]
    exact ⟨minsi_small _ (hg a) _ ih.2, (min_le_right _ _).trans ih.2⟩

/-- The first place of the least entry, as the least of the places that hold it. -/
theorem fold_low (f : Fin n → EReal) (c : ℕ) (hn : n ≤ c) (hc : c < 2 ^ 31) :
    Finset.fold IntOp.minsi (2147483647#32) (fun i => if f i = f (low f) then BitVec.ofNat 32 i.val else BitVec.ofNat 32 c) Finset.univ
      = BitVec.ofNat 32 (low f).val := by
  have e : (fun i : Fin n => if f i = f (low f) then BitVec.ofNat 32 i.val else BitVec.ofNat 32 c) = fun i => BitVec.ofNat 32 (if f i = f (low f) then i.val else c) := by
    funext i
    split <;> rfl
  rw [e, (fold_minsi _ (fun i => by have := i.isLt; split <;> omega) _).1]
  congr 1
  refine le_antisymm (Finset.fold_min_le _ |>.mpr (.inr ⟨low f, Finset.mem_univ _, by rw [if_pos rfl]⟩)) ?_
  refine Finset.le_fold_min _ |>.mpr ⟨by have := (low f).isLt; omega, fun j _ => ?_⟩
  have := (low f).isLt
  split
  · rename_i h
    exact low_first f j h.le
  · omega

/-- Words of places are equal only for equal places. -/
theorem cmpi_place (hn : n ≤ 2 ^ 31) (i j : Fin n) : IntOp.cmpi .eq (BitVec.ofNat 32 i.val) (BitVec.ofNat 32 j.val) = if i = j then 1#1 else 0#1 := by
  have hi := i.isLt
  have hj := j.isLt
  by_cases h : i = j
  · subst h
    simp [IntOp.cmpi]
  · rw [if_neg h]
    have : BitVec.ofNat 32 i.val ≠ BitVec.ofNat 32 j.val := fun e => h (Fin.ext (by
      have := congrArg BitVec.toNat e
      simp only [BitVec.toNat_ofNat] at this
      omega))
    show BitVec.ofBool (BitVec.ofNat 32 i.val == BitVec.ofNat 32 j.val) = 0#1
    rw [beq_eq_false_iff_ne.mpr this]
    rfl

end Cert.Proof.Pick

end
-- ==== Proof.SelectTile.lean ====
/-
  The rounds of the selection call's body, read at a column: each round takes the first place of the column's least entry and
  raises that entry to ⊤, so the places it finds are `Pick.pick`'s; and the body's shorter names for the same rounds.
-/
module

public import proofs.«01_k».proof.Proof.Pick
public import proofs.«01_k».proof.Proof.Spec
public import proofs.«01_k».proof.Proof.Gen.SelectIdeal.Value
public import Idealize.ShloMosaic.Lib.Pipeline.ValueKit

@[expose] public section

noncomputable section

namespace Cert.Proof.SelectTile

open Idealize.ShloMosaic Idealize.ShloMosaic.TcCoe Cert.SelectIdeal Cert.SelectIdeal.Gen Cert.Proof.Pick
open scoped BigOperators

/-- A choice among eight blocks of `w`, by repeated comparison, is the choice by quotient and remainder. -/
theorem ladder8 {α : Type} {w : ℕ} (i : ℕ) (hi : i < 8 * w) (g : Fin 8 → Fin w → α) :
    (if h0 : i < w then g 0 ⟨i, h0⟩ else if h1 : i - w < w then g 1 ⟨i - w, h1⟩ else if h2 : i - w - w < w then g 2 ⟨i - w - w, h2⟩
      else if h3 : i - w - w - w < w then g 3 ⟨i - w - w - w, h3⟩ else if h4 : i - w - w - w - w < w then g 4 ⟨i - w - w - w - w, h4⟩
      else if h5 : i - w - w - w - w - w < w then g 5 ⟨i - w - w - w - w - w, h5⟩ else if h6 : i - w - w - w - w - w - w < w then g 6 ⟨i - w - w - w - w - w - w, h6⟩
      else g 7 ⟨i - w - w - w - w - w - w - w, by omega⟩)
      = g ⟨i / w, Nat.div_lt_of_lt_mul (by omega)⟩ ⟨i % w, Nat.mod_lt _ (by omega)⟩ := by
  have hw : 0 < w := by omega
  have key : ∀ (p : Fin 8) (q : ℕ) (hq : q < w), i = p.val * w + q → g p ⟨q, hq⟩ = g ⟨i / w, Nat.div_lt_of_lt_mul (by omega)⟩ ⟨i % w, Nat.mod_lt _ hw⟩ := by
    intro p q hq e
    have e1 : i / w = p.val := by rw [e, Nat.mul_comm, Nat.mul_add_div hw, Nat.div_eq_of_lt hq, Nat.add_zero]
    have e2 : i % w = q := by rw [e, Nat.mul_comm, Nat.mul_add_mod, Nat.mod_eq_of_lt hq]
    exact congrArg₂ g (Fin.ext e1.symm : p = ⟨i / w, Nat.div_lt_of_lt_mul (by omega)⟩) (Fin.ext e2.symm : (⟨q, hq⟩ : Fin w) = ⟨i % w, Nat.mod_lt _ hw⟩)
  split_ifs
  · exact key 0 _ _ (by show i = 0 * w + i; omega)
  · exact key 1 _ _ (by show i = 1 * w + (i - w); omega)
  · exact key 2 _ _ (by show i = 2 * w + (i - w - w); omega)
  · exact key 3 _ _ (by show i = 3 * w + (i - w - w - w); omega)
  · exact key 4 _ _ (by show i = 4 * w + (i - w - w - w - w); omega)
  · exact key 5 _ _ (by show i = 5 * w + (i - w - w - w - w - w); omega)
  · exact key 6 _ _ (by show i = 6 * w + (i - w - w - w - w - w - w); omega)
  · exact key 7 _ _ (by show i = 7 * w + (i - w - w - w - w - w - w - w); omega)

theorem big : (Named.named κ "big" 0x7F61B1E6#32 : Ideal .f32) = (⊤ : EReal) := by
  rfl

/-- The row numbers of the distances' tile, and of the products' tile. -/
abbrev I256 : IVec S256x4096 32 := iota .tc S256x4096 32 [0] iota_S256x4096_d0_w32
abbrev I64 : IVec S64x2048 32 := iota .tc S64x2048 32 [0] iota_S64x2048_d0_w32

theorem min_apply (x : FVec Ideal S256x4096 .f32) (j : Fin 4096) : k0_pay20 x (ix2 0 j) = x (ix2 (low fun i => x (ix2 i j)) j) := by
  pointwise [k0_pay20]
  exact fold_min fun i : Fin 256 => x (ix2 i j)

theorem sel_apply (x : FVec Ideal S256x4096 .f32) (j : Fin 4096) : k0_pay21 I256 x (ix2 0 j) = BitVec.ofNat 32 (low fun i : Fin 256 => x (ix2 i j)).val := by
  pointwise [k0_pay21, min_apply]
  exact fold_low (fun i : Fin 256 => x (ix2 i j)) 257 (by decide) (by decide)

theorem next_apply (x : FVec Ideal S256x4096 .f32) (i : Fin 256) (j : Fin 4096) :
    k0_pay22 I256 x (ix2 i j) = Function.update (fun i : Fin 256 => x (ix2 i j)) (low fun i => x (ix2 i j)) ⊤ i := by
  pointwise [k0_pay22, sel_apply]
  rw [big, cmpi_place (by decide), Function.update_apply]
  split <;> rfl

/-- The distances before round `t`. -/
def cur256 (x : FVec Ideal S256x4096 .f32) : ℕ → FVec Ideal S256x4096 .f32
  | 0 => x
  | t + 1 => k0_pay22 I256 (cur256 x t)

theorem cur256_apply (x : FVec Ideal S256x4096 .f32) (t : ℕ) (i : Fin 256) (j : Fin 4096) : cur256 x t (ix2 i j) = rest (fun i : Fin 256 => x (ix2 i j)) t i := by
  induction t generalizing i with
  | zero => rfl
  | succ t ih =>
    show k0_pay22 I256 (cur256 x t) (ix2 i j) = _
    rw [next_apply, funext ih]
    rfl

/-- Eight rows stacked, read at one of them. -/
theorem rows_apply {α : Type} (x : Fin 8 → S1x4096.Idx → α) (k : Fin 8) (j : Fin 4096) :
    concatenate S8x4096 0 [⟨S1x4096, x 0⟩, ⟨S1x4096, x 1⟩, ⟨S1x4096, x 2⟩, ⟨S1x4096, x 3⟩, ⟨S1x4096, x 4⟩, ⟨S1x4096, x 5⟩, ⟨S1x4096, x 6⟩, ⟨S1x4096, x 7⟩]
      concatenates_S1x4096_S1x4096_S1x4096_S1x4096_S1x4096_S1x4096_S1x4096_S1x4096_S8x4096_d0 (ix2 k j) = x k (ix2 0 j) := by
  pointwise
  refine (ladder8 (w := 1) k.val k.isLt fun p u => x p (ix2 u j)).trans ?_
  exact congrArg₂ (fun p (u : Fin 1) => x p (ix2 u j)) (Fin.ext (Nat.div_one k.val) : (⟨k.val / 1, Nat.div_lt_of_lt_mul (by omega)⟩ : Fin 8) = k) (Subsingleton.elim _ _)

theorem rows2048_apply {α : Type} (x : Fin 8 → S1x2048.Idx → α) (k : Fin 8) (j : Fin 2048) :
    concatenate S8x2048 0 [⟨S1x2048, x 0⟩, ⟨S1x2048, x 1⟩, ⟨S1x2048, x 2⟩, ⟨S1x2048, x 3⟩, ⟨S1x2048, x 4⟩, ⟨S1x2048, x 5⟩, ⟨S1x2048, x 6⟩, ⟨S1x2048, x 7⟩]
      concatenates_S1x2048_S1x2048_S1x2048_S1x2048_S1x2048_S1x2048_S1x2048_S1x2048_S8x2048_d0 (ix2 k j) = x k (ix2 0 j) := by
  pointwise
  refine (ladder8 (w := 1) k.val k.isLt fun p u => x p (ix2 u j)).trans ?_
  exact congrArg₂ (fun p (u : Fin 1) => x p (ix2 u j)) (Fin.ext (Nat.div_one k.val) : (⟨k.val / 1, Nat.div_lt_of_lt_mul (by omega)⟩ : Fin 8) = k) (Subsingleton.elim _ _)

/-- The eight least distances of every column and their places, in order. -/
def vals (x : FVec Ideal S256x4096 .f32) : FVec Ideal S8x4096 .f32 :=
  addf (concatenate S8x4096 0 [⟨S1x4096, k0_pay20 (cur256 x 0)⟩, ⟨S1x4096, k0_pay20 (cur256 x 1)⟩, ⟨S1x4096, k0_pay20 (cur256 x 2)⟩, ⟨S1x4096, k0_pay20 (cur256 x 3)⟩,
      ⟨S1x4096, k0_pay20 (cur256 x 4)⟩, ⟨S1x4096, k0_pay20 (cur256 x 5)⟩, ⟨S1x4096, k0_pay20 (cur256 x 6)⟩, ⟨S1x4096, k0_pay20 (cur256 x 7)⟩]
      concatenates_S1x4096_S1x4096_S1x4096_S1x4096_S1x4096_S1x4096_S1x4096_S1x4096_S8x4096_d0)
    (broadcast S8x4096 (Scalar.ofBits .f32 0x3A83126F#32))
def places (x : FVec Ideal S256x4096 .f32) : IVec S8x4096 32 :=
  concatenate S8x4096 0 [⟨S1x4096, k0_pay21 I256 (cur256 x 0)⟩, ⟨S1x4096, k0_pay21 I256 (cur256 x 1)⟩, ⟨S1x4096, k0_pay21 I256 (cur256 x 2)⟩, ⟨S1x4096, k0_pay21 I256 (cur256 x 3)⟩,
      ⟨S1x4096, k0_pay21 I256 (cur256 x 4)⟩, ⟨S1x4096, k0_pay21 I256 (cur256 x 5)⟩, ⟨S1x4096, k0_pay21 I256 (cur256 x 6)⟩, ⟨S1x4096, k0_pay21 I256 (cur256 x 7)⟩]
      concatenates_S1x4096_S1x4096_S1x4096_S1x4096_S1x4096_S1x4096_S1x4096_S1x4096_S8x4096_d0

theorem places_apply (x : FVec Ideal S256x4096 .f32) (k : Fin 8) (j : Fin 4096) :
    places x (ix2 k j) = BitVec.ofNat 32 (pick (fun i : Fin 256 => x (ix2 i j)) k.val).val := by
  refine (rows_apply (fun t : Fin 8 => k0_pay21 I256 (cur256 x t.val)) k j).trans ?_
  rw [sel_apply, funext fun i => cur256_apply x k.val i j]
  rfl

theorem vals_apply (x : FVec Ideal S256x4096 .f32) (k : Fin 8) (j : Fin 4096) (hx : ∀ i : Fin 256, x (ix2 i j) ≠ (⊤ : EReal)) :
    vals x (ix2 k j) = x (ix2 (pick (fun i : Fin 256 => x (ix2 i j)) k.val) j) + Ideal.ofBits .f32 0x3A83126F#32 := by
  refine congrArg (· + Ideal.ofBits .f32 0x3A83126F#32) ((rows_apply (fun t : Fin 8 => k0_pay20 (cur256 x t.val)) k j).trans ?_)
  rw [min_apply, funext fun i => cur256_apply x k.val i j, cur256_apply]
  exact rest_pick _ hx (by have := k.isLt; omega)

/-- The body's names for the first rounds are these. -/
theorem pay40_eq (x : FVec Ideal S256x4096 .f32) :
    k0_pay40 (F := Ideal) I256 (k0_pay20 x) (k0_pay20 (k0_pay22 I256 x)) (k0_pay23 I256 (k0_pay22 I256 x)) (k0_pay26 I256 (k0_pay22 I256 x)) (k0_pay28 I256 (k0_pay22 I256 x)) (k0_pay29 I256 (k0_pay22 I256 x)) (k0_pay31 I256 (k0_pay22 I256 x))
      = vals x := rfl
theorem pay41_eq (x : FVec Ideal S256x4096 .f32) :
    k0_pay41 (F := Ideal) I256 (k0_pay21 I256 x) (k0_pay21 I256 (k0_pay22 I256 x)) (k0_pay24 I256 (k0_pay22 I256 x)) (k0_pay27 I256 (k0_pay22 I256 x)) (k0_pay28 I256 (k0_pay22 I256 x)) (k0_pay30 I256 (k0_pay22 I256 x)) (k0_pay31 I256 (k0_pay22 I256 x))
      = places x := rfl

/-- The mark of each column's least product, its first place; the products before round `t`. -/
theorem mark_apply (x : FVec Ideal S64x2048 .f32) (i : Fin 64) (j : Fin 2048) :
    k0_pay54 x (ix2 i j) = if i = low (fun i : Fin 64 => x (ix2 i j)) then 1#1 else 0#1 := by
  have e : ∀ j, Finset.fold min (Ideal.ofBits .f32 0x7F800000#32) (fun i : Fin 64 => x (ix2 i j)) Finset.univ = x (ix2 (low fun i => x (ix2 i j)) j) :=
    fun j => fold_min fun i : Fin 64 => x (ix2 i j)
  pointwise [k0_pay54, e]
  rw [← cmpi_place (by decide)]
  exact congrArg (IntOp.cmpi .eq _) (fold_low (fun i : Fin 64 => x (ix2 i j)) 65 (by decide) (by decide))

def cur64 (x : FVec Ideal S64x2048 .f32) : ℕ → FVec Ideal S64x2048 .f32
  | 0 => x
  | t + 1 => k0_pay79 (cur64 x t) (k0_pay54 (cur64 x t))

theorem cur64_apply (x : FVec Ideal S64x2048 .f32) (t : ℕ) (i : Fin 64) (j : Fin 2048) : cur64 x t (ix2 i j) = rest (fun i : Fin 64 => x (ix2 i j)) t i := by
  induction t generalizing i with
  | zero => rfl
  | succ t ih =>
    have e : ∀ y o, k0_pay79 (F := Ideal) y o (ix2 i j) = Scalar.select (o (ix2 i j)) (⊤ : EReal) (y (ix2 i j)) := fun y o => by
      pointwise [k0_pay79]
      rw [big]
    show k0_pay79 (cur64 x t) (k0_pay54 (cur64 x t)) (ix2 i j) = _
    rw [e, mark_apply, funext ih, ih]
    refine Eq.trans ?_ (Function.update_apply (rest (fun i : Fin 64 => x (ix2 i j)) t) _ _ i).symm
    split <;> rfl

theorem markT_apply (x : FVec Ideal S64x2048 .f32) (t : ℕ) (i : Fin 64) (j : Fin 2048) :
    k0_pay54 (cur64 x t) (ix2 i j) = if i = pick (fun i : Fin 64 => x (ix2 i j)) t then 1#1 else 0#1 := by
  rw [mark_apply, funext fun i => cur64_apply x t i j]
  rfl

/-- A sum of words over a column marked at one place is the word there. -/
theorem fold_mark (v : Fin 64 → BitVec 32) (p : Fin 64) : Finset.fold IntOp.addi (0#32) (fun i => if i = p then v i else 0#32) Finset.univ = v p := by
  have key : ∀ s : Finset (Fin 64), Finset.fold IntOp.addi (0#32) (fun i => if i = p then v i else 0#32) s = if p ∈ s then v p else 0#32 := by
    intro s
    induction s using Finset.induction_on with
    | empty => rfl
    | insert a s ha ih =>
      rw [Finset.fold_insert ha, ih]
      by_cases h : a = p
      · subst h
        rw [if_pos rfl, if_neg ha, if_pos (Finset.mem_insert_self _ _)]
        exact BitVec.add_zero _
      · rw [if_neg h]
        refine (BitVec.zero_add _).trans (if_congr ?_ rfl rfl)
        rw [Finset.mem_insert]
        exact ⟨.inr, fun h' => h'.resolve_left fun e => h e.symm⟩
  rw [key, if_pos (Finset.mem_univ _)]

/-- The entry at each column's mark: of words, and of scores. -/
theorem word_apply (v : IVec S64x2048 32) (x : FVec Ideal S64x2048 .f32) (t : ℕ) (j : Fin 2048) :
    k0_pay77 v (k0_pay54 (cur64 x t)) 0#32 (ix2 0 j) = v (ix2 (pick (fun i : Fin 64 => x (ix2 i j)) t) j) := by
  pointwise [k0_pay77, markT_apply]
  refine Eq.trans ?_ (fold_mark (fun i => v (ix2 i j)) (pick (fun i : Fin 64 => x (ix2 i j)) t))
  congr 1
  funext i
  split <;> rfl

theorem score_apply (v : FVec Ideal S64x2048 .f32) (x : FVec Ideal S64x2048 .f32) (t : ℕ) (j : Fin 2048) :
    k0_pay78 v (k0_pay54 (cur64 x t)) (ix2 0 j) = v (ix2 (pick (fun i : Fin 64 => x (ix2 i j)) t) j) := by
  pointwise [k0_pay78, markT_apply]
  have e : ∀ i : Fin 64, Scalar.select (if i = pick (fun i : Fin 64 => x (ix2 i j)) t then 1#1 else 0#1) (v (ix2 i j)) (0 : EReal)
      = if i = pick (fun i : Fin 64 => x (ix2 i j)) t then v (ix2 i j) else 0 := fun i => by split <;> rfl
  refine (Finset.sum_congr rfl fun i _ => e i).trans ?_
  rw [Finset.sum_ite_eq' Finset.univ _ fun i => v (ix2 i j), if_pos (Finset.mem_univ _)]

end Cert.Proof.SelectTile

end
-- ==== Proof.SelectSpec.lean ====
/-
  The choice that the selection call makes for one token and head, over plain index types: the distances of the two halves of
  the query from the keys, the eight nearest keys of each half, the eight least of the sixty-four products, and the weights.
-/
module

public import proofs.«01_k».proof.Proof.Pick
public import proofs.«01_k».proof.Proof.Spec

@[expose] public section

noncomputable section

namespace Cert.Proof.SelectSpec

open Idealize.ShloMosaic Cert.Proof.Pick Cert.Proof.Spec
open scoped BigOperators

/-- A token's query, at one column. -/
def query (x g : Fin 1024 → EReal) (W : Fin 1024 → Fin 1024 → EReal) (c : Fin 1024) : EReal := ∑ k, nrm 0x44800000#32 x g k * W k c

/-- The squared distance, by the squares and twice the product. -/
def dist (q k : Fin 128 → EReal) : EReal := (∑ d, q d * q d) + (∑ d, k d * k d) - Ideal.ofBits .f32 0x40000000#32 * ∑ d, q d * k d

/-- The column of place `d` of head `h` in the first half of the query, and in the second. -/
def qcol (p : Fin 8) (d : Fin 128) : Fin 1024 := ⟨p.val * 128 + d.val, by omega⟩
def first (h : Fin 4) : Fin 8 := ⟨h.val, by omega⟩
def second (h : Fin 4) : Fin 8 := ⟨4 + h.val, by omega⟩

/-- The two places, one in each half, that a place among the sixty-four products stands for. -/
def hi (c : Fin 64) : Fin 8 := ⟨c.val / 8, by omega⟩
def lo (c : Fin 64) : Fin 8 := ⟨c.val % 8, by omega⟩

/-- The `k`-th least distance, kept off zero. -/
def near (D : Fin 256 → EReal) (k : Fin 8) : EReal := D (pick D k.val) + Ideal.ofBits .f32 0x3A83126F#32

section Halves

variable (D1 D2 : Fin 256 → EReal)

def prod (c : Fin 64) : EReal := near D1 (hi c) * near D2 (lo c)

/-- The place of the `k`-th least product. -/
def sub (k : Fin 8) : Fin 64 := pick (prod D1 D2) k.val

/-- The pair of keys at a place among the products, as one word. -/
def word (c : Fin 64) : BitVec 32 := BitVec.ofNat 32 (pick D1 (hi c).val).val * 256#32 + BitVec.ofNat 32 (pick D2 (lo c).val).val

def score (c : Fin 64) : EReal := (0 - Ideal.log (near D1 (hi c))) + (0 - Ideal.log (near D2 (lo c)))

/-- The scores turned to weights. -/
def peak (v : Fin 8 → EReal) : EReal := Finset.fold max (Ideal.ofBits .f32 0xFF800000#32) v Finset.univ
def soft (v : Fin 8 → EReal) (k : Fin 8) : EReal := Ideal.div (Ideal.exp (v k - peak v)) (∑ j, Ideal.exp (v j - peak v))

/-- The row of the table of values for choice `k` of head `h`, and its weight. -/
def row (h : Fin 4) (k : Fin 8) : BitVec 32 := word D1 D2 (sub D1 D2 k) * 4#32 + BitVec.ofNat 32 h.val
def weight (k : Fin 8) : EReal := soft (fun j => score D1 D2 (sub D1 D2 j)) k

end Halves

/-- The distances of one half of a token's query from a head's keys. -/
def dists (x g : Fin 1024 → EReal) (W : Fin 1024 → Fin 1024 → EReal) (K : Fin 4 → Fin 256 → Fin 128 → EReal) (p : Fin 8) (h : Fin 4) (a : Fin 256) : EReal :=
  dist (fun d => query x g W (qcol p d)) (fun d => K h a d)

end Cert.Proof.SelectSpec

end
-- ==== Proof.SelectBlock.lean ====
/-
  The selection call's blocks at a token's column: the distances' tile, the products, scores and words of the sixty-four pairs,
  and the rows and weights that the eight rounds over them leave.
-/
module

public import proofs.«01_k».proof.Proof.SelectTile
public import proofs.«01_k».proof.Proof.SelectSpec

@[expose] public section

noncomputable section

namespace Cert.Proof.SelectTile

open Idealize.ShloMosaic Idealize.ShloMosaic.TcCoe Cert.SelectIdeal Cert.SelectIdeal.Gen Cert.Proof.Pick Cert.Proof.SelectSpec
open scoped BigOperators

theorem query_apply (x : FVec Ideal S512x1024 .f32) (g : FVec Ideal S1x1024 .f32) (W : FVec Ideal S1024x1024 .f32) (r : Fin 512) (c : Fin 1024) :
    k0_pay1 (F := Ideal) x g W (ix2 r c) = query (fun k => x (ix2 r k)) (fun k => g (ix2 0 k)) (fun k c => W (ix2 k c)) c := by
  pointwise [k0_pay1]
  rfl

theorem dist_apply (q : FVec Ideal S512x128 .f32) (k : FVec Ideal S256x128 .f32) (a : Fin 256) (r : Fin 512) :
    k0_pay5 (F := Ideal) q k (constant S512x256 .f32 0x00000000#32) (ix2 a r) = dist (fun d => q (ix2 r d)) (fun d => k (ix2 a d)) := by
  pointwise [k0_pay5]
  rfl

/-- The distances of a head's half from its keys. -/
abbrev half (q : FVec Ideal S512x128 .f32) (k : Vec Ideal S1x256x128 .f32) : FVec Ideal S256x512 .f32 :=
  k0_pay5 q (shapeCast S256x128 k shapeCasts_S1x256x128_S256x128) (constant S512x256 .f32 0x00000000#32)

section Tile

variable (Q : FVec Ideal S512x1024 .f32) (x3 x4 : FVec Ideal S4x256x128 .f32)

/-- The eight tiles of distances, in order. -/
def part : Fin 8 → FVec Ideal S256x512 .f32 :=
  ![half (extractStridedSlice S512x128 ![0, 0] Q slices_S512x1024_o0_0_S512x128) (View.ld x3 r0_3),
    half (extractStridedSlice S512x128 ![0, 128] Q slices_S512x1024_o0_128_S512x128) (View.ld x3 r0_4),
    half (extractStridedSlice S512x128 ![0, 256] Q slices_S512x1024_o0_256_S512x128) (View.ld x3 r0_5),
    half (extractStridedSlice S512x128 ![0, 384] Q slices_S512x1024_o0_384_S512x128) (View.ld x3 r0_6),
    half (extractStridedSlice S512x128 ![0, 512] Q slices_S512x1024_o0_512_S512x128) (View.ld x4 r0_3),
    half (extractStridedSlice S512x128 ![0, 640] Q slices_S512x1024_o0_640_S512x128) (View.ld x4 r0_4),
    half (extractStridedSlice S512x128 ![0, 768] Q slices_S512x1024_o0_768_S512x128) (View.ld x4 r0_5),
    half (extractStridedSlice S512x128 ![0, 896] Q slices_S512x1024_o0_896_S512x128) (View.ld x4 r0_6)]

def tile : FVec Ideal S256x4096 .f32 :=
  concatenate S256x4096 1 [⟨S256x512, part Q x3 x4 0⟩, ⟨S256x512, part Q x3 x4 1⟩, ⟨S256x512, part Q x3 x4 2⟩, ⟨S256x512, part Q x3 x4 3⟩, ⟨S256x512, part Q x3 x4 4⟩, ⟨S256x512, part Q x3 x4 5⟩, ⟨S256x512, part Q x3 x4 6⟩, ⟨S256x512, part Q x3 x4 7⟩]
    concatenates_S256x512_S256x512_S256x512_S256x512_S256x512_S256x512_S256x512_S256x512_S256x4096_d1

theorem part_first (h : Fin 4) (a : Fin 256) (r : Fin 512) :
    part Q x3 x4 (first h) (ix2 a r) = dist (fun d => Q (ix2 r (qcol (first h) d))) (fun d => x3 (ix3 h a d)) := by
  obtain ⟨h, hh⟩ := h
  interval_cases h <;>
  · refine (dist_apply _ _ a r).trans ?_
    congr 1 <;>
    · funext d
      pointwise [qcol, first]

theorem part_second (h : Fin 4) (a : Fin 256) (r : Fin 512) :
    part Q x3 x4 (second h) (ix2 a r) = dist (fun d => Q (ix2 r (qcol (second h) d))) (fun d => x4 (ix3 h a d)) := by
  obtain ⟨h, hh⟩ := h
  interval_cases h <;>
  · refine (dist_apply _ _ a r).trans ?_
    congr 1 <;>
    · funext d
      pointwise [qcol, second]

/-- The column of a token in part `p` of the tile. -/
def tcol (p : Fin 8) (r : Fin 512) : Fin 4096 := ⟨p.val * 512 + r.val, by omega⟩

theorem tile_apply (p : Fin 8) (a : Fin 256) (r : Fin 512) : tile Q x3 x4 (ix2 a (tcol p r)) = part Q x3 x4 p (ix2 a r) := by
  unfold tile
  generalize part Q x3 x4 = P
  pointwise
  refine (ladder8 (w := 512) (tcol p r).val (tcol p r).isLt fun p u => P p (ix2 a u)).trans ?_
  have h := r.isLt
  exact congrArg₂ (fun p u => P p (ix2 a u)) (Fin.ext (by show (p.val * 512 + r.val) / 512 = p.val; omega) : (⟨(tcol p r).val / 512, Nat.div_lt_of_lt_mul (by omega)⟩ : Fin 8) = p)
    (Fin.ext (by show (p.val * 512 + r.val) % 512 = r.val; omega) : (⟨(tcol p r).val % 512, Nat.mod_lt _ (by omega)⟩ : Fin 512) = r)

end Tile

section Pairs

variable (D : FVec Ideal S256x4096 .f32)

/-- The products, scores and words of the sixty-four pairs. -/
def prods : FVec Ideal S64x2048 .f32 :=
  k0_pay49 (extractStridedSlice S8x2048 ![0, 0] (vals D) slices_S8x4096_o0_0_S8x2048) (extractStridedSlice S8x2048 ![0, 2048] (vals D) slices_S8x4096_o0_2048_S8x2048)
def logs : FVec Ideal S8x4096 .f32 := subf (broadcast S8x4096 (Scalar.ofBits .f32 0x00000000#32)) (log (vals D))
def scores : FVec Ideal S64x2048 .f32 :=
  k0_pay50 (extractStridedSlice S8x2048 ![0, 0] (logs D) slices_S8x4096_o0_0_S8x2048) (extractStridedSlice S8x2048 ![0, 2048] (logs D) slices_S8x4096_o0_2048_S8x2048)
def words : IVec S64x2048 32 :=
  let v := extractStridedSlice S8x2048 ![0, 0] (places D) slices_S8x4096_o0_0_S8x2048
  k0_pay53 v (extractStridedSlice S8x2048 ![0, 2048] (places D) slices_S8x4096_o0_2048_S8x2048) (k0_pay51 v) (k0_pay52 v)

/-- A pair's column among the first halves, and among the second. -/
def left (j : Fin 2048) : Fin 4096 := ⟨j.val, by omega⟩
def right (j : Fin 2048) : Fin 4096 := ⟨2048 + j.val, by omega⟩

theorem pay49_apply (s t : FVec Ideal S8x2048 .f32) (c : Fin 64) (j : Fin 2048) : k0_pay49 (F := Ideal) s t (ix2 c j) = s (ix2 (hi c) j) * t (ix2 (lo c) j) := by
  pointwise [k0_pay49]
  exact congrArg₂ (· * ·) (ladder8 (w := 8) c.val c.isLt fun p _ => s (ix2 p j)) (ladder8 (w := 8) c.val c.isLt fun _ u => t (ix2 u j))

theorem pay50_apply (s t : FVec Ideal S8x2048 .f32) (c : Fin 64) (j : Fin 2048) : k0_pay50 (F := Ideal) s t (ix2 c j) = s (ix2 (hi c) j) + t (ix2 (lo c) j) := by
  pointwise [k0_pay50]
  exact congrArg₂ (· + ·) (ladder8 (w := 8) c.val c.isLt fun p _ => s (ix2 p j)) (ladder8 (w := 8) c.val c.isLt fun _ u => t (ix2 u j))

theorem pay53_apply (s t : IVec S8x2048 32) (c : Fin 64) (j : Fin 2048) :
    k0_pay53 s t (k0_pay51 s) (k0_pay52 s) (ix2 c j) = s (ix2 (hi c) j) * 256#32 + t (ix2 (lo c) j) := by
  pointwise [k0_pay53, k0_pay51, k0_pay52]
  exact congrArg₂ (fun a b => a * 256#32 + b) (ladder8 (w := 8) c.val c.isLt fun p _ => s (ix2 p j)) (ladder8 (w := 8) c.val c.isLt fun _ u => t (ix2 u j))

variable (j : Fin 2048) (hD : ∀ i j, D (ix2 i j) ≠ (⊤ : EReal))

include hD in
theorem prods_apply (c : Fin 64) : prods D (ix2 c j) = prod (fun a => D (ix2 a (left j))) (fun a => D (ix2 a (right j))) c := by
  unfold prods
  rw [pay49_apply]
  refine congrArg₂ (· * ·) ?_ ?_
  · refine Eq.trans ?_ (vals_apply D (hi c) (left j) fun i => hD i _)
    pointwise [left]
  · refine Eq.trans ?_ (vals_apply D (lo c) (right j) fun i => hD i _)
    pointwise [right]

include hD in
theorem scores_apply (c : Fin 64) : scores D (ix2 c j) = score (fun a => D (ix2 a (left j))) (fun a => D (ix2 a (right j))) c := by
  unfold scores logs
  rw [pay50_apply]
  refine congrArg₂ (· + ·) ?_ ?_
  · refine Eq.trans ?_ (congrArg (fun u => 0 - Ideal.log u) (vals_apply D (hi c) (left j) fun i => hD i _))
    pointwise [left]
  · refine Eq.trans ?_ (congrArg (fun u => 0 - Ideal.log u) (vals_apply D (lo c) (right j) fun i => hD i _))
    pointwise [right]

theorem words_apply (c : Fin 64) : words D (ix2 c j) = word (fun a => D (ix2 a (left j))) (fun a => D (ix2 a (right j))) c := by
  unfold words
  refine (pay53_apply _ _ c j).trans ?_
  refine congrArg₂ (fun a b => a * 256#32 + b) ?_ ?_
  · refine Eq.trans ?_ (places_apply D (hi c) (left j))
    pointwise [left]
  · refine Eq.trans ?_ (places_apply D (lo c) (right j))
    pointwise [right]

end Pairs

/-- The rows of the four heads, from the words of the eight choices. -/
def heads (v : IVec S8x2048 32) : IVec S32x512 32 :=
  concatenate S32x512 0 [⟨S8x512, addi (muli (extractStridedSlice S8x512 ![0, 0] v slices_S8x2048_o0_0_S8x512) (broadcast S8x512 4#32)) (broadcast S8x512 0#32)⟩,
      ⟨S8x512, addi (muli (extractStridedSlice S8x512 ![0, 512] v slices_S8x2048_o0_512_S8x512) (broadcast S8x512 4#32)) (broadcast S8x512 1#32)⟩,
      ⟨S8x512, addi (muli (extractStridedSlice S8x512 ![0, 1024] v slices_S8x2048_o0_1024_S8x512) (broadcast S8x512 4#32)) (broadcast S8x512 2#32)⟩,
      ⟨S8x512, addi (muli (extractStridedSlice S8x512 ![0, 1536] v slices_S8x2048_o0_1536_S8x512) (broadcast S8x512 4#32)) (broadcast S8x512 3#32)⟩]
    concatenates_S8x512_S8x512_S8x512_S8x512_S32x512_d0

/-- The weights of the four heads, from the scores of the eight choices. -/
def soften (v : FVec Ideal S8x2048 .f32) : FVec Ideal S8x2048 .f32 :=
  exp (subf v (broadcastTo S8x2048 (shapeCast S1x2048 (multiReduction .maximumf [0] S2048 v 0xFF800000#32 reduces_S8x2048_S2048 (.inl rfl) rfl) shapeCasts_S2048_S1x2048) broadcasts_S1x2048_S8x2048))
def weights (e : FVec Ideal S8x2048 .f32) : FVec Ideal S8x2048 .f32 :=
  divf e (broadcastTo S8x2048 (shapeCast S1x2048 (multiReduction .add [0] S2048 e 0x00000000#32 reduces_S8x2048_S2048 (.inl rfl) rfl) shapeCasts_S2048_S1x2048) broadcasts_S1x2048_S8x2048)
def headsF (v : FVec Ideal S8x2048 .f32) : FVec Ideal S32x512 .f32 :=
  concatenate S32x512 0 [⟨S8x512, extractStridedSlice S8x512 ![0, 0] v slices_S8x2048_o0_0_S8x512⟩, ⟨S8x512, extractStridedSlice S8x512 ![0, 512] v slices_S8x2048_o0_512_S8x512⟩,
      ⟨S8x512, extractStridedSlice S8x512 ![0, 1024] v slices_S8x2048_o0_1024_S8x512⟩, ⟨S8x512, extractStridedSlice S8x512 ![0, 1536] v slices_S8x2048_o0_1536_S8x512⟩]
    concatenates_S8x512_S8x512_S8x512_S8x512_S32x512_d0

/-- A token's column among the pairs of all four heads. -/
def pcol (h : Fin 4) (r : Fin 512) : Fin 2048 := ⟨h.val * 512 + r.val, by omega⟩

theorem heads_apply (v : IVec S8x2048 32) (h : Fin 4) (k : Fin 8) (r : Fin 512) :
    heads v (ix2 (Spec.slot h k) r) = v (ix2 k (pcol h r)) * 4#32 + BitVec.ofNat 32 h.val := by
  have hk := k.isLt
  have e : ∀ n (hn : n < 8), n = k.val → (⟨n, hn⟩ : Fin 8) = k := fun n hn e => Fin.ext e
  obtain ⟨h, hh⟩ := h
  interval_cases h
  · pointwise [heads, Spec.slot, pcol]
    rfl
  · pointwise [heads, Spec.slot, pcol]
    rfl
  · pointwise [heads, Spec.slot, pcol]
    rw [dif_neg (by omega), dif_neg (by omega), dif_pos (by omega), e _ _ (by omega)]
    rfl
  · pointwise [heads, Spec.slot, pcol]
    rw [dif_neg (by omega), dif_neg (by omega), dif_neg (by omega), e _ _ (by omega)]
    rfl

theorem headsF_apply (v : FVec Ideal S8x2048 .f32) (h : Fin 4) (k : Fin 8) (r : Fin 512) :
    headsF v (ix2 (Spec.slot h k) r) = v (ix2 k (pcol h r)) := by
  have hk := k.isLt
  have e : ∀ n (hn : n < 8), n = k.val → (⟨n, hn⟩ : Fin 8) = k := fun n hn e => Fin.ext e
  obtain ⟨h, hh⟩ := h
  interval_cases h
  · pointwise [headsF, Spec.slot, pcol]
  · pointwise [headsF, Spec.slot, pcol]
  · pointwise [headsF, Spec.slot, pcol]
    rw [dif_neg (by omega), dif_neg (by omega), dif_pos (by omega), e _ _ (by omega)]
  · pointwise [headsF, Spec.slot, pcol]
    rw [dif_neg (by omega), dif_neg (by omega), dif_neg (by omega), e _ _ (by omega)]

theorem weights_apply (v : FVec Ideal S8x2048 .f32) (k : Fin 8) (j : Fin 2048) : weights (soften v) (ix2 k j) = soft (fun k => v (ix2 k j)) k := by
  pointwise [weights, soften]
  rfl

section Rounds

variable (P S : FVec Ideal S64x2048 .f32) (W : IVec S64x2048 32)

/-- The words and the scores of the eight choices. -/
def chosen : IVec S8x2048 32 :=
  concatenate S8x2048 0 [⟨S1x2048, k0_pay77 W (k0_pay54 (cur64 P 0)) 0#32⟩, ⟨S1x2048, k0_pay77 W (k0_pay54 (cur64 P 1)) 0#32⟩, ⟨S1x2048, k0_pay77 W (k0_pay54 (cur64 P 2)) 0#32⟩,
      ⟨S1x2048, k0_pay77 W (k0_pay54 (cur64 P 3)) 0#32⟩, ⟨S1x2048, k0_pay77 W (k0_pay54 (cur64 P 4)) 0#32⟩, ⟨S1x2048, k0_pay77 W (k0_pay54 (cur64 P 5)) 0#32⟩,
      ⟨S1x2048, k0_pay77 W (k0_pay54 (cur64 P 6)) 0#32⟩, ⟨S1x2048, k0_pay77 W (k0_pay54 (cur64 P 7)) 0#32⟩]
    concatenates_S1x2048_S1x2048_S1x2048_S1x2048_S1x2048_S1x2048_S1x2048_S1x2048_S8x2048_d0
def chosenF : FVec Ideal S8x2048 .f32 :=
  concatenate S8x2048 0 [⟨S1x2048, k0_pay78 S (k0_pay54 (cur64 P 0))⟩, ⟨S1x2048, k0_pay78 S (k0_pay54 (cur64 P 1))⟩, ⟨S1x2048, k0_pay78 S (k0_pay54 (cur64 P 2))⟩,
      ⟨S1x2048, k0_pay78 S (k0_pay54 (cur64 P 3))⟩, ⟨S1x2048, k0_pay78 S (k0_pay54 (cur64 P 4))⟩, ⟨S1x2048, k0_pay78 S (k0_pay54 (cur64 P 5))⟩,
      ⟨S1x2048, k0_pay78 S (k0_pay54 (cur64 P 6))⟩, ⟨S1x2048, k0_pay78 S (k0_pay54 (cur64 P 7))⟩]
    concatenates_S1x2048_S1x2048_S1x2048_S1x2048_S1x2048_S1x2048_S1x2048_S1x2048_S8x2048_d0

theorem chosen_apply (k : Fin 8) (j : Fin 2048) : chosen P W (ix2 k j) = W (ix2 (pick (fun i : Fin 64 => P (ix2 i j)) k.val) j) :=
  (rows2048_apply (fun t : Fin 8 => k0_pay77 W (k0_pay54 (cur64 P t.val)) 0#32) k j).trans (word_apply W P k.val j)

theorem chosenF_apply (k : Fin 8) (j : Fin 2048) : chosenF P S (ix2 k j) = S (ix2 (pick (fun i : Fin 64 => P (ix2 i j)) k.val) j) :=
  (rows2048_apply (fun t : Fin 8 => k0_pay78 S (k0_pay54 (cur64 P t.val))) k j).trans (score_apply S P k.val j)

end Rounds

end Cert.Proof.SelectTile

end
-- ==== Proof.SelectArrays.lean ====
/-
  The selection call's two results: the body's names for the rounds are `SelectTile`'s, and the blocks fill the results, every
  token's column being `SelectSpec`'s function of that token.
-/
module

public import proofs.«01_k».proof.Proof.SelectBlock

@[expose] public section

noncomputable section

namespace Cert.Proof.SelectTile

open Idealize.ShloMosaic Idealize.ShloMosaic.TcCoe Cert.SelectIdeal Cert.SelectIdeal.Gen Cert.Proof.Pick Cert.Proof.SelectSpec
open scoped BigOperators

section Names

variable (P S : FVec Ideal S64x2048 .f32) (W : IVec S64x2048 32)

/-- The body's names for the rounds over the products. -/
theorem pay57_eq : k0_pay57 P = cur64 P 1 := rfl
theorem pay59_eq : k0_pay59 I64 (k0_pay58 P) 65#32 = k0_pay54 (cur64 P 1) := rfl
theorem pay63_eq : k0_pay63 I64 (k0_pay57 P) (k0_pay58 P) 65#32 = k0_pay54 (cur64 P 2) := rfl
theorem pay66_eq : k0_pay66 I64 (k0_pay57 P) (k0_pay58 P) 65#32 = cur64 P 3 := rfl
theorem pay68_eq : k0_pay68 I64 (k0_pay67 I64 (k0_pay57 P) (k0_pay58 P) 65#32) = k0_pay54 (cur64 P 3) := rfl

variable (C : FVec Ideal S64x2048 .f32) (s : IVec S2048 32)

theorem pay75_eq (h : k0_pay68 I64 s = k0_pay54 C) : k0_pay72 I64 C s = k0_pay54 (cur64 C 1) ∧ k0_pay75 I64 C s = cur64 C 2 ∧ k0_pay76 I64 C s = k0_pay54 (cur64 C 2) := by
  have e : k0_pay71 I64 C s = cur64 C 1 := by
    show k0_pay79 C (k0_pay68 I64 s) = k0_pay79 C (k0_pay54 C)
    rw [h]
  have e1 : k0_pay72 I64 C s = k0_pay54 (cur64 C 1) := by
    show k0_pay54 (k0_pay71 I64 C s) = _
    rw [e]
  have e2 : k0_pay75 I64 C s = cur64 C 2 := by
    show k0_pay79 (k0_pay71 I64 C s) (k0_pay72 I64 C s) = _
    rw [e, e1]
    rfl
  refine ⟨e1, e2, ?_⟩
  show k0_pay54 (k0_pay75 I64 C s) = _
  rw [e2]

theorem pay80_eq : k0_pay80 I64 C (k0_pay54 C) = k0_pay54 (cur64 C 1) := rfl
theorem pay83_eq : k0_pay83 I64 C (k0_pay54 C) = k0_pay54 (cur64 C 2) := rfl

theorem cur64_add (a b : ℕ) : cur64 (cur64 P a) b = cur64 P (a + b) := by
  induction b with
  | zero => rfl
  | succ b ih => exact congrArg (fun y => k0_pay79 y (k0_pay54 y)) ih

/-- The first result's block, from the products and the words. -/
theorem pay85_eq : k0_pay85 (k0_pay77 W (k0_pay54 P) 0#32) (k0_pay60 W I64 (k0_pay58 P) 65#32) (k0_pay64 W I64 (k0_pay57 P) (k0_pay58 P) 65#32)
      (k0_pay69 W I64 (k0_pay67 I64 (k0_pay57 P) (k0_pay58 P) 65#32))
      (k0_pay73 W I64 (k0_pay66 I64 (k0_pay57 P) (k0_pay58 P) 65#32) (k0_pay67 I64 (k0_pay57 P) (k0_pay58 P) 65#32))
      (k0_pay77 W (k0_pay76 I64 (k0_pay66 I64 (k0_pay57 P) (k0_pay58 P) 65#32) (k0_pay67 I64 (k0_pay57 P) (k0_pay58 P) 65#32)) 0#32)
      (k0_pay81 W I64 (k0_pay75 I64 (k0_pay66 I64 (k0_pay57 P) (k0_pay58 P) 65#32) (k0_pay67 I64 (k0_pay57 P) (k0_pay58 P) 65#32))
        (k0_pay76 I64 (k0_pay66 I64 (k0_pay57 P) (k0_pay58 P) 65#32) (k0_pay67 I64 (k0_pay57 P) (k0_pay58 P) 65#32)))
      (k0_pay84 W I64 (k0_pay75 I64 (k0_pay66 I64 (k0_pay57 P) (k0_pay58 P) 65#32) (k0_pay67 I64 (k0_pay57 P) (k0_pay58 P) 65#32))
        (k0_pay76 I64 (k0_pay66 I64 (k0_pay57 P) (k0_pay58 P) 65#32) (k0_pay67 I64 (k0_pay57 P) (k0_pay58 P) 65#32)))
    = heads (chosen P W) := by
  obtain ⟨e1, e2, e3⟩ := pay75_eq (cur64 P 3) _ (pay68_eq P)
  rw [cur64_add] at e2 e3
  rw [pay66_eq, e2, e3]
  have f1 : k0_pay60 W I64 (k0_pay58 P) 65#32 = k0_pay77 W (k0_pay54 (cur64 P 1)) 0#32 := congrArg (fun o => k0_pay77 W o 0#32) (pay59_eq P)
  have f2 : k0_pay64 W I64 (k0_pay57 P) (k0_pay58 P) 65#32 = k0_pay77 W (k0_pay54 (cur64 P 2)) 0#32 := congrArg (fun o => k0_pay77 W o 0#32) (pay63_eq P)
  have f3 : k0_pay69 W I64 (k0_pay67 I64 (k0_pay57 P) (k0_pay58 P) 65#32) = k0_pay77 W (k0_pay54 (cur64 P 3)) 0#32 := congrArg (fun o => k0_pay77 W o 0#32) (pay68_eq P)
  have f4 : k0_pay73 W I64 (cur64 P 3) (k0_pay67 I64 (k0_pay57 P) (k0_pay58 P) 65#32) = k0_pay77 W (k0_pay54 (cur64 P 4)) 0#32 := congrArg (fun o => k0_pay77 W o 0#32) (e1.trans (congrArg k0_pay54 (cur64_add P 3 1)))
  have f6 : k0_pay81 W I64 (cur64 P (3 + 2)) (k0_pay54 (cur64 P (3 + 2))) = k0_pay77 W (k0_pay54 (cur64 P 6)) 0#32 := congrArg (fun o => k0_pay77 W o 0#32) ((pay80_eq (cur64 P 5)).trans (congrArg k0_pay54 (cur64_add P 5 1)))
  rw [f1, f2, f3, f4, f6]
  show heads (concatenate S8x2048 0 [_, _, _, _, _, _, _, ⟨S1x2048, k0_pay77 W (k0_pay83 I64 (cur64 P 5) (k0_pay54 (cur64 P 5))) 0#32⟩] _) = _
  rw [pay83_eq, cur64_add]
  rfl

/-- The second result's block, from the products and the scores. -/
theorem pay86_eq : k0_pay86 S (k0_pay78 S (k0_pay54 P)) (k0_pay61 S I64 (k0_pay58 P) 65#32) (k0_pay65 S I64 (k0_pay57 P) (k0_pay58 P) 65#32)
      (k0_pay70 S I64 (k0_pay67 I64 (k0_pay57 P) (k0_pay58 P) 65#32))
      (k0_pay74 S I64 (k0_pay66 I64 (k0_pay57 P) (k0_pay58 P) 65#32) (k0_pay67 I64 (k0_pay57 P) (k0_pay58 P) 65#32))
      (k0_pay78 S (k0_pay76 I64 (k0_pay66 I64 (k0_pay57 P) (k0_pay58 P) 65#32) (k0_pay67 I64 (k0_pay57 P) (k0_pay58 P) 65#32)))
      (k0_pay82 S I64 (k0_pay75 I64 (k0_pay66 I64 (k0_pay57 P) (k0_pay58 P) 65#32) (k0_pay67 I64 (k0_pay57 P) (k0_pay58 P) 65#32))
        (k0_pay76 I64 (k0_pay66 I64 (k0_pay57 P) (k0_pay58 P) 65#32) (k0_pay67 I64 (k0_pay57 P) (k0_pay58 P) 65#32)))
      (k0_pay83 I64 (k0_pay75 I64 (k0_pay66 I64 (k0_pay57 P) (k0_pay58 P) 65#32) (k0_pay67 I64 (k0_pay57 P) (k0_pay58 P) 65#32))
        (k0_pay76 I64 (k0_pay66 I64 (k0_pay57 P) (k0_pay58 P) 65#32) (k0_pay67 I64 (k0_pay57 P) (k0_pay58 P) 65#32)))
    = headsF (weights (soften (chosenF P S))) := by
  obtain ⟨e1, e2, e3⟩ := pay75_eq (cur64 P 3) _ (pay68_eq P)
  rw [cur64_add] at e2 e3
  rw [pay66_eq, e2, e3]
  have f1 : k0_pay61 S I64 (k0_pay58 P) 65#32 = k0_pay78 S (k0_pay54 (cur64 P 1)) := congrArg (fun o => k0_pay78 S o) (pay59_eq P)
  have f2 : k0_pay65 S I64 (k0_pay57 P) (k0_pay58 P) 65#32 = k0_pay78 S (k0_pay54 (cur64 P 2)) := congrArg (fun o => k0_pay78 S o) (pay63_eq P)
  have f3 : k0_pay70 S I64 (k0_pay67 I64 (k0_pay57 P) (k0_pay58 P) 65#32) = k0_pay78 S (k0_pay54 (cur64 P 3)) := congrArg (fun o => k0_pay78 S o) (pay68_eq P)
  have f4 : k0_pay74 S I64 (cur64 P 3) (k0_pay67 I64 (k0_pay57 P) (k0_pay58 P) 65#32) = k0_pay78 S (k0_pay54 (cur64 P 4)) := congrArg (fun o => k0_pay78 S o) (e1.trans (congrArg k0_pay54 (cur64_add P 3 1)))
  have f6 : k0_pay82 S I64 (cur64 P (3 + 2)) (k0_pay54 (cur64 P (3 + 2))) = k0_pay78 S (k0_pay54 (cur64 P 6)) := congrArg (fun o => k0_pay78 S o) ((pay80_eq (cur64 P 5)).trans (congrArg k0_pay54 (cur64_add P 5 1)))
  have f7 : k0_pay83 I64 (cur64 P (3 + 2)) (k0_pay54 (cur64 P (3 + 2))) = k0_pay54 (cur64 P 7) := (pay83_eq (cur64 P 5)).trans (congrArg k0_pay54 (cur64_add P 5 2))
  rw [f1, f2, f3, f4, f6, f7]
  rfl

end Names

section Block

variable (x0 : Vec Ideal S512x1024 .f32) (x1 : Vec Ideal S1024x1024 .f32) (x2 : Vec Ideal S1x1024 .f32) (x3 x4 : Vec Ideal S4x256x128 .f32)

/-- The distances' tile of a block. -/
def dtile : FVec Ideal S256x4096 .f32 := tile (k0_pay87 (F := Ideal) x0 x1 x2 x3 x4) x3 x4

theorem dtile_eq : k0_pay16 (F := Ideal) (k0_pay87 (F := Ideal) x0 x1 x2 x3 x4) (k0_pay88 (F := Ideal) x0 x1 x2 x3 x4) (k0_pay89 (F := Ideal) x0 x1 x2 x3 x4) (k0_pay90 (F := Ideal) x0 x1 x2 x3 x4) (k0_pay92 (F := Ideal) x0 x1 x2 x3 x4) (k0_pay93 (F := Ideal) x0 x1 x2 x3 x4) (k0_pay94 (F := Ideal) x0 x1 x2 x3 x4) (k0_pay95 (F := Ideal) x0 x1 x2 x3 x4) (k0_pay96 (F := Ideal) x0 x1 x2 x3 x4) (k0_pay91 (F := Ideal) x0 x1 x2 x3 x4) (View.ld x4 r0_6) = dtile x0 x1 x2 x3 x4 := rfl

theorem pay98_eq : k0_pay98 (F := Ideal) x0 x1 x2 x3 x4 = k0_pay20 (dtile x0 x1 x2 x3 x4) := by
  rw [← dtile_eq]; rfl
theorem pay99_eq : k0_pay99 (F := Ideal) x0 x1 x2 x3 x4 = k0_pay21 I256 (dtile x0 x1 x2 x3 x4) := by
  rw [← dtile_eq]; rfl
theorem pay100_eq : k0_pay100 (F := Ideal) x0 x1 x2 x3 x4 = k0_pay22 I256 (dtile x0 x1 x2 x3 x4) := by
  rw [← dtile_eq]; rfl
theorem pay97_eq : k0_pay97 (F := Ideal) x0 x1 x2 x3 x4 = I256 := rfl

theorem pay113_eq : k0_pay113 (F := Ideal) x0 x1 x2 x3 x4 = prods (dtile x0 x1 x2 x3 x4) := by
  unfold k0_pay113 k0_pay43 k0_pay44 k0_pay101 k0_pay103 k0_pay105 k0_pay107 k0_pay108 k0_pay110
  rw [pay98_eq, pay100_eq, pay97_eq, pay40_eq]
  rfl
theorem pay114_eq : k0_pay114 (F := Ideal) x0 x1 x2 x3 x4 = scores (dtile x0 x1 x2 x3 x4) := by
  unfold k0_pay114 k0_pay45 k0_pay46 k0_pay42 k0_pay101 k0_pay103 k0_pay105 k0_pay107 k0_pay108 k0_pay110
  rw [pay98_eq, pay100_eq, pay97_eq, pay40_eq]
  rfl
theorem pay111_eq : k0_pay111 (F := Ideal) x0 x1 x2 x3 x4 = extractStridedSlice S8x2048 ![0, 0] (places (dtile x0 x1 x2 x3 x4)) slices_S8x4096_o0_0_S8x2048 := by
  unfold k0_pay111 k0_pay47 k0_pay102 k0_pay104 k0_pay106 k0_pay107 k0_pay109 k0_pay110
  rw [pay99_eq, pay100_eq, pay97_eq, pay41_eq]
theorem pay112_eq : k0_pay112 (F := Ideal) x0 x1 x2 x3 x4 = extractStridedSlice S8x2048 ![0, 2048] (places (dtile x0 x1 x2 x3 x4)) slices_S8x4096_o0_2048_S8x2048 := by
  unfold k0_pay112 k0_pay48 k0_pay102 k0_pay104 k0_pay106 k0_pay107 k0_pay109 k0_pay110
  rw [pay99_eq, pay100_eq, pay97_eq, pay41_eq]
theorem pay118_eq : k0_pay118 (F := Ideal) x0 x1 x2 x3 x4 = words (dtile x0 x1 x2 x3 x4) := by
  unfold k0_pay118 k0_pay115 k0_pay116
  rw [pay111_eq, pay112_eq]
  rfl

/-- A block's rows and weights, from its tile. -/
def rowsB (D : FVec Ideal S256x4096 .f32) : IVec S32x512 32 := heads (chosen (prods D) (words D))
def weightsB (D : FVec Ideal S256x4096 .f32) : FVec Ideal S32x512 .f32 := headsF (weights (soften (chosenF (prods D) (scores D))))

theorem out5_eq : out0_5 (F := Ideal) x0 x1 x2 x3 x4 = View.canon [⟨r0_7, rowsB (dtile x0 x1 x2 x3 x4)⟩] := by
  unfold rowsB
  rw [← pay85_eq, ← pay113_eq, ← pay118_eq]
  rfl
theorem out6_eq : out0_6 (F := Ideal) x0 x1 x2 x3 x4 = View.canon [⟨r0_7, weightsB (dtile x0 x1 x2 x3 x4)⟩] := by
  unfold weightsB
  rw [← pay86_eq, ← pay113_eq, ← pay114_eq]
  rfl

end Block

theorem left_pcol (h : Fin 4) (r : Fin 512) : left (pcol h r) = tcol (first h) r := rfl
theorem right_pcol (h : Fin 4) (r : Fin 512) : right (pcol h r) = tcol (second h) r :=
  Fin.ext (by show 2048 + (h.val * 512 + r.val) = (4 + h.val) * 512 + r.val; omega)

section Rows

variable (D : FVec Ideal S256x4096 .f32) (hD : ∀ i j, D (ix2 i j) ≠ (⊤ : EReal)) (h : Fin 4) (k : Fin 8) (r : Fin 512)

include hD in
theorem rowsB_apply : rowsB D (ix2 (Spec.slot h k) r) = row (fun a => D (ix2 a (tcol (first h) r))) (fun a => D (ix2 a (tcol (second h) r))) h k := by
  unfold rowsB
  rw [heads_apply, chosen_apply, words_apply, funext fun c => prods_apply D (pcol h r) hD c, left_pcol, right_pcol]
  rfl

include hD in
theorem weightsB_apply : weightsB D (ix2 (Spec.slot h k) r) = weight (fun a => D (ix2 a (tcol (first h) r))) (fun a => D (ix2 a (tcol (second h) r))) k := by
  unfold weightsB
  rw [headsF_apply, weights_apply]
  unfold weight
  congr 1
  funext j
  rw [chosenF_apply, scores_apply D _ hD, funext fun c => prods_apply D (pcol h r) hD c, left_pcol, right_pcol]
  rfl

end Rows

section Token

variable (x0 : Vec Ideal S512x1024 .f32) (x1 : Vec Ideal S1024x1024 .f32) (x2 : Vec Ideal S1x1024 .f32) (x3 x4 : Vec Ideal S4x256x128 .f32)

theorem pay87_eq : k0_pay87 (F := Ideal) x0 x1 x2 x3 x4 = k0_pay1 x0 x2 x1 := by
  unfold k0_pay87
  have e0 : View.ld x0 r0_0 = x0 := View.ld_unit_zero (by funext a; match a with | 0 => rfl | 1 => rfl) _ x0
  have e1 : View.ld x1 r0_2 = x1 := View.ld_unit_zero (by funext a; match a with | 0 => rfl | 1 => rfl) _ x1
  have e2 : View.ld x2 r0_1 = x2 := View.ld_unit_zero (by funext a; match a with | 0 => rfl | 1 => rfl) _ x2
  rw [e0, e1, e2]

theorem dtile_first (h : Fin 4) (a : Fin 256) (r : Fin 512) :
    dtile x0 x1 x2 x3 x4 (ix2 a (tcol (first h) r))
      = dists (fun k => x0 (ix2 r k)) (fun k => x2 (ix2 0 k)) (fun k c => x1 (ix2 k c)) (fun h a d => x3 (ix3 h a d)) (first h) h a := by
  unfold dtile
  rw [tile_apply, part_first, pay87_eq]
  exact congrArg (fun q => dist q _) (funext fun d => query_apply x0 x2 x1 r _)

theorem dtile_second (h : Fin 4) (a : Fin 256) (r : Fin 512) :
    dtile x0 x1 x2 x3 x4 (ix2 a (tcol (second h) r))
      = dists (fun k => x0 (ix2 r k)) (fun k => x2 (ix2 0 k)) (fun k c => x1 (ix2 k c)) (fun h a d => x4 (ix3 h a d)) (second h) h a := by
  unfold dtile
  rw [tile_apply, part_second, pay87_eq]
  exact congrArg (fun q => dist q _) (funext fun d => query_apply x0 x2 x1 r _)

/-- Every distance of a block is below ⊤ when those of its tokens are. -/
theorem dtile_lt (h1 : ∀ h a r, dists (fun k => x0 (ix2 r k)) (fun k => x2 (ix2 0 k)) (fun k c => x1 (ix2 k c)) (fun h a d => x3 (ix3 h a d)) (first h) h a ≠ ⊤)
    (h2 : ∀ h a r, dists (fun k => x0 (ix2 r k)) (fun k => x2 (ix2 0 k)) (fun k c => x1 (ix2 k c)) (fun h a d => x4 (ix3 h a d)) (second h) h a ≠ ⊤)
    (i : Fin 256) (j : Fin 4096) : dtile x0 x1 x2 x3 x4 (ix2 i j) ≠ (⊤ : EReal) := by
  have hj := j.isLt
  by_cases hc : j.val < 2048
  · rw [show j = tcol (first ⟨j.val / 512, by omega⟩) ⟨j.val % 512, by omega⟩ from Fin.ext (by show j.val = j.val / 512 * 512 + j.val % 512; omega), dtile_first]
    exact h1 _ _ _
  · rw [show j = tcol (second ⟨j.val / 512 - 4, by omega⟩) ⟨j.val % 512, by omega⟩ from Fin.ext (by show j.val = (4 + (j.val / 512 - 4)) * 512 + j.val % 512; omega), dtile_second]
    exact h2 _ _ _

end Token

section Arrays

variable (m : (ℓ : Loc nD τ sig) → Buf (Elt Ideal) ℓ) (c : Dev nD)

/-- Where the windows stand at each grid point. -/
theorem idx : ∀ t : Fin cfg0.N, win0_0.index t = ![t.val, 0] ∧ win0_1.index t = ![0, 0] ∧ win0_2.index t = ![0, 0] ∧ win0_3.index t = ![0, 0, 0]
    ∧ win0_4.index t = ![0, 0, 0] ∧ win0_5.index t = ![0, t.val] ∧ win0_6.index t = ![0, t.val] :=
  (by decide +kernel : ∀ t : Fin grid0.N, _)

/-- The call's five operands. -/
abbrev opX : FVec Ideal S4096x1024 .f32 := V m c main_v0
abbrev opW : FVec Ideal S1024x1024 .f32 := V m c main_arg2
abbrev opG : FVec Ideal S1x1024 .f32 := V m c main_v5
abbrev opK1 : FVec Ideal S4x256x128 .f32 := V m c main_v2
abbrev opK2 : FVec Ideal S4x256x128 .f32 := V m c main_v4

theorem blk_0 (t : Fin cfg0.N) (r : Fin 512) (k : Fin 1024) (n : Fin 4096) (hn : n.val = t.val * 512 + r.val) :
    (iblk m c 0 t : S512x1024.Idx → EReal) (ix2 r k) = opX m c (ix2 n k) := by
  blk_ext [iblk, idx t]
theorem blk_1 (t : Fin cfg0.N) : (iblk m c 1 t : S1024x1024.Idx → EReal) = opW m c := by blk_ext! [iblk, idx t]
theorem blk_2 (t : Fin cfg0.N) : (iblk m c 2 t : S1x1024.Idx → EReal) = opG m c := by blk_ext! [iblk, idx t]
theorem blk_3 (t : Fin cfg0.N) : (iblk m c 3 t : S4x256x128.Idx → EReal) = opK1 m c := by blk_ext! [iblk, idx t]
theorem blk_4 (t : Fin cfg0.N) : (iblk m c 4 t : S4x256x128.Idx → EReal) = opK2 m c := by blk_ext! [iblk, idx t]

/-- A token's distances, first half and second. -/
def dist1 (n : Fin 4096) (h : Fin 4) (a : Fin 256) : EReal :=
  dists (fun k => opX m c (ix2 n k)) (fun k => opG m c (ix2 0 k)) (fun k e => opW m c (ix2 k e)) (fun h a d => opK1 m c (ix3 h a d)) (first h) h a
def dist2 (n : Fin 4096) (h : Fin 4) (a : Fin 256) : EReal :=
  dists (fun k => opX m c (ix2 n k)) (fun k => opG m c (ix2 0 k)) (fun k e => opW m c (ix2 k e)) (fun h a d => opK2 m c (ix3 h a d)) (second h) h a

variable (h1 : ∀ n h a, dist1 m c n h a ≠ ⊤) (h2 : ∀ n h a, dist2 m c n h a ≠ ⊤)

/-- A block's tile of distances. -/
abbrev dblk (t : Fin cfg0.N) : FVec Ideal S256x4096 .f32 := dtile (iblk m c 0 t) (iblk m c 1 t) (iblk m c 2 t) (iblk m c 3 t) (iblk m c 4 t)

theorem dblk_first (t : Fin cfg0.N) (h : Fin 4) (a : Fin 256) (r : Fin 512) (n : Fin 4096) (hn : n.val = t.val * 512 + r.val) :
    dblk m c t (ix2 a (tcol (first h) r)) = dist1 m c n h a := by
  refine (dtile_first _ _ _ _ _ h a r).trans ?_
  rw [blk_1, blk_2, blk_3]
  exact congrArg (fun x => dists x _ _ _ _ _ _) (funext fun k => blk_0 m c t r k n hn)
theorem dblk_second (t : Fin cfg0.N) (h : Fin 4) (a : Fin 256) (r : Fin 512) (n : Fin 4096) (hn : n.val = t.val * 512 + r.val) :
    dblk m c t (ix2 a (tcol (second h) r)) = dist2 m c n h a := by
  refine (dtile_second _ _ _ _ _ h a r).trans ?_
  rw [blk_1, blk_2, blk_4]
  exact congrArg (fun x => dists x _ _ _ _ _ _) (funext fun k => blk_0 m c t r k n hn)

include h1 h2 in
theorem dblk_lt (t : Fin cfg0.N) (i : Fin 256) (j : Fin 4096) : dblk m c t (ix2 i j) ≠ (⊤ : EReal) := by
  have ht : t.val < 8 := t.isLt
  refine dtile_lt _ _ _ _ _ (fun h a r => ?_) (fun h a r => ?_) i j
  · rw [← dtile_first]
    exact (dblk_first m c t h a r ⟨t.val * 512 + r.val, by omega⟩ rfl).trans_ne (h1 _ _ _)
  · rw [← dtile_second]
    exact (dblk_second m c t h a r ⟨t.val * 512 + r.val, by omega⟩ rfl).trans_ne (h2 _ _ _)

/-- The head and the choice of a place among a token's thirty-two. -/
def hd (s : Fin 32) : Fin 4 := ⟨s.val / 8, by omega⟩
def ch (s : Fin 32) : Fin 8 := ⟨s.val % 8, by omega⟩
theorem slot_hd (s : Fin 32) : Spec.slot (hd s) (ch s) = s := Fin.ext (by show s.val / 8 * 8 + s.val % 8 = s.val; omega)

/-- What the call leaves in its two results. -/
def rowArr : IVec S32x4096 32 := fun i => row (dist1 m c (i 1) (hd (i 0))) (dist2 m c (i 1) (hd (i 0))) (hd (i 0)) (ch (i 0))
def weightArr : FVec Ideal S32x4096 .f32 := fun i => weight (dist1 m c (i 1) (hd (i 0))) (dist2 m c (i 1) (hd (i 0))) (ch (i 0))

include h1 h2 in
theorem final5 : (dats m 0 c).arrAt 5 cfg0.N = rowArr m c := by
  refine (dats m 0 c).arrAt_eq_of_covers 5 _ (by decide +kernel) fun t _ y => ?_
  blk_simp
  rw [after0_5, out5_eq]
  frame_out
  obtain ⟨s, r, rfl⟩ : ∃ (s : Fin 32) (r : Fin 512), y = ix2 s r := ⟨y 0, y 1, by funext a; match a with | 0 => rfl | 1 => rfl⟩
  have ht : t.val < 8 := t.isLt
  have he : ((View.whole main_v6_0).slice (win0_5.rect t)).emb (ix2 s r) = (ix2 s (⟨t.val * 512 + r.val, by omega⟩ : Fin 4096) : S32x4096.Idx) := by
    blk_ext [idx t]
  rw [he]
  have e := rowsB_apply (dblk m c t) (dblk_lt m c h1 h2 t) (hd s) (ch s) r
  rw [slot_hd, funext fun a => dblk_first m c t (hd s) a r ⟨t.val * 512 + r.val, by omega⟩ rfl, funext fun a => dblk_second m c t (hd s) a r ⟨t.val * 512 + r.val, by omega⟩ rfl] at e
  exact e

include h1 h2 in
theorem final6 : (dats m 0 c).arrAt 6 cfg0.N = weightArr m c := by
  refine (dats m 0 c).arrAt_eq_of_covers 6 _ (by decide +kernel) fun t _ y => ?_
  blk_simp
  rw [after0_6, out6_eq]
  frame_out
  obtain ⟨s, r, rfl⟩ : ∃ (s : Fin 32) (r : Fin 512), y = ix2 s r := ⟨y 0, y 1, by funext a; match a with | 0 => rfl | 1 => rfl⟩
  have ht : t.val < 8 := t.isLt
  have he : ((View.whole main_v6_1).slice (win0_6.rect t)).emb (ix2 s r) = (ix2 s (⟨t.val * 512 + r.val, by omega⟩ : Fin 4096) : S32x4096.Idx) := by
    blk_ext [idx t]
  rw [he]
  have e := weightsB_apply (dblk m c t) (dblk_lt m c h1 h2 t) (hd s) (ch s) r
  rw [slot_hd, funext fun a => dblk_first m c t (hd s) a r ⟨t.val * 512 + r.val, by omega⟩ rfl, funext fun a => dblk_second m c t (hd s) a r ⟨t.val * 512 + r.val, by omega⟩ rfl] at e
  exact e

end Arrays

end Cert.Proof.SelectTile

end
-- ==== Proof.SelectFinite.lean ====
/-
  The selection call's operands traced back to its arguments, and that every distance is a number when the keys, the projection
  and the gain are: the normalised token is a number whatever the token, since an infinite entry makes the inverse root zero.
-/
module

public import proofs.«01_k».proof.Proof.Gen.Pre_finite
public import proofs.«01_k».proof.Proof.SelectArrays
public import Idealize.ShloMosaic.Lib.ReduceAll

@[expose] public section

noncomputable section

namespace Cert.Proof.SelectFinite

open Idealize.ShloMosaic Cert.Proof.Spec Cert.Proof.SelectSpec
open scoped BigOperators

/-- A number: neither infinity. -/
def Num (x : EReal) : Prop := ∃ r : ℝ, (r : EReal) = x

theorem Num.mul {x y : EReal} (hx : Num x) (hy : Num y) : Num (x * y) := by
  obtain ⟨a, rfl⟩ := hx; obtain ⟨b, rfl⟩ := hy; exact ⟨a * b, EReal.coe_mul a b⟩
theorem Num.add {x y : EReal} (hx : Num x) (hy : Num y) : Num (x + y) := by
  obtain ⟨a, rfl⟩ := hx; obtain ⟨b, rfl⟩ := hy; exact ⟨a + b, EReal.coe_add a b⟩
theorem Num.sub {x y : EReal} (hx : Num x) (hy : Num y) : Num (x - y) := by
  obtain ⟨a, rfl⟩ := hx; obtain ⟨b, rfl⟩ := hy; exact ⟨a - b, EReal.coe_sub a b⟩
theorem Num.zero : Num 0 := ⟨0, rfl⟩
theorem Num.sum {n : Nat} {f : Fin n → EReal} (h : ∀ k, Num (f k)) : Num (∑ k, f k) :=
  Finset.sum_induction f Num (fun _ _ => Num.add) Num.zero fun k _ => h k
theorem Num.ne_top {x : EReal} (h : Num x) : x ≠ ⊤ := by obtain ⟨a, rfl⟩ := h; exact EReal.coe_ne_top a

theorem num_two : Num (Ideal.ofBits .f32 0x40000000#32) := ⟨2, by simp [Ideal.ofBits, Ideal.ieee, -EReal.coe_mul]; try norm_num⟩
theorem num_eps : Num (Ideal.ofBits .f32 0x34000000#32) := ⟨_, by simp only [Ideal.ofBits, Ideal.ieee]; rfl⟩
theorem num_milli : Num (Ideal.ofBits .f32 0x3A83126F#32) := ⟨_, by simp only [Ideal.ofBits, Ideal.ieee]; rfl⟩

/-- The inverse root of a positive number, or of ⊤, is a number. -/
theorem num_rsqrt {y : EReal} (hy : 0 < y) : Num (Ideal.rsqrt y) := by
  induction y using EReal.rec with
  | bot => simp at hy
  | top => exact ⟨0, rfl⟩
  | coe r =>
    have hr : 0 < r := by exact_mod_cast hy
    refine ⟨(Real.sqrt r)⁻¹, Eq.symm ?_⟩
    show (if r < 0 then (⊥ : EReal) else if r = 0 then ⊤ else ((Real.sqrt r)⁻¹ : ℝ)) = _
    rw [if_neg (not_lt.2 hr.le), if_neg hr.ne']

/-- A normalised token is a number at every place. -/
theorem num_nrm {n : Nat} (x g : Fin n → EReal) (hg : ∀ k, Num (g k)) (i : Fin n) : Num (nrm 0x44800000#32 x g i) := by
  have hpos : 0 < den 0x44800000#32 x := den_pos (by norm_num) c1024 x
  unfold nrm
  refine Num.mul ?_ (hg i)
  by_cases hx : Num (x i)
  · exact hx.mul (num_rsqrt hpos)
  · have hsq : x i * x i = ⊤ := by
      generalize x i = y at hx
      induction y using EReal.rec with
      | bot => rfl
      | top => rfl
      | coe r => exact absurd ⟨r, rfl⟩ hx
    have hs : ∑ k, x k * x k = ⊤ :=
      top_le_iff.1 (hsq ▸ Finset.single_le_sum (f := fun k => x k * x k) (fun k _ => mul_self_nonneg _) (Finset.mem_univ i))
    have hd : den 0x44800000#32 x = ⊤ := by
      unfold den
      rw [hs, c1024]
      unfold Ideal.div
      rw [if_neg (by norm_num), ← EReal.coe_inv, EReal.top_mul_coe_of_pos (by norm_num)]
      obtain ⟨e, he⟩ := num_eps
      rw [← he]
      exact EReal.top_add_coe e
    rw [hd]
    show Num (x i * 0)
    rw [mul_zero]
    exact Num.zero

theorem num_query {x g : Fin 1024 → EReal} {W : Fin 1024 → Fin 1024 → EReal} (hg : ∀ k, Num (g k)) (hW : ∀ k c, Num (W k c)) (c : Fin 1024) :
    Num (query x g W c) := Num.sum fun k => (num_nrm x g hg k).mul (hW k c)

theorem num_dist {q k : Fin 128 → EReal} (hq : ∀ d, Num (q d)) (hk : ∀ d, Num (k d)) : Num (dist q k) :=
  ((Num.sum fun d => (hq d).mul (hq d)).add (Num.sum fun d => (hk d).mul (hk d))).sub (num_two.mul (Num.sum fun d => (hq d).mul (hk d)))

theorem num_prod {D1 D2 : Fin 256 → EReal} (h1 : ∀ a, Num (D1 a)) (h2 : ∀ a, Num (D2 a)) (c : Fin 64) : Num (prod D1 D2 c) :=
  ((h1 _).add num_milli).mul ((h2 _).add num_milli)

/-- A token's distances from the keys of half `b`, the query's columns being those of `p`. -/
def tokDist (t : (⟨3, ![2, 2048, 1024]⟩ : Shape).Idx → EReal) (K : (⟨4, ![2, 4, 256, 128]⟩ : Shape).Idx → EReal) (W : (⟨2, ![1024, 1024]⟩ : Shape).Idx → EReal)
    (g : (⟨1, ![1024]⟩ : Shape).Idx → EReal) (b : Fin 2) (p : Fin 8) (n : Fin 4096) (h : Fin 4) (a : Fin 256) : EReal :=
  dists (fun k => t (ix3 (⟨n.val / 2048, by omega⟩ : Fin 2) (⟨n.val % 2048, by omega⟩ : Fin 2048) k)) (fun k => g (ix1 k)) (fun k e => W (ix2 k e))
    (fun h a d => K (ix4 b h a d)) p h a

theorem num_tokDist {t : (⟨3, ![2, 2048, 1024]⟩ : Shape).Idx → EReal} {K : (⟨4, ![2, 4, 256, 128]⟩ : Shape).Idx → EReal} {W : (⟨2, ![1024, 1024]⟩ : Shape).Idx → EReal}
    {g : (⟨1, ![1024]⟩ : Shape).Idx → EReal} (hK : ∀ i, Num (K i)) (hW : ∀ i, Num (W i)) (hg : ∀ i, Num (g i)) (b : Fin 2) (p : Fin 8) (n : Fin 4096) (h : Fin 4) (a : Fin 256) :
    Num (tokDist t K W g b p n h a) :=
  num_dist (fun _ => num_query (fun _ => hg _) (fun _ _ => hW _) _) fun _ => hK _

section Precondition

open Cert.Pre_finite

attribute [local instance] Cert.Pre_finite.Gen.facts

theorem num_of_lt (x : Ideal .f32) (h : FloatOps.cmpf .olt (FloatOps.hostAbsf x) (FloatOps.ofBits (F := Ideal) .f32 0x7F800000#32) = 1#1) : Num x := by
  have htop : Ideal.ofBits .f32 0x7F800000#32 = ⊤ := by simp [Ideal.ofBits, Ideal.ieee]
  have h' : max (x : EReal) (-(x : EReal)) < ⊤ := by
    rw [← htop]
    exact (Ideal.cmp_olt_eq_one _ _).1 h
  obtain ⟨h1, h2⟩ := max_lt_iff.1 h'
  exact ⟨EReal.toReal x, EReal.coe_toReal h1.ne fun e => absurd (e ▸ h2) (by simp)⟩

/-- The precondition says that the keys, the projection and the gain are numbers. -/
theorem num_args (a0 : FVec Ideal S2x2048x1024 .f32) (a1 : FVec Ideal S2x4x256x128 .f32) (a2 : FVec Ideal S1024x1024 .f32) (a3 : FVec Ideal S1024 .f32)
    (h : Cert.Pre_finite.fn (F := Ideal) a0 a1 a2 a3 = fun _ => 1#1) : (∀ i, Num (a1 i)) ∧ (∀ i, Num (a2 i)) ∧ (∀ i, Num (a3 i)) := by
  have e := congrFun h ValueIdx.ix0
  simp only [Cert.Pre_finite.fn, andi] at e
  obtain ⟨e12, e3⟩ := IntOp.andi_eq_one.1 e
  obtain ⟨e1, e2⟩ := IntOp.andi_eq_one.1 e12
  haveI : Subsingleton S_.Idx := ⟨fun a b => funext fun x => x.elim0⟩
  exact ⟨fun i => num_of_lt _ (Host.reduce_andi_all _ _ _ _ _ e1 i), fun i => num_of_lt _ (Host.reduce_andi_all _ _ _ _ _ e2 i),
    fun i => num_of_lt _ (Host.reduce_andi_all _ _ _ _ _ e3 i)⟩

end Precondition

end Cert.Proof.SelectFinite

namespace Cert.Proof.SelectTile

open Idealize.ShloMosaic Idealize.ShloMosaic.TcCoe Cert.SelectIdeal Cert.SelectIdeal.Gen Cert.Proof.SelectSpec Cert.Proof.SelectFinite

attribute [local instance] Cert.SelectIdeal.Gen.facts

variable (m : (ℓ : Loc nD τ sig) → Buf (Elt Ideal) ℓ) (c : Dev nD)

theorem opX_eq : opX m c = shapeCast S4096x1024 (m ((c : Thread nD τ).loc main_arg0) : FVec Ideal S2x2048x1024 .f32) shapeCasts_S2x2048x1024_S4096x1024 := by
  unfold opX V
  after_results <;> rfl
theorem opG_eq : opG m c = shapeCast S1x1024 (m ((c : Thread nD τ).loc main_arg3) : FVec Ideal S1024 .f32) shapeCasts_S1024_S1x1024 := by
  unfold opG V
  after_results <;> rfl
theorem opK1_eq : opK1 m c = shapeCast S4x256x128 (extractStridedSlice S1x4x256x128 ![0, 0, 0, 0] (m ((c : Thread nD τ).loc main_arg1) : FVec Ideal S2x4x256x128 .f32) slices_S2x4x256x128_S1x4x256x128_0_0_0_0) shapeCasts_S1x4x256x128_S4x256x128 := by
  unfold opK1 V
  after_results <;> rfl
theorem opK2_eq : opK2 m c = shapeCast S4x256x128 (extractStridedSlice S1x4x256x128 ![1, 0, 0, 0] (m ((c : Thread nD τ).loc main_arg1) : FVec Ideal S2x4x256x128 .f32) slices_S2x4x256x128_S1x4x256x128_1_0_0_0) shapeCasts_S1x4x256x128_S4x256x128 := by
  unfold opK2 V
  after_results <;> rfl

theorem dist1_eq (n : Fin 4096) (h : Fin 4) (a : Fin 256) :
    dist1 m c n h a = tokDist (m ((c : Thread nD τ).loc main_arg0)) (m ((c : Thread nD τ).loc main_arg1)) (m ((c : Thread nD τ).loc main_arg2)) (m ((c : Thread nD τ).loc main_arg3)) 0 (first h) n h a := by
  unfold dist1 tokDist
  rw [opX_eq, opG_eq, opK1_eq, show opW m c = m ((c : Thread nD τ).loc main_arg2) from V_main_arg2 m c]
  congr 1
  · funext k
    refine shapeCast_apply _ _ _ _ ?_
    show (S2x2048x1024.rowMajor _).val = _
    rw [Shape.rowMajor_val_two, Shape.rowMajor_val_three]
    show (n.val / 2048 * 2048 + n.val % 2048) * 1024 + k.val = n.val * 1024 + k.val
    omega
  · funext k
    refine shapeCast_apply _ _ _ _ ?_
    show (S1024.rowMajor _).val = _
    rw [Shape.rowMajor_val_two, Shape.rowMajor_val_one]
    show k.val = 0 * 1024 + k.val
    omega
  · funext h a d
    pointwise []

theorem dist2_eq (n : Fin 4096) (h : Fin 4) (a : Fin 256) :
    dist2 m c n h a = tokDist (m ((c : Thread nD τ).loc main_arg0)) (m ((c : Thread nD τ).loc main_arg1)) (m ((c : Thread nD τ).loc main_arg2)) (m ((c : Thread nD τ).loc main_arg3)) 1 (second h) n h a := by
  unfold dist2 tokDist
  rw [opX_eq, opG_eq, opK2_eq, show opW m c = m ((c : Thread nD τ).loc main_arg2) from V_main_arg2 m c]
  congr 1
  · funext k
    refine shapeCast_apply _ _ _ _ ?_
    show (S2x2048x1024.rowMajor _).val = _
    rw [Shape.rowMajor_val_two, Shape.rowMajor_val_three]
    show (n.val / 2048 * 2048 + n.val % 2048) * 1024 + k.val = n.val * 1024 + k.val
    omega
  · funext k
    refine shapeCast_apply _ _ _ _ ?_
    show (S1024.rowMajor _).val = _
    rw [Shape.rowMajor_val_two, Shape.rowMajor_val_one]
    show k.val = 0 * 1024 + k.val
    omega
  · funext h a d
    pointwise []

end Cert.Proof.SelectTile

end
-- ==== Proof.SelectTake.lean ====
/-
  The pieces of the reference's choice that no arithmetic enters: the places of the eight least along the last axis, and the
  elements of an array at such places, which are in range and not negative.
-/
module

public import proofs.«01_k».proof.Proof.Rows
public import proofs.«01_k».proof.Proof.SelectFinite
public import proofs.«01_k».proof.Proof.Gen.SelectReferenceIdeal.Run

@[expose] public section

noncomputable section

namespace Cert.Proof.SelectRef

open Idealize.ShloMosaic Idealize.ShloMosaic.TcCoe Cert.SelectReferenceIdeal Cert.SelectReferenceIdeal.Gen Cert.Proof.Pick Cert.Proof.SelectSpec
open scoped BigOperators

attribute [local instance] Cert.SelectReferenceIdeal.Gen.facts

/-- The places as the gather takes them, a negative one counted from the end; and whether each is in range. -/
def rWrap (N : BitVec 32) (I : IVec S4096x4x8 32) : IVec S4096x4x8x1 32 :=
  shapeCast _ (select (cmpi .slt I (broadcastInDim S4096x4x8 ![] bcast_S_S4096x4x8 (constantI S_ 32 0#32))) (addi I (broadcastInDim S4096x4x8 ![] bcast_S_S4096x4x8 (constantI S_ 32 N))) I) shapeCasts_S4096x4x8_S4096x4x8x1

def rIn (R : BitVec 32) (J : IVec S4096x4x8x1 32) : IVec S4096x4x8 1 :=
  Host.reduce IntOp.andi (andi (cmpi .sge J (broadcastInDim S4096x4x8x1 ![] bcast_S_S4096x4x8x1 (constantI S_ 32 0#32))) (cmpi .sle J (broadcastInDim S4096x4x8x1 ![0, 1, 2, 3] bcast_S1x1x1x1_S4096x4x8x1_0_1_2_3 (broadcastInDim S1x1x1x1 ![3] bcast_S1_S1x1x1x1_3 (constantI S1 32 R))))) (constantI S_ 1 1#1) reducesTo_S4096x4x8x1_S4096x4x8_d3 h_S_

/-- The elements at given places of the last axis. -/
def rTake (X : FVec Ideal S4096x4x256 .f32) (J : IVec S4096x4x8x1 32) : FVec Ideal S4096x4x8 .f32 :=
  select (rIn 255#32 J) (Host.gather gather_S4096x4x256_S4096x4x8x1_S4096x4x8_n_2_01_01_2_3_111 X J) (broadcastInDim S4096x4x8 ![] bcast_S_S4096x4x8 (constant S_ .f32 0x7FC00000#32))

def rTake64 {α : Type} (X : S4096x4x64.Idx → α) (J : IVec S4096x4x8x1 32) (Z : S4096x4x8.Idx → α) : S4096x4x8.Idx → α :=
  select (rIn 63#32 J) (Host.gather gather_S4096x4x64_S4096x4x8x1_S4096x4x8_n_2_01_01_2_3_111 X J) Z

/-- The places of the eight least. -/
def rTop (D : FVec Ideal S4096x4x256 .f32) : IVec S4096x4x8 32 :=
  (Host.topK S4096x4x8 2 (FloatOps.cmpfTotal .gt) (Host.negf D) sliceFits_S4096x4x256_S4096x4x8).2

def rTop64 (D : FVec Ideal S4096x4x64 .f32) : IVec S4096x4x8 32 :=
  (Host.topK S4096x4x8 2 (FloatOps.cmpfTotal .gt) (Host.negf D) sliceFits_S4096x4x64_S4096x4x8).2

/-- A place for every token, head and choice, as words. -/
def places {N : ℕ} (f : Fin 4096 → Fin 4 → Fin 8 → Fin N) : IVec S4096x4x8 32 := fun p => BitVec.ofNat 32 (f (p 0) (p 1) (p 2)).val

theorem rWrap_places {N : ℕ} (hN : N ≤ 256) (w : BitVec 32) (f : Fin 4096 → Fin 4 → Fin 8 → Fin N) (n : Fin 4096) (h : Fin 4) (k : Fin 8) :
    rWrap w (places f) (ix4 n h k 0) = BitVec.ofNat 32 (f n h k).val := by
  have e : rWrap w (places f) (ix4 n h k 0) = if IntOp.cmpi .slt (BitVec.ofNat 32 (f n h k).val) 0#32 = 1#1 then IntOp.addi (BitVec.ofNat 32 (f n h k).val) w else BitVec.ofNat 32 (f n h k).val := by
    pointwise [rWrap, places]
    rfl
  rw [e, if_neg (Rows.not_neg _)]
  rw [BitVec.toNat_ofNat, Nat.mod_eq_of_lt] <;> have := (f n h k).isLt <;> omega

theorem rIn_places {N : ℕ} (hN : N ≤ 256) (R : BitVec 32) (hR : R.toNat = N - 1) (w : BitVec 32) (f : Fin 4096 → Fin 4 → Fin 8 → Fin N) (p : S4096x4x8.Idx) :
    rIn R (rWrap w (places f)) p = 1#1 := by
  unfold rIn
  refine Host.reduce_andi_one _ _ _ _ _ rfl fun i => ?_
  obtain ⟨n, h, k, rfl⟩ : ∃ (n : Fin 4096) (h : Fin 4) (k : Fin 8), i = ix4 n h k 0 :=
    ⟨i 0, i 1, i 2, by funext a; match a with | 0 => rfl | 1 => rfl | 2 => rfl | 3 => exact Subsingleton.elim (α := Fin 1) _ _⟩
  have hf := (f n h k).isLt
  have e : ∀ v : BitVec 32, v = BitVec.ofNat 32 (f n h k).val → IntOp.andi (IntOp.cmpi .sge v 0#32) (IntOp.cmpi .sle v R) = 1#1 := by
    rintro v rfl
    have hv : (BitVec.ofNat 32 (f n h k).val).toInt = ((f n h k).val : ℤ) := by
      rw [BitVec.toInt_eq_toNat_cond, BitVec.toNat_ofNat, Nat.mod_eq_of_lt (by omega), if_pos (by omega)]
    have hr : R.toInt = ((N - 1 : ℕ) : ℤ) := by
      rw [BitVec.toInt_eq_toNat_cond, hR, if_pos (by omega)]
    refine IntOp.andi_eq_one.2 ⟨IntOp.cmpi_sge.2 ?_, IntOp.cmpi_sle.2 ?_⟩
    · rw [hv]; exact Int.natCast_nonneg _
    · rw [hv, hr]; omega
  exact e _ (rWrap_places hN w f n h k)

/-- The gather along the last axis, one element for every token, head and choice. -/
abbrev lastDims (N : ℕ) (wf : GatherDims.WF ⟨3, ![4096, 4, N]⟩ S4096x4x8x1 S4096x4x8 [] [2] [0, 1] [2] [0, 1] 3 ![1, 1, 1]) : GatherDims ⟨3, ![4096, 4, N]⟩ S4096x4x8x1 S4096x4x8 where
  offsetDims := []
  collapsedSliceDims := [2]
  operandBatchingDims := [0, 1]
  startIndicesBatchingDims := [0, 1]
  startIndexMap := [2]
  indexVectorDim := 3
  sliceSizes := ![1, 1, 1]
  wf := wf

theorem gather_last {α : Type} {N : ℕ} (hN : 0 < N) (wf : GatherDims.WF ⟨3, ![4096, 4, N]⟩ S4096x4x8x1 S4096x4x8 [] [2] [0, 1] [2] [0, 1] 3 ![1, 1, 1])
    (x : (⟨3, ![4096, 4, N]⟩ : Shape).Idx → α) (J : IVec S4096x4x8x1 32) (n : Fin 4096) (h : Fin 4) (k : Fin 8) :
    Host.gather (lastDims N wf) x J (ix3 n h k) = x (ix3 n h ⟨min (J (ix4 n h k 0)).toInt.toNat (N - 1), by omega⟩) := by
  unfold Host.gather
  congr 1
  funext a
  refine Fin.ext ?_
  show (lastDims N wf).start (ix3 n h k) J a + (lastDims N wf).batchCoord (ix3 n h k) a + (lastDims N wf).offCoord (ix3 n h k) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · have hm : (0 : Fin 3) ∈ (lastDims N wf).operandBatchingDims := List.mem_cons_self ..
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl
  · have hm : (1 : Fin 3) ∈ (lastDims N wf).operandBatchingDims := List.mem_cons_of_mem _ (List.mem_singleton.2 rfl)
    rw [GatherDims.start_batching _ _ _ _ hm, GatherDims.offCoord_eq_zero _ _ _ (fun h => ((GatherDims.mem_sKept _ _).mp h).2 hm)]
    simp only [Nat.zero_add, Nat.add_zero]
    unfold GatherDims.batchCoord
    rw [dif_pos hm]
    rfl
  · have hb : (2 : Fin 3) ∉ (lastDims N wf).operandBatchingDims := fun h => absurd (show (2 : Fin 3) ∈ ([0, 1] : List (Fin 3)) from h) (by decide)
    rw [GatherDims.batchCoord_eq_zero _ _ _ hb, GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims N wf).startIndexMap from List.mem_singleton.mpr rfl)]
    have hsi : (lastDims N wf).siIdx (ix3 n h k) ⟨List.idxOf (2 : Fin 3) (lastDims N wf).startIndexMap,
        List.idxOf_lt_length_iff.2 (List.mem_singleton.mpr rfl)⟩ = ix4 n h k 0 := by
      funext b; refine Fin.ext ?_
      match b with
      | ⟨0, _⟩ => rfl
      | ⟨1, _⟩ => rfl
      | ⟨2, _⟩ => rfl
      | ⟨3, _⟩ => rfl
    rw [hsi]
    rfl

/-- At places in range the gather reads those places. -/
theorem gather_places {α : Type} {N : ℕ} (hN : N ≤ 256) (wf : GatherDims.WF ⟨3, ![4096, 4, N]⟩ S4096x4x8x1 S4096x4x8 [] [2] [0, 1] [2] [0, 1] 3 ![1, 1, 1])
    (x : (⟨3, ![4096, 4, N]⟩ : Shape).Idx → α) (w : BitVec 32) (f : Fin 4096 → Fin 4 → Fin 8 → Fin N) (n : Fin 4096) (h : Fin 4) (k : Fin 8) :
    Host.gather (lastDims N wf) x (rWrap w (places f)) (ix3 n h k) = x (ix3 n h (f n h k)) := by
  have hf := (f n h k).isLt
  rw [gather_last (by omega)]
  refine congrArg (fun z => x (ix3 n h z)) (Fin.ext ?_)
  show min (rWrap w (places f) (ix4 n h k 0)).toInt.toNat (N - 1) = _
  rw [rWrap_places hN, BitVec.toInt_eq_toNat_cond, BitVec.toNat_ofNat, Nat.mod_eq_of_lt (by omega), if_pos (by omega)]
  omega

theorem rTake_places (X : FVec Ideal S4096x4x256 .f32) (f : Fin 4096 → Fin 4 → Fin 8 → Fin 256) (n : Fin 4096) (h : Fin 4) (k : Fin 8) :
    rTake X (rWrap 256#32 (places f)) (ix3 n h k) = X (ix3 n h (f n h k)) := by
  unfold rTake
  show Scalar.select (rIn _ _ _) _ _ = _
  rw [rIn_places (le_refl _) 255#32 (by decide)]
  exact gather_places (le_refl 256) Facts₀.gather_S4096x4x256_S4096x4x8x1_S4096x4x8_n_2_01_01_2_3_111_wf X 256#32 f n h k

theorem rTake64_places {α : Type} (X : S4096x4x64.Idx → α) (Z : S4096x4x8.Idx → α) (f : Fin 4096 → Fin 4 → Fin 8 → Fin 64) (n : Fin 4096) (h : Fin 4) (k : Fin 8) :
    rTake64 X (rWrap 64#32 (places f)) Z (ix3 n h k) = X (ix3 n h (f n h k)) := by
  unfold rTake64
  show Scalar.select (rIn _ _ _) _ _ = _
  rw [rIn_places (by norm_num) 63#32 (by decide)]
  exact gather_places (N := 64) (by norm_num) Facts₀.gather_S4096x4x64_S4096x4x8x1_S4096x4x8_n_2_01_01_2_3_111_wf X 64#32 f n h k

theorem rTop_eq (D : FVec Ideal S4096x4x256 .f32) (hD : ∀ n h a, D (ix3 n h a) ≠ (⊤ : EReal)) :
    rTop D = places fun n h k => pick (fun a => D (ix3 n h a)) k.val := by
  funext p
  obtain ⟨n, h, k, rfl⟩ : ∃ (n : Fin 4096) (h : Fin 4) (k : Fin 8), p = ix3 n h k :=
    ⟨p 0, p 1, p 2, by funext a; match a with | 0 => rfl | 1 => rfl | 2 => rfl⟩
  exact topK_three (n := 256) _ _ (by norm_num) n h k (fun a => D (ix3 n h a)) (fun _ => rfl) (hD n h)

theorem rTop64_eq (D : FVec Ideal S4096x4x64 .f32) (hD : ∀ n h a, D (ix3 n h a) ≠ (⊤ : EReal)) :
    rTop64 D = places fun n h k => pick (fun a => D (ix3 n h a)) k.val := by
  funext p
  obtain ⟨n, h, k, rfl⟩ : ∃ (n : Fin 4096) (h : Fin 4) (k : Fin 8), p = ix3 n h k :=
    ⟨p 0, p 1, p 2, by funext a; match a with | 0 => rfl | 1 => rfl | 2 => rfl⟩
  exact topK_three (n := 64) _ _ (by norm_num) n h k (fun a => D (ix3 n h a)) (fun _ => rfl) (hD n h)

end Cert.Proof.SelectRef

end
-- ==== Proof.SelectRef.lean ====
/-
  The selection's reference read at a token: its own terms, cut into the layers of the computation, each layer the token's
  function of `SelectSpec` at an index.
-/
module

public import proofs.«01_k».proof.Proof.SelectTake

@[expose] public section

noncomputable section

namespace Cert.Proof.SelectRef

open Idealize.ShloMosaic Idealize.ShloMosaic.TcCoe Cert.SelectReferenceIdeal Cert.SelectReferenceIdeal.Gen Cert.Proof.Pick Cert.Proof.Spec Cert.Proof.SelectSpec
open Cert.Proof.SelectFinite
open scoped BigOperators

attribute [local instance] Cert.SelectReferenceIdeal.Gen.facts

/-- The scaled normalisation of every token. -/
def rNorm (X : FVec Ideal S4096x1024 .f32) (g : FVec Ideal S1024 .f32) : FVec Ideal S4096x1024 .f32 :=
  mulf (Host.divf X (broadcastInDim S4096x1024 ![0, 1] bcast_S4096x1_S4096x1024_0_1 (Host.sqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x34000000#32)))))) (broadcastInDim S4096x1024 ![0, 1] bcast_S1x1024_S4096x1024_0_1 (broadcastInDim S1x1024 ![1] bcast_S1024_S1x1024_1 g))

theorem rNorm_apply (X : FVec Ideal S4096x1024 .f32) (g : FVec Ideal S1024 .f32) (n : Fin 4096) (k : Fin 1024) :
    rNorm X g (ix2 n k) = nrm 0x44800000#32 (fun k => X (ix2 n k)) (fun k => g (ix1 k)) k := by
  unfold nrm
  rw [← div_sqrt _ _ (den_pos (by norm_num) c1024 _)]
  pointwise [rNorm, den]

/-- Every token's query, by halves and heads. -/
def rQuery (X : FVec Ideal S4096x1024 .f32) (g : FVec Ideal S1024 .f32) (W : FVec Ideal S1024x1024 .f32) : FVec Ideal S4096x2x4x128 .f32 :=
  shapeCast _ (Host.dotGeneral dot_S4096x1024_S1024x1024_S4096x1024_1_0_0_1_n_n none (rNorm X g) W) shapeCasts_S4096x1024_S4096x2x4x128

/-- The halves of the query, and of the keys. -/
def rQ1 (Q : FVec Ideal S4096x2x4x128 .f32) : FVec Ideal S4096x4x128 .f32 :=
  shapeCast _ (extractStridedSlice S4096x1x4x128 ![0, 0, 0, 0] Q slices_S4096x2x4x128_S4096x1x4x128_0_0_0_0) shapeCasts_S4096x1x4x128_S4096x4x128
def rQ2 (Q : FVec Ideal S4096x2x4x128 .f32) : FVec Ideal S4096x4x128 .f32 :=
  shapeCast _ (extractStridedSlice S4096x1x4x128 ![0, 1, 0, 0] Q slices_S4096x2x4x128_S4096x1x4x128_0_1_0_0) shapeCasts_S4096x1x4x128_S4096x4x128
def rK1 (K : FVec Ideal S2x4x256x128 .f32) : FVec Ideal S4x256x128 .f32 :=
  shapeCast _ (extractStridedSlice S1x4x256x128 ![0, 0, 0, 0] K slices_S2x4x256x128_S1x4x256x128_0_0_0_0) shapeCasts_S1x4x256x128_S4x256x128
def rK2 (K : FVec Ideal S2x4x256x128 .f32) : FVec Ideal S4x256x128 .f32 :=
  shapeCast _ (extractStridedSlice S1x4x256x128 ![1, 0, 0, 0] K slices_S2x4x256x128_S1x4x256x128_1_0_0_0) shapeCasts_S1x4x256x128_S4x256x128

theorem rQ1_apply (X : FVec Ideal S4096x1024 .f32) (g : FVec Ideal S1024 .f32) (W : FVec Ideal S1024x1024 .f32) (n : Fin 4096) (h : Fin 4) (d : Fin 128) :
    rQ1 (rQuery X g W) (ix3 n h d) = query (fun k => X (ix2 n k)) (fun k => g (ix1 k)) (fun k c => W (ix2 k c)) (qcol (first h) d) := by
  unfold query qcol first
  pointwise [rQ1, rQuery, rNorm_apply]

theorem rQ2_apply (X : FVec Ideal S4096x1024 .f32) (g : FVec Ideal S1024 .f32) (W : FVec Ideal S1024x1024 .f32) (n : Fin 4096) (h : Fin 4) (d : Fin 128) :
    rQ2 (rQuery X g W) (ix3 n h d) = query (fun k => X (ix2 n k)) (fun k => g (ix1 k)) (fun k c => W (ix2 k c)) (qcol (second h) d) := by
  unfold query qcol second
  pointwise [rQ2, rQuery, rNorm_apply]
  simp only [show 512 + h.val * 128 + d.val = (4 + h.val) * 128 + d.val from by omega]

theorem rK1_apply (K : FVec Ideal S2x4x256x128 .f32) (h : Fin 4) (a : Fin 256) (d : Fin 128) : rK1 K (ix3 h a d) = K (ix4 0 h a d) := by
  pointwise [rK1]
theorem rK2_apply (K : FVec Ideal S2x4x256x128 .f32) (h : Fin 4) (a : Fin 256) (d : Fin 128) : rK2 K (ix3 h a d) = K (ix4 1 h a d) := by
  pointwise [rK2]

/-- The distances of every token's half query from the keys of its heads. -/
def rDist (Q : FVec Ideal S4096x4x128 .f32) (K : FVec Ideal S4x256x128 .f32) : FVec Ideal S4096x4x256 .f32 :=
  subf (addf (broadcastInDim S4096x4x256 ![0, 1, 2] bcast_S4096x4x1_S4096x4x256_0_1_2 (broadcastInDim S4096x4x1 ![0, 1] bcast_S4096x4_S4096x4x1_0_1 (Host.reduceAdd (mulf Q Q) (constant S_ .f32 0x00000000#32) reducesTo_S4096x4x128_S4096x4_d2 h_S_))) (broadcastInDim S4096x4x256 ![0, 1, 2] bcast_S1x4x256_S4096x4x256_0_1_2 (broadcastInDim S1x4x256 ![1, 2] bcast_S4x256_S1x4x256_1_2 (Host.reduceAdd (mulf K K) (constant S_ .f32 0x00000000#32) reducesTo_S4x256x128_S4x256_d2 h_S_)))) (mulf (broadcastInDim S4096x4x256 ![] bcast_S_S4096x4x256 (constant S_ .f32 0x40000000#32)) (transpose S4096x4x256 [2, 0, 1] (Host.dotGeneral dot_S4x256x128_S4096x4x128_S4x256x4096_2_2_1_0_0_1 none K Q) transposes_S4x256x4096_S4096x4x256_2_0_1))

theorem rDist_apply (Q : FVec Ideal S4096x4x128 .f32) (K : FVec Ideal S4x256x128 .f32) (n : Fin 4096) (h : Fin 4) (a : Fin 256) :
    rDist Q K (ix3 n h a) = SelectSpec.dist (fun d => Q (ix3 n h d)) (fun d => K (ix3 h a d)) := by
  unfold SelectSpec.dist
  rw [Finset.sum_congr rfl fun d _ => mul_comm (Q (ix3 n h d)) (K (ix3 h a d))]
  pointwise [rDist]

/-- The distances kept off zero, and their scores. -/
def rNear (D : FVec Ideal S4096x4x256 .f32) : FVec Ideal S4096x4x256 .f32 :=
  addf D (broadcastInDim S4096x4x256 ![] bcast_S_S4096x4x256 (constant S_ .f32 0x3A83126F#32))
def rLog (D : FVec Ideal S4096x4x256 .f32) : FVec Ideal S4096x4x256 .f32 := Host.negf (Host.log (rNear D))

theorem rNear_apply (D : FVec Ideal S4096x4x256 .f32) (n : Fin 4096) (h : Fin 4) (a : Fin 256) :
    rNear D (ix3 n h a) = D (ix3 n h a) + Ideal.ofBits .f32 0x3A83126F#32 := by
  pointwise [rNear]
theorem rLog_apply (D : FVec Ideal S4096x4x256 .f32) (n : Fin 4096) (h : Fin 4) (a : Fin 256) :
    rLog D (ix3 n h a) = 0 - Ideal.log (D (ix3 n h a) + Ideal.ofBits .f32 0x3A83126F#32) := by
  rw [zero_sub]
  pointwise [rLog, rNear_apply]

/-- Every pair of the two eights: the products, the sums, and the pairs of keys. -/
def rMul (A B : FVec Ideal S4096x4x8 .f32) : FVec Ideal S4096x4x64 .f32 :=
  shapeCast _ (mulf (broadcastInDim S4096x4x8x8 ![0, 1, 2, 3] bcast_S4096x4x8x1_S4096x4x8x8_0_1_2_3 (broadcastInDim S4096x4x8x1 ![0, 1, 2] bcast_S4096x4x8_S4096x4x8x1_0_1_2 A)) (broadcastInDim S4096x4x8x8 ![0, 1, 2, 3] bcast_S4096x4x1x8_S4096x4x8x8_0_1_2_3 (broadcastInDim S4096x4x1x8 ![0, 1, 3] bcast_S4096x4x8_S4096x4x1x8_0_1_3 B))) shapeCasts_S4096x4x8x8_S4096x4x64

def rAdd (A B : FVec Ideal S4096x4x8 .f32) : FVec Ideal S4096x4x64 .f32 :=
  shapeCast _ (addf (broadcastInDim S4096x4x8x8 ![0, 1, 2, 3] bcast_S4096x4x8x1_S4096x4x8x8_0_1_2_3 (broadcastInDim S4096x4x8x1 ![0, 1, 2] bcast_S4096x4x8_S4096x4x8x1_0_1_2 A)) (broadcastInDim S4096x4x8x8 ![0, 1, 2, 3] bcast_S4096x4x1x8_S4096x4x8x8_0_1_2_3 (broadcastInDim S4096x4x1x8 ![0, 1, 3] bcast_S4096x4x8_S4096x4x1x8_0_1_3 B))) shapeCasts_S4096x4x8x8_S4096x4x64

def rWord (I I2 : IVec S4096x4x8 32) : IVec S4096x4x64 32 :=
  shapeCast _ (addi (broadcastInDim S4096x4x8x8 ![0, 1, 2, 3] bcast_S4096x4x8x1_S4096x4x8x8_0_1_2_3 (muli (broadcastInDim S4096x4x8x1 ![0, 1, 2] bcast_S4096x4x8_S4096x4x8x1_0_1_2 I) (broadcastInDim S4096x4x8x1 ![] bcast_S_S4096x4x8x1 (constantI S_ 32 256#32)))) (broadcastInDim S4096x4x8x8 ![0, 1, 2, 3] bcast_S4096x4x1x8_S4096x4x8x8_0_1_2_3 (broadcastInDim S4096x4x1x8 ![0, 1, 3] bcast_S4096x4x8_S4096x4x1x8_0_1_3 I2))) shapeCasts_S4096x4x8x8_S4096x4x64

theorem rMul_apply (A B : FVec Ideal S4096x4x8 .f32) (n : Fin 4096) (h : Fin 4) (c : Fin 64) :
    rMul A B (ix3 n h c) = A (ix3 n h (hi c)) * B (ix3 n h (lo c)) := by
  unfold hi lo
  pointwise [rMul]
theorem rAdd_apply (A B : FVec Ideal S4096x4x8 .f32) (n : Fin 4096) (h : Fin 4) (c : Fin 64) :
    rAdd A B (ix3 n h c) = A (ix3 n h (hi c)) + B (ix3 n h (lo c)) := by
  unfold hi lo
  pointwise [rAdd]
theorem rWord_apply (I I2 : IVec S4096x4x8 32) (n : Fin 4096) (h : Fin 4) (c : Fin 64) :
    rWord I I2 (ix3 n h c) = I (ix3 n h (hi c)) * 256#32 + I2 (ix3 n h (lo c)) := by
  unfold hi lo
  pointwise [rWord]
  rfl

/-- The scores turned to weights. -/
def rExp (V : FVec Ideal S4096x4x8 .f32) : FVec Ideal S4096x4x8 .f32 :=
  Host.exp (subf V (broadcastInDim S4096x4x8 ![0, 1, 2] bcast_S4096x4x1_S4096x4x8_0_1_2 (broadcastInDim S4096x4x1 ![0, 1] bcast_S4096x4_S4096x4x1_0_1 (maximumf (broadcastInDim S4096x4 ![] bcast_S_S4096x4 (constant S_ .f32 0xFF800000#32)) (Host.reduce FloatOps.maximumf V (constant S_ .f32 0xFF800000#32) reducesTo_S4096x4x8_S4096x4_d2 h_S_)))))

theorem rExp_apply (V : FVec Ideal S4096x4x8 .f32) (n : Fin 4096) (h : Fin 4) (k : Fin 8) :
    rExp V (ix3 n h k) = Ideal.exp (V (ix3 n h k) - peak fun k => V (ix3 n h k)) := by
  unfold peak
  pointwise [rExp]
  rw [max_eq_right ((Finset.le_fold_max _).2 (Or.inl le_rfl))]

def rWeights (V : FVec Ideal S4096x4x8 .f32) : FVec Ideal S32x4096 .f32 :=
  transpose S32x4096 [1, 0] (shapeCast _ (Host.divf (rExp V) (broadcastInDim S4096x4x8 ![0, 1, 2] bcast_S4096x4x1_S4096x4x8_0_1_2 (broadcastInDim S4096x4x1 ![0, 1] bcast_S4096x4_S4096x4x1_0_1 (Host.reduceAdd (rExp V) (constant S_ .f32 0x00000000#32) reducesTo_S4096x4x8_S4096x4_d2 h_S_)))) shapeCasts_S4096x4x8_S4096x32) transposes_S4096x32_S32x4096_1_0

theorem rWeights_apply (V : FVec Ideal S4096x4x8 .f32) (s : Fin 32) (n : Fin 4096) :
    rWeights V (ix2 s n) = soft (fun k => V (ix3 n (SelectTile.hd s) k)) (SelectTile.ch s) := by
  unfold soft SelectTile.hd SelectTile.ch
  pointwise [rWeights, rExp_apply]

/-- The rows of the table of values. -/
def rRows (T : IVec S4096x4x8 32) : IVec S32x4096 32 :=
  transpose S32x4096 [1, 0] (shapeCast _ (addi (muli T (broadcastInDim S4096x4x8 ![] bcast_S_S4096x4x8 (constantI S_ 32 4#32))) (broadcastInDim S4096x4x8 ![0, 1, 2] bcast_S1x4x1_S4096x4x8_0_1_2 (shapeCast _ (iotaInDim S4 32 0) shapeCasts_S4_S1x4x1))) shapeCasts_S4096x4x8_S4096x32) transposes_S4096x32_S32x4096_1_0

theorem rRows_apply (T : IVec S4096x4x8 32) (s : Fin 32) (n : Fin 4096) :
    rRows T (ix2 s n) = T (ix3 n (SelectTile.hd s) (SelectTile.ch s)) * 4#32 + BitVec.ofNat 32 (SelectTile.hd s).val := by
  unfold SelectTile.hd SelectTile.ch
  pointwise [rRows]
  rfl

section Whole

variable (t : FVec Ideal S2x2048x1024 .f32) (K : FVec Ideal S2x4x256x128 .f32) (W : FVec Ideal S1024x1024 .f32) (g : FVec Ideal S1024 .f32)

/-- The distances of the two halves, for every token and head. -/
def rD1 : FVec Ideal S4096x4x256 .f32 := rDist (rQ1 (rQuery (shapeCast S4096x1024 t shapeCasts_S2x2048x1024_S4096x1024) g W)) (rK1 K)
def rD2 : FVec Ideal S4096x4x256 .f32 := rDist (rQ2 (rQuery (shapeCast S4096x1024 t shapeCasts_S2x2048x1024_S4096x1024) g W)) (rK2 K)

theorem row_cast (n : Fin 4096) : (fun k : Fin 1024 => shapeCast S4096x1024 t shapeCasts_S2x2048x1024_S4096x1024 (ix2 n k))
    = fun k => t (ix3 (⟨n.val / 2048, by omega⟩ : Fin 2) (⟨n.val % 2048, by omega⟩ : Fin 2048) k) := by
  funext k
  refine shapeCast_apply t _ _ _ ?_
  rw [Shape.rowMajor_val_two, Shape.rowMajor_val_three]
  show (n.val / 2048 * 2048 + n.val % 2048) * 1024 + k.val = n.val * 1024 + k.val
  omega

theorem rD1_apply (n : Fin 4096) (h : Fin 4) (a : Fin 256) : rD1 t K W g (ix3 n h a) = tokDist t K W g 0 (first h) n h a := by
  unfold rD1 tokDist dists
  rw [rDist_apply, funext fun d => rQ1_apply _ g W n h d, funext fun d => rK1_apply K h a d, row_cast]
theorem rD2_apply (n : Fin 4096) (h : Fin 4) (a : Fin 256) : rD2 t K W g (ix3 n h a) = tokDist t K W g 1 (second h) n h a := by
  unfold rD2 tokDist dists
  rw [rDist_apply, funext fun d => rQ2_apply _ g W n h d, funext fun d => rK2_apply K h a d, row_cast]

end Whole

section Choice

variable (D1 D2 : FVec Ideal S4096x4x256 .f32)

/-- The products of the eight nearest of each half, the scores and the pairs at the eight least products. -/
def rProd : FVec Ideal S4096x4x64 .f32 := rMul (rTake (rNear D1) (rWrap 256#32 (rTop D1))) (rTake (rNear D2) (rWrap 256#32 (rTop D2)))
def rScore : FVec Ideal S4096x4x8 .f32 :=
  rTake64 (rAdd (rTake (rLog D1) (rWrap 256#32 (rTop D1))) (rTake (rLog D2) (rWrap 256#32 (rTop D2)))) (rWrap 64#32 (rTop64 (rProd D1 D2)))
    (broadcastInDim S4096x4x8 ![] bcast_S_S4096x4x8 (constant S_ .f32 0x7FC00000#32))
def rPair : IVec S4096x4x8 32 :=
  rTake64 (rWord (rTop D1) (rTop D2)) (rWrap 64#32 (rTop64 (rProd D1 D2))) (broadcastInDim S4096x4x8 ![] bcast_S_S4096x4x8 (constantI S_ 32 2147483648#32))

variable (h1 : ∀ n h a, Num (D1 (ix3 n h a))) (h2 : ∀ n h a, Num (D2 (ix3 n h a))) (n : Fin 4096) (h : Fin 4)

include h1 h2 in
theorem rProd_apply (c : Fin 64) : rProd D1 D2 (ix3 n h c) = prod (fun a => D1 (ix3 n h a)) (fun a => D2 (ix3 n h a)) c := by
  unfold rProd
  rw [rMul_apply, rTop_eq D1 fun n h a => (h1 n h a).ne_top, rTop_eq D2 fun n h a => (h2 n h a).ne_top, rTake_places, rTake_places, rNear_apply, rNear_apply]
  rfl

include h1 h2 in
theorem rTop64_prod : rTop64 (rProd D1 D2) = places fun n h k => SelectSpec.sub (fun a => D1 (ix3 n h a)) (fun a => D2 (ix3 n h a)) k := by
  rw [rTop64_eq _ fun n h c => by
    rw [rProd_apply D1 D2 h1 h2]
    exact (num_prod (fun a => h1 n h a) (fun a => h2 n h a) c).ne_top]
  unfold SelectSpec.sub
  refine congrArg places (funext fun n => funext fun h => funext fun k => congrArg (fun f => pick f k.val) (funext fun c => rProd_apply D1 D2 h1 h2 n h c))

include h1 h2 in
theorem rScore_apply (k : Fin 8) : rScore D1 D2 (ix3 n h k)
    = score (fun a => D1 (ix3 n h a)) (fun a => D2 (ix3 n h a)) (SelectSpec.sub (fun a => D1 (ix3 n h a)) (fun a => D2 (ix3 n h a)) k) := by
  unfold rScore
  rw [rTop64_prod D1 D2 h1 h2, rTake64_places, rAdd_apply, rTop_eq D1 fun n h a => (h1 n h a).ne_top, rTop_eq D2 fun n h a => (h2 n h a).ne_top,
    rTake_places, rTake_places, rLog_apply, rLog_apply]
  rfl

include h1 h2 in
theorem rPair_apply (k : Fin 8) : rPair D1 D2 (ix3 n h k)
    = word (fun a => D1 (ix3 n h a)) (fun a => D2 (ix3 n h a)) (SelectSpec.sub (fun a => D1 (ix3 n h a)) (fun a => D2 (ix3 n h a)) k) := by
  unfold rPair
  rw [rTop64_prod D1 D2 h1 h2, rTake64_places, rWord_apply, rTop_eq D1 fun n h a => (h1 n h a).ne_top, rTop_eq D2 fun n h a => (h2 n h a).ne_top]
  rfl

include h1 h2 in
theorem rWeights_score (s : Fin 32) : rWeights (rScore D1 D2) (ix2 s n)
    = weight (fun a => D1 (ix3 n (SelectTile.hd s) a)) (fun a => D2 (ix3 n (SelectTile.hd s) a)) (SelectTile.ch s) := by
  rw [rWeights_apply, funext fun k => rScore_apply D1 D2 h1 h2 n (SelectTile.hd s) k]
  rfl

include h1 h2 in
theorem rRows_pair (s : Fin 32) : rRows (rPair D1 D2) (ix2 s n)
    = row (fun a => D1 (ix3 n (SelectTile.hd s) a)) (fun a => D2 (ix3 n (SelectTile.hd s) a)) (SelectTile.hd s) (SelectTile.ch s) := by
  rw [rRows_apply, rPair_apply D1 D2 h1 h2]
  rfl

end Choice

section Terms

open Cert.SelectReferenceIdeal.Value

variable (V0 : Valuation τ sig (Elt Ideal))

/-- The reference's distances at the launch contents. -/
abbrev vD1 : FVec Ideal S4096x4x256 .f32 := rD1 (V0 (Proc.devRef .tc main_arg0)) (V0 (Proc.devRef .tc main_arg1)) (V0 (Proc.devRef .tc main_arg2)) (V0 (Proc.devRef .tc main_arg3))
abbrev vD2 : FVec Ideal S4096x4x256 .f32 := rD2 (V0 (Proc.devRef .tc main_arg0)) (V0 (Proc.devRef .tc main_arg1)) (V0 (Proc.devRef .tc main_arg2)) (V0 (Proc.devRef .tc main_arg3))

theorem res_v37 : (res_main_v37 V0 : FVec Ideal S4096x4x256 .f32) = vD1 V0 := by
  unfold res_main_v37 res_main_v17 res_main_v21 res_main_v15 res_main_v0 vD1 rD1 rDist rQ1 rK1 rQuery rNorm
  rfl
theorem res_v51 : (res_main_v51 V0 : FVec Ideal S4096x4x256 .f32) = vD2 V0 := by
  unfold res_main_v51 res_main_v19 res_main_v23 res_main_v15 res_main_v0 vD2 rD2 rDist rQ2 rK2 rQuery rNorm
  rfl
theorem res_indices : (res_main_indices V0 : IVec S4096x4x8 32) = rTop (vD1 V0) := by
  unfold res_main_indices res_main_v60 rTop
  rw [res_v37] <;> rfl
theorem res_indices_11 : (res_main_indices_11 V0 : IVec S4096x4x8 32) = rTop (vD2 V0) := by
  unfold res_main_indices_11 res_main_v61 rTop
  rw [res_v51] <;> rfl
theorem res_call0 : (res_main_call0_v5 V0 : IVec S4096x4x8x1 32) = rWrap 256#32 (rTop (vD1 V0)) := by
  unfold res_main_call0_v5 rWrap
  rw [res_indices] <;> rfl
theorem res_call1 : (res_main_call1_v5 V0 : IVec S4096x4x8x1 32) = rWrap 256#32 (rTop (vD2 V0)) := by
  unfold res_main_call1_v5 rWrap
  rw [res_indices_11] <;> rfl
theorem res_call2 : (res_main_call2_v5 V0 : IVec S4096x4x8x1 32) = rWrap 256#32 (rTop (vD1 V0)) := by
  unfold res_main_call2_v5 rWrap
  rw [res_indices] <;> rfl
theorem res_call3 : (res_main_call3_v5 V0 : IVec S4096x4x8x1 32) = rWrap 256#32 (rTop (vD2 V0)) := by
  unfold res_main_call3_v5 rWrap
  rw [res_indices_11] <;> rfl
theorem res_v90 : (res_main_v90 V0 : FVec Ideal S4096x4x64 .f32) = Host.negf (rProd (vD1 V0) (vD2 V0)) := by
  unfold res_main_v90 rProd rMul rTake rIn rNear
  rw [res_call2, res_call3, res_v37, res_v51] <;> rfl
theorem res_indices_15 : (res_main_indices_15 V0 : IVec S4096x4x8 32) = rTop64 (rProd (vD1 V0) (vD2 V0)) := by
  unfold res_main_indices_15 rTop64
  rw [res_v90] <;> rfl
theorem res_call4 : (res_main_call4_v5 V0 : IVec S4096x4x8x1 32) = rWrap 64#32 (rTop64 (rProd (vD1 V0) (vD2 V0))) := by
  unfold res_main_call4_v5 rWrap
  rw [res_indices_15] <;> rfl
theorem res_call5 : (res_main_call5_v5 V0 : IVec S4096x4x8x1 32) = rWrap 64#32 (rTop64 (rProd (vD1 V0) (vD2 V0))) := by
  unfold res_main_call5_v5 rWrap
  rw [res_indices_15] <;> rfl
theorem res_v92 : (res_main_v92 V0 : FVec Ideal S4096x4x8 .f32) = rScore (vD1 V0) (vD2 V0) := by
  unfold res_main_v92 rScore rTake64 rAdd rTake rIn rLog rNear
  rw [res_call5, res_call0, res_call1, res_v37, res_v51] <;> rfl
theorem res_v99 : (res_main_v99 V0 : FVec Ideal S4096x4x8 .f32) = rExp (rScore (vD1 V0) (vD2 V0)) := by
  unfold res_main_v99 rExp
  rw [res_v92] <;> rfl

/-- The reference's two results, as it prints them, are its layers put together. -/
theorem rows_term : (transpose S32x4096 [1, 0] (shapeCast _ (addi (muli (select (Host.reduce IntOp.andi (andi (cmpi .sge (res_main_call4_v5 V0) (broadcastInDim S4096x4x8x1 ![] bcast_S_S4096x4x8x1 (constantI S_ 32 0#32))) (cmpi .sle (res_main_call4_v5 V0) (broadcastInDim S4096x4x8x1 ![0, 1, 2, 3] bcast_S1x1x1x1_S4096x4x8x1_0_1_2_3 (broadcastInDim S1x1x1x1 ![3] bcast_S1_S1x1x1x1_3 (constantI S1 32 63#32))))) (constantI S_ 1 1#1) reducesTo_S4096x4x8x1_S4096x4x8_d3 h_S_) (Host.gather gather_S4096x4x64_S4096x4x8x1_S4096x4x8_n_2_01_01_2_3_111 (shapeCast _ (addi (broadcastInDim S4096x4x8x8 ![0, 1, 2, 3] bcast_S4096x4x8x1_S4096x4x8x8_0_1_2_3 (muli (broadcastInDim S4096x4x8x1 ![0, 1, 2] bcast_S4096x4x8_S4096x4x8x1_0_1_2 (res_main_indices V0)) (broadcastInDim S4096x4x8x1 ![] bcast_S_S4096x4x8x1 (constantI S_ 32 256#32)))) (broadcastInDim S4096x4x8x8 ![0, 1, 2, 3] bcast_S4096x4x1x8_S4096x4x8x8_0_1_2_3 (broadcastInDim S4096x4x1x8 ![0, 1, 3] bcast_S4096x4x8_S4096x4x1x8_0_1_3 (res_main_indices_11 V0)))) shapeCasts_S4096x4x8x8_S4096x4x64) (res_main_call4_v5 V0)) (broadcastInDim S4096x4x8 ![] bcast_S_S4096x4x8 (constantI S_ 32 2147483648#32))) (broadcastInDim S4096x4x8 ![] bcast_S_S4096x4x8 (constantI S_ 32 4#32))) (broadcastInDim S4096x4x8 ![0, 1, 2] bcast_S1x4x1_S4096x4x8_0_1_2 (shapeCast _ (iotaInDim S4 32 0) shapeCasts_S4_S1x4x1))) shapeCasts_S4096x4x8_S4096x32) transposes_S4096x32_S32x4096_1_0 : IVec S32x4096 32)

      = rRows (rPair (vD1 V0) (vD2 V0)) := by
  unfold rRows rPair rTake64 rWord rIn
  rw [res_call4, res_indices, res_indices_11] <;> rfl
theorem weights_term : (transpose S32x4096 [1, 0] (shapeCast _ (Host.divf (res_main_v99 V0) (broadcastInDim S4096x4x8 ![0, 1, 2] bcast_S4096x4x1_S4096x4x8_0_1_2 (broadcastInDim S4096x4x1 ![0, 1] bcast_S4096x4_S4096x4x1_0_1 (Host.reduceAdd (res_main_v99 V0) (constant S_ .f32 0x00000000#32) reducesTo_S4096x4x8_S4096x4_d2 h_S_)))) shapeCasts_S4096x4x8_S4096x32) transposes_S4096x32_S32x4096_1_0 : FVec Ideal S32x4096 .f32)

      = rWeights (rScore (vD1 V0) (vD2 V0)) := by
  unfold rWeights
  rw [res_v99] <;> rfl

end Terms

end Cert.Proof.SelectRef

end
-- ==== Proof.SelectClaims.lean ====
/-
  The selection call's claims: its frames at both float instances and its reference's, the named constant, and its two results
  equal to the reference's, both read as the token's functions of `SelectSpec`.
-/
module

public import proofs.«01_k».proof.Defs
public import proofs.«01_k».proof.Proof.Gen.Select
public import proofs.«01_k».proof.Proof.Gen.Select.Frame
public import proofs.«01_k».proof.Proof.Gen.SelectIdeal.Value
public import proofs.«01_k».proof.Proof.SelectRef
public import Idealize.ShloMosaic.Adequacy
public import Idealize.ShloMosaic.Init

@[expose] public section

noncomputable section

namespace Cert.Proof.SelectClaims

open Idealize.ShloMosaic Idealize.SL.Sem Cert.Proof.SelectFinite Cert.Proof.SelectRef Cert.Proof.SelectTile

attribute [local instance] Cert.Select.Gen.facts Cert.SelectIdeal.Gen.facts Cert.SelectReferenceIdeal.Gen.facts Cert.Pre_finite.Gen.facts

theorem frame_bits : Cert.quiescent_Select := fun m ρ _ => Cert.Select.Gen.frame (F := Bits) m ρ

theorem frame_ideal : Cert.quiescent_SelectIdeal := fun m ρ _ => Cert.SelectIdeal.Gen.frame (F := Ideal) m ρ

theorem frame_reference : Cert.quiescent_SelectReferenceIdeal := fun m ρ _ =>
  (θ_run Cert.SelectReferenceIdeal.defs _ _).mono (fun r h => ⟨fun c => (h c).2.2, sem_eq_zero_of_no_sems (by decide) r.2⟩)
    (Cert.SelectReferenceIdeal.Value.run (F := Ideal) m ρ)

theorem preserves : Cert.preserves_Select_SelectIdeal :=
  IdealRules.named_const.statement Cert.SelectIdeal.κ "big" .f32 0x7F61B1E6#32 ⊤ rfl

variable (m : (ℓ : Loc Cert.SelectIdeal.nD Cert.SelectIdeal.τ Cert.SelectIdeal.sig) → Buf (Elt Ideal) ℓ)
  (m' : (ℓ : Loc Cert.SelectReferenceIdeal.nD Cert.SelectReferenceIdeal.τ Cert.SelectReferenceIdeal.sig) → Buf (Elt Ideal) ℓ) (c : Dev Cert.SelectIdeal.nD)

/-- The reference's distances are the kernel's where their arguments agree. -/
theorem dists_eq
    (h0 : m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0))
    (h1 : m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1))
    (h2 : m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2))
    (h3 : m' ((c.tc : Thread Cert.SelectReferenceIdeal.nD Cert.SelectReferenceIdeal.τ).loc Cert.SelectReferenceIdeal.main_arg3) = m ((c.tc : Thread Cert.SelectIdeal.nD Cert.SelectIdeal.τ).loc Cert.SelectIdeal.main_arg3)) :
    (∀ n h a, vD1 (StableHlo.launchContents m' c) (ix3 n h a) = dist1 m c n h a) ∧ ∀ n h a, vD2 (StableHlo.launchContents m' c) (ix3 n h a) = dist2 m c n h a := by
  refine ⟨fun n h a => (rD1_apply _ _ _ _ n h a).trans ?_, fun n h a => (rD2_apply _ _ _ _ n h a).trans ?_⟩
  · rw [dist1_eq, ← h0, ← h1, ← h2, ← h3]
  · rw [dist2_eq, ← h0, ← h1, ← h2, ← h3]

/-- The kernel's distances are numbers under the precondition. -/
theorem num_dists (hpre : Cert.Pre_SelectIdeal_finite m) : (∀ n h a, Num (dist1 m c n h a)) ∧ ∀ n h a, Num (dist2 m c n h a) := by
  obtain ⟨hK, hW, hg⟩ := num_args _ _ _ _ (hpre c)
  exact ⟨fun n h a => (dist1_eq m c n h a).symm ▸ num_tokDist hK hW hg _ _ _ _ _, fun n h a => (dist2_eq m c n h a).symm ▸ num_tokDist hK hW hg _ _ _ _ _⟩

theorem algebraic : Cert.algebraic_SelectIdeal_SelectReferenceIdeal_pre_finite := by
  intro m ρ m' ρ' hpre hagree
  refine ⟨fun c => rowArr m c, fun c => weightArr m c, ?_, ?_⟩
  · refine (θ_run Cert.SelectIdeal.defs _ _).mono (fun _ h c => ?_) (Cert.SelectIdeal.Value.run_blocks (F := Ideal) m ρ)
    obtain ⟨n1, n2⟩ := num_dists m c hpre
    have f5 := final5 m c (fun n h a => (n1 n h a).ne_top) fun n h a => (n2 n h a).ne_top
    have f6 := final6 m c (fun n h a => (n1 n h a).ne_top) fun n h a => (n2 n h a).ne_top
    exact ⟨(h c).1.trans f5, (h c).2.1.trans f6, (h c).2.2⟩
  · refine (θ_run Cert.SelectReferenceIdeal.defs _ _).mono (fun _ h c => ?_) (Cert.SelectReferenceIdeal.Value.run (F := Ideal) m' ρ')
    obtain ⟨n1, n2⟩ := num_dists m c hpre
    obtain ⟨a0, a1, a2, a3⟩ := hagree c
    obtain ⟨e1, e2⟩ := dists_eq m m' c a0 a1 a2 a3
    have d1 : ∀ n h a, Num (vD1 (StableHlo.launchContents m' c) (ix3 n h a)) := fun n h a => (e1 n h a).symm ▸ n1 n h a
    have d2 : ∀ n h a, Num (vD2 (StableHlo.launchContents m' c) (ix3 n h a)) := fun n h a => (e2 n h a).symm ▸ n2 n h a
    refine ⟨((h c).1.trans (rows_term _)).trans ?_, ((h c).2.1.trans (weights_term _)).trans ?_, (h c).2.2⟩
    · funext y
      obtain ⟨s, n, rfl⟩ : ∃ (s : Fin 32) (n : Fin 4096), y = ix2 s n := ⟨y 0, y 1, by funext a; match a with | 0 => rfl | 1 => rfl⟩
      refine (rRows_pair _ _ d1 d2 n s).trans ?_
      rw [funext fun a => e1 n (hd s) a, funext fun a => e2 n (hd s) a]
      rfl
    · funext y
      obtain ⟨s, n, rfl⟩ : ∃ (s : Fin 32) (n : Fin 4096), y = ix2 s n := ⟨y 0, y 1, by funext a; match a with | 0 => rfl | 1 => rfl⟩
      refine (rWeights_score _ _ d1 d2 n s).trans ?_
      rw [funext fun a => e1 n (hd s) a, funext fun a => e2 n (hd s) a]
      rfl

end Cert.Proof.SelectClaims

end
-- ==== Proof.lean ====
/-
  The certificate's claim: the frames of the kernel at both float instances and of the reference, and the kernel's result equal
  to the reference's. The kernel's run is Proof/IdealRun.lean's and Proof/BitsRun.lean's; its result is read at a token in
  Proof/Result.lean and the reference's in Proof/RefValue.lean, both as the function `Spec.tokens` of the arguments. The claims
  of the selection call are Proof/SelectClaims.lean's.
-/
module

public import proofs.«01_k».proof.Proof.Gen.Select
public import proofs.«01_k».proof.Proof.Gen.Select.Frame
public import proofs.«01_k».proof.Proof.Gen.Pre_finite
public import proofs.«01_k».proof.Proof.Gen.SelectIdeal
public import proofs.«01_k».proof.Proof.Gen.SelectIdeal.Value
public import proofs.«01_k».proof.Proof.Gen.SelectReferenceIdeal
public import proofs.«01_k».proof.Proof.Gen.SelectReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_rows_exist
public import proofs.«01_k».proof.Proof.Gen.ReferenceIdeal.Run
public import proofs.«01_k».proof.Proof.BitsRun
public import proofs.«01_k».proof.Proof.Result
public import proofs.«01_k».proof.Proof.RefValue
public import proofs.«01_k».proof.Proof.SelectClaims
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_rows_exist.Gen.facts

theorem frame_bits : Cert.quiescent_Kernel := fun m ρ hpre =>
  (θ_run Cert.Kernel.defs _ _).mono (fun _ h => ⟨fun c => ⟨h.arg m c _ (by decide), h.arg m c _ (by decide), h.arg m c _ (by decide), h.arg m c _ (by decide), h.arg m c _ (by decide),
    h.arg m c _ (by decide), h.arg m c _ (by decide), h.arg m c _ (by decide), h.arg m c _ (by decide), h.arg m c _ (by decide)⟩, h.2⟩)
    (Kernel.Run.run_main (F := Bits) m ρ fun d => Rows.rows_lt (F := Bits) _ _ _ _ _ _ _ _ _ _ (hpre d))

theorem frame_ideal : Cert.quiescent_KernelIdeal := fun m ρ hpre =>
  (θ_run Cert.KernelIdeal.defs _ _).mono (fun _ h => ⟨fun c => ⟨h.arg m c _ (by decide), h.arg m c _ (by decide), h.arg m c _ (by decide), h.arg m c _ (by decide), h.arg m c _ (by decide),
    h.arg m c _ (by decide), h.arg m c _ (by decide), h.arg m c _ (by decide), h.arg m c _ (by decide), h.arg m c _ (by decide)⟩, h.2⟩)
    (KernelIdeal.Run.run_main (F := Ideal) m ρ fun d => Rows.rows_lt (F := Ideal) _ _ _ _ _ _ _ _ _ _ (hpre d))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result at a device where its arguments are the kernel's and the indices name rows. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hok : KernelIdeal.Run.PreOK (F := Ideal) m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Value.res_main_v77 m' c : Cert.ReferenceIdeal.S4096x1024.Idx → EReal)
      = KernelIdeal.Run.W6 m c (Proc.devRef .tc Cert.KernelIdeal.main_v9) := by
  funext y
  obtain ⟨n, e, rfl⟩ : ∃ (n : Fin 4096) (e : Fin 1024), y = ix2 n e := ⟨y 0, y 1, by funext a; match a with | 0 => rfl | 1 => rfl⟩
  rw [RefValue.res_eq, h0, h1, h2, h3, h4, h5, h6, h7, h8, h9]
  exact (RefValue.term_apply _ _ _ _ _ _ _ _ _ _ (hok c) n e).trans (Value.result_apply m c n e).symm

theorem algebraic : Cert.algebraic_KernelIdeal_ReferenceIdeal := by
  intro m ρ m' ρ' hpre hagree
  have hok : KernelIdeal.Run.PreOK (F := Ideal) m := fun d => Rows.rows_lt (F := Ideal) _ _ _ _ _ _ _ _ _ _ (hpre d)
  refine ⟨fun c => KernelIdeal.Run.W6 m c (Proc.devRef .tc Cert.KernelIdeal.main_v9), ?_, ?_⟩
  · exact (θ_run Cert.KernelIdeal.defs _ _).mono (fun _ h c => ⟨h.1 c _ (KernelIdeal.Run.mem_uc _ (by decide)), h.arg m c _ (by decide), h.arg m c _ (by decide), h.arg m c _ (by decide), h.arg m c _ (by decide), h.arg m c _ (by decide),
    h.arg m c _ (by decide), h.arg m c _ (by decide), h.arg m c _ (by decide), h.arg m c _ (by decide), h.arg m c _ (by decide)⟩)
      (KernelIdeal.Run.run_main (F := Ideal) m ρ hok)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8, h9⟩ := hagree c
    exact result_eq m m' c hok h0 h1 h2 h3 h4 h5 h6 h7 h8 h9

theorem claim : Cert.Claim := ⟨Cert.Kernel.Gen.facts, Cert.KernelIdeal.Gen.facts, Cert.ReferenceIdeal.Gen.facts, Cert.Select.Gen.facts, Cert.SelectIdeal.Gen.facts,
  Cert.SelectReferenceIdeal.Gen.facts, Cert.Pre_rows_exist.Gen.facts, Cert.Pre_finite.Gen.facts,
  frame_bits, frame_ideal, frame_reference, fun m ρ _ => frame_reference m ρ trivial,
  SelectClaims.frame_bits, SelectClaims.frame_ideal, fun m ρ _ => SelectClaims.frame_ideal m ρ trivial,
  SelectClaims.frame_reference, fun m ρ _ => SelectClaims.frame_reference m ρ trivial, trivial, algebraic, SelectClaims.preserves, SelectClaims.algebraic⟩

end Cert.Proof

end
